-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S32x2x1024 : Shape := ⟨3, ![32, 2, 1024]⟩
abbrev S2x1024 : Shape := ⟨2, ![2, 1024]⟩
abbrev S2x1024x2048 : Shape := ⟨3, ![2, 1024, 2048]⟩
abbrev S2x2048x1024 : Shape := ⟨3, ![2, 2048, 1024]⟩
abbrev S2 : Shape := ⟨1, ![2]⟩
abbrev S32 : Shape := ⟨1, ![32]⟩
abbrev S_ : Shape := ⟨0, ![]⟩
abbrev S1 : Shape := ⟨1, ![1]⟩
abbrev S1x1024x2048 : Shape := ⟨3, ![1, 1024, 2048]⟩
abbrev S1x2048x1024 : Shape := ⟨3, ![1, 2048, 1024]⟩
abbrev S64x2048 : Shape := ⟨2, ![64, 2048]⟩
abbrev S1x2x1024 : Shape := ⟨3, ![1, 2, 1024]⟩
abbrev S8x2x1024 : Shape := ⟨3, ![8, 2, 1024]⟩
abbrev S16x1024 : Shape := ⟨2, ![16, 1024]⟩

abbrev nBuf : Space → Nat
  | .hbm => 8
  | .vmem => 10
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S32x2x1024, .bf16⟩
  | .local _ .vmem, ⟨3, _⟩ => ⟨S32x2x1024, .bf16⟩
  | .local _ .vmem, ⟨4, _⟩ => ⟨S2x1024, .bf16⟩
  | .local _ .vmem, ⟨5, _⟩ => ⟨S32x2x1024, .bf16⟩
  | .local _ .vmem, ⟨6, _⟩ => ⟨S1024x2048, .f32⟩
  | .local _ .vmem, ⟨7, _⟩ => ⟨S2048x1024, .f32⟩
  | .local _ .vmem, ⟨8, _⟩ => ⟨S2x1024x2048, .bf16⟩
  | .local _ .vmem, ⟨9, _⟩ => ⟨S2x2048x1024, .bf16⟩
  | _, _ => ⟨S64x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c1_i32_0 : BitVec 32 := 1#32
  let c31_i32 : BitVec 32 := 31#32
  let v4 : BitVec 32 := Scalar.addi c1_i32_0 c31_i32
  let c1_i32_1 : BitVec 32 := 1#32
  ⟨c1_i32_0, v4, c1_i32_1⟩
def k0_dev1 (d0 : Dev nD) (k0_t1 : Fin k0_t1_loop.trips) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let c1_i32_1 : BitVec 32 := 1#32
  let arg21 : BitVec 32 := Scf.iv c1_i32_0 c1_i32_1 k0_t1
  let v294 : BitVec 32 := Scalar.addi v2 arg21
  let c32_i32_246 : BitVec 32 := 32#32
  let v295 : BitVec 32 := Scalar.remsi v294 c32_i32_246
  let c1_i32_248 : BitVec 32 := 1#32
  let v296 : BitVec 32 := Scalar.muli v295 c1_i32_248
  let v297 : BitVec 32 := Scalar.addi c0_i32_249 v296
  v297.toNat
@[reducible] def k0_t2_loop : Scf.Loop 32 :=
  let c1_i32_31 : BitVec 32 := 1#32
  let c31_i32_32 : BitVec 32 := 31#32
  let v44 : BitVec 32 := Scalar.addi c1_i32_31 c31_i32_32
  let c1_i32_33 : BitVec 32 := 1#32
  ⟨c1_i32_31, v44, c1_i32_33⟩
def k0_off1 (d0 : Dev nD) (k0_t2 : Fin k0_t2_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_31 : BitVec 32 := 1#32
  let c1_i32_33 : BitVec 32 := 1#32
  let arg21 : BitVec 32 := Scf.iv c1_i32_31 c1_i32_33 k0_t2
  let v294 : BitVec 32 := Scalar.addi v2 arg21
  let c32_i32_246 : BitVec 32 := 32#32
  let v295 : BitVec 32 := Scalar.remsi v294 c32_i32_246
  ![v295.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_249 : BitVec 32 := 0#32
  let c0_i32_250 : BitVec 32 := 0#32
  ![v2.toNat, 0, 0]
def k0_off4 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_31 : BitVec 32 := 1#32
  let c1_i32_33 : BitVec 32 := 1#32
  let arg21 : BitVec 32 := Scf.iv c1_i32_31 c1_i32_33 k0_t2
  let v294 : BitVec 32 := Scalar.addi v2 arg21
  let c32_i32_246 : BitVec 32 := 32#32
  let v295 : BitVec 32 := Scalar.remsi v294 c32_i32_246
  let c0_i32_251 : BitVec 32 := 0#32
  let c0_i32_252 : BitVec 32 := 0#32
  ![v295.toNat, 0, 0]
def k0_dev2 (d0 : Dev nD) (k0_t2 : Fin k0_t2_loop.trips) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_31 : BitVec 32 := 1#32
  let c1_i32_33 : BitVec 32 := 1#32
  let arg21 : BitVec 32 := Scf.iv c1_i32_31 c1_i32_33 k0_t2
  let v294 : BitVec 32 := Scalar.addi v2 arg21
  let c32_i32_246 : BitVec 32 := 32#32
  let v295 : BitVec 32 := Scalar.remsi v294 c32_i32_246
  let c1_i32_247 : BitVec 32 := 1#32
  let v296 : BitVec 32 := Scalar.muli v295 c1_i32_247
  let v297 : BitVec 32 := Scalar.addi c0_i32_248 v296
  v297.toNat
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v45 : Index := Scalar.indexCast v2
  let c0_35 : Index := 0#32
  let c0_36 : Index := 0#32
  ![v45.toNat, 0, 0]
@[reducible] def k0_t3_loop : Scf.Loop 32 :=
  let c1_i32_45 : BitVec 32 := 1#32
  let c31_i32_46 : BitVec 32 := 31#32
  let v60 : BitVec 32 := Scalar.addi c1_i32_45 c31_i32_46
  let c1_i32_47 : BitVec 32 := 1#32
  ⟨c1_i32_45, v60, c1_i32_47⟩
def k0_off6 (d0 : Dev nD) (k0_t3 : Fin k0_t3_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_45 : BitVec 32 := 1#32
  let c1_i32_47 : BitVec 32 := 1#32
  let arg21 : BitVec 32 := Scf.iv c1_i32_45 c1_i32_47 k0_t3
  let v294 : BitVec 32 := Scalar.addi v2 arg21
  let c32_i32_246 : BitVec 32 := 32#32
  let v295 : BitVec 32 := Scalar.remsi v294 c32_i32_246
  ![v295.toNat]
def k0_off7 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_45 : BitVec 32 := 1#32
  let c1_i32_47 : BitVec 32 := 1#32
  let arg21 : BitVec 32 := Scf.iv c1_i32_45 c1_i32_47 k0_t3
  let v294 : BitVec 32 := Scalar.addi v2 arg21
  let c32_i32_246 : BitVec 32 := 32#32
  let v295 : BitVec 32 := Scalar.remsi v294 c32_i32_246
  let c0_i32_249 : BitVec 32 := 0#32
  let c0_i32_250 : BitVec 32 := 0#32
  ![v295.toNat, 0, 0]
@[reducible] def k0_t4_loop : Scf.Loop 32 :=
  let c1_i32_59 : BitVec 32 := 1#32
  let c31_i32_60 : BitVec 32 := 31#32
  let v74 : BitVec 32 := Scalar.addi c1_i32_59 c31_i32_60
  let c1_i32_61 : BitVec 32 := 1#32
  ⟨c1_i32_59, v74, c1_i32_61⟩
def k0_off8 (d0 : Dev nD) (k0_t4 : Fin k0_t4_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_59 : BitVec 32 := 1#32
  let c1_i32_61 : BitVec 32 := 1#32
  let arg21 : BitVec 32 := Scf.iv c1_i32_59 c1_i32_61 k0_t4
  let v294 : BitVec 32 := Scalar.addi v2 arg21
  let c32_i32_246 : BitVec 32 := 32#32
  let v295 : BitVec 32 := Scalar.remsi v294 c32_i32_246
  ![v295.toNat]
def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_249 : BitVec 32 := 0#32
  let c0_i32_250 : BitVec 32 := 0#32
  ![v2.toNat, 0, 0]
def k0_dev3 (d0 : Dev nD) (k0_t4 : Fin k0_t4_loop.trips) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_59 : BitVec 32 := 1#32
  let c1_i32_61 : BitVec 32 := 1#32
  let arg21 : BitVec 32 := Scf.iv c1_i32_59 c1_i32_61 k0_t4
  let v294 : BitVec 32 := Scalar.addi v2 arg21
  let c32_i32_246 : BitVec 32 := 32#32
  let v295 : BitVec 32 := Scalar.remsi v294 c32_i32_246
  let c1_i32_247 : BitVec 32 := 1#32
  let v296 : BitVec 32 := Scalar.muli v295 c1_i32_247
  let v297 : BitVec 32 := Scalar.addi c0_i32_248 v296
  v297.toNat
@[reducible] def k0_t5_loop : Scf.Loop 32 :=
  let c1_i32_63 : BitVec 32 := 1#32
  let c31_i32_64 : BitVec 32 := 31#32
  let v75 : BitVec 32 := Scalar.addi c1_i32_63 c31_i32_64
  let c1_i32_65 : BitVec 32 := 1#32
  ⟨c1_i32_63, v75, c1_i32_65⟩
def k0_off11 (d0 : Dev nD) (k0_t5 : Fin k0_t5_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_63 : BitVec 32 := 1#32
  let c1_i32_65 : BitVec 32 := 1#32
  let arg21 : BitVec 32 := Scf.iv c1_i32_63 c1_i32_65 k0_t5
  let v294 : BitVec 32 := Scalar.addi v2 arg21
  let c32_i32_246 : BitVec 32 := 32#32
  let v295 : BitVec 32 := Scalar.remsi v294 c32_i32_246
  ![v295.toNat]
def k0_off12 (d0 : Dev nD) (k0_t5 : Fin k0_t5_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_63 : BitVec 32 := 1#32
  let c1_i32_65 : BitVec 32 := 1#32
  let arg21 : BitVec 32 := Scf.iv c1_i32_63 c1_i32_65 k0_t5
  let v294 : BitVec 32 := Scalar.addi v2 arg21
  let c32_i32_246 : BitVec 32 := 32#32
  let v295 : BitVec 32 := Scalar.remsi v294 c32_i32_246
  let c0_i32_248 : BitVec 32 := 0#32
  let c0_i32_249 : BitVec 32 := 0#32
  ![v295.toNat, 0, 0]
def k0_off13 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_250 : BitVec 32 := 0#32
  let c0_i32_251 : BitVec 32 := 0#32
  ![v2.toNat, 0, 0]
@[reducible] def k0_t6_loop : Scf.Loop 32 :=
  let c1_i32_74 : BitVec 32 := 1#32
  let c31_i32_75 : BitVec 32 := 31#32
  let v85 : BitVec 32 := Scalar.addi c1_i32_74 c31_i32_75
  let c1_i32_76 : BitVec 32 := 1#32
  ⟨c1_i32_74, v85, c1_i32_76⟩
def k0_off14 (d0 : Dev nD) (k0_t6 : Fin k0_t6_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_74 : BitVec 32 := 1#32
  let c1_i32_76 : BitVec 32 := 1#32
  let arg21 : BitVec 32 := Scf.iv c1_i32_74 c1_i32_76 k0_t6
  let v294 : BitVec 32 := Scalar.addi v2 arg21
  let c32_i32_246 : BitVec 32 := 32#32
  let v295 : BitVec 32 := Scalar.remsi v294 c32_i32_246
  ![v295.toNat]
def k0_off15 (d0 : Dev nD) (k0_t6 : Fin k0_t6_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_74 : BitVec 32 := 1#32
  let c1_i32_76 : BitVec 32 := 1#32
  let arg21 : BitVec 32 := Scf.iv c1_i32_74 c1_i32_76 k0_t6
  let v294 : BitVec 32 := Scalar.addi v2 arg21
  let c32_i32_246 : BitVec 32 := 32#32
  let v295 : BitVec 32 := Scalar.remsi v294 c32_i32_246
  let c0_i32_249 : BitVec 32 := 0#32
  let c0_i32_250 : BitVec 32 := 0#32
  ![v295.toNat, 0, 0]
@[reducible] def k0_t7_loop : Scf.Loop 32 :=
  let c1_i32_78 : BitVec 32 := 1#32
  let c31_i32_79 : BitVec 32 := 31#32
  let v86 : BitVec 32 := Scalar.addi c1_i32_78 c31_i32_79
  let c1_i32_80 : BitVec 32 := 1#32
  ⟨c1_i32_78, v86, c1_i32_80⟩
def k0_off16 (d0 : Dev nD) (k0_t7 : Fin k0_t7_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_78 : BitVec 32 := 1#32
  let c1_i32_80 : BitVec 32 := 1#32
  let arg21 : BitVec 32 := Scf.iv c1_i32_78 c1_i32_80 k0_t7
  let v294 : BitVec 32 := Scalar.addi v2 arg21
  let c32_i32_246 : BitVec 32 := 32#32
  let v295 : BitVec 32 := Scalar.remsi v294 c32_i32_246
  ![v295.toNat]
def k0_off17 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_248 : BitVec 32 := 0#32
  let c0_i32_249 : BitVec 32 := 0#32
  ![v2.toNat, 0, 0]
@[reducible] def k0_t8_loop : Scf.Loop 32 :=
  let c1_i32_97 : BitVec 32 := 1#32
  let c31_i32_98 : BitVec 32 := 31#32
  let v103 : BitVec 32 := Scalar.addi c1_i32_97 c31_i32_98
  let c1_i32_99 : BitVec 32 := 1#32
  ⟨c1_i32_97, v103, c1_i32_99⟩
def k0_off18 (d0 : Dev nD) (k0_t8 : Fin k0_t8_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_97 : BitVec 32 := 1#32
  let c1_i32_99 : BitVec 32 := 1#32
  let arg21 : BitVec 32 := Scf.iv c1_i32_97 c1_i32_99 k0_t8
  let v294 : BitVec 32 := Scalar.addi v2 arg21
  let c32_i32_246 : BitVec 32 := 32#32
  let v295 : BitVec 32 := Scalar.remsi v294 c32_i32_246
  ![v295.toNat]
def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_249 : BitVec 32 := 0#32
  let c0_i32_250 : BitVec 32 := 0#32
  ![v2.toNat, 0, 0]
def k0_off21 (d0 : Dev nD) (k0_t8 : Fin k0_t8_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_97 : BitVec 32 := 1#32
  let c1_i32_99 : BitVec 32 := 1#32
  let arg21 : BitVec 32 := Scf.iv c1_i32_97 c1_i32_99 k0_t8
  let v294 : BitVec 32 := Scalar.addi v2 arg21
  let c32_i32_246 : BitVec 32 := 32#32
  let v295 : BitVec 32 := Scalar.remsi v294 c32_i32_246
  let c0_i32_251 : BitVec 32 := 0#32
  let c0_i32_252 : BitVec 32 := 0#32
  ![v295.toNat, 0, 0]
def k0_dev4 (d0 : Dev nD) (k0_t8 : Fin k0_t8_loop.trips) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_97 : BitVec 32 := 1#32
  let c1_i32_99 : BitVec 32 := 1#32
  let arg21 : BitVec 32 := Scf.iv c1_i32_97 c1_i32_99 k0_t8
  let v294 : BitVec 32 := Scalar.addi v2 arg21
  let c32_i32_246 : BitVec 32 := 32#32
  let v295 : BitVec 32 := Scalar.remsi v294 c32_i32_246
  let c1_i32_247 : BitVec 32 := 1#32
  let v296 : BitVec 32 := Scalar.muli v295 c1_i32_247
  let v297 : BitVec 32 := Scalar.addi c0_i32_248 v296
  v297.toNat
@[reducible] def k0_t9_loop : Scf.Loop 32 :=
  let c1_i32_111 : BitVec 32 := 1#32
  let c31_i32_112 : BitVec 32 := 31#32
  let v117 : BitVec 32 := Scalar.addi c1_i32_111 c31_i32_112
  let c1_i32_113 : BitVec 32 := 1#32
  ⟨c1_i32_111, v117, c1_i32_113⟩
def k0_off22 (d0 : Dev nD) (k0_t9 : Fin k0_t9_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_111 : BitVec 32 := 1#32
  let c1_i32_113 : BitVec 32 := 1#32
  let arg21 : BitVec 32 := Scf.iv c1_i32_111 c1_i32_113 k0_t9
  let v294 : BitVec 32 := Scalar.addi v2 arg21
  let c32_i32_246 : BitVec 32 := 32#32
  let v295 : BitVec 32 := Scalar.remsi v294 c32_i32_246
  ![v295.toNat]
def k0_off23 (d0 : Dev nD) (k0_t9 : Fin k0_t9_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_111 : BitVec 32 := 1#32
  let c1_i32_113 : BitVec 32 := 1#32
  let arg21 : BitVec 32 := Scf.iv c1_i32_111 c1_i32_113 k0_t9
  let v294 : BitVec 32 := Scalar.addi v2 arg21
  let c32_i32_246 : BitVec 32 := 32#32
  let v295 : BitVec 32 := Scalar.remsi v294 c32_i32_246
  let c0_i32_249 : BitVec 32 := 0#32
  let c0_i32_250 : BitVec 32 := 0#32
  ![v295.toNat, 0, 0]
@[reducible] def k0_t10_loop : Scf.Loop 32 :=
  let c1_i32_125 : BitVec 32 := 1#32
  let c31_i32_126 : BitVec 32 := 31#32
  let v131 : BitVec 32 := Scalar.addi c1_i32_125 c31_i32_126
  let c1_i32_127 : BitVec 32 := 1#32
  ⟨c1_i32_125, v131, c1_i32_127⟩
def k0_off24 (d0 : Dev nD) (k0_t10 : Fin k0_t10_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_125 : BitVec 32 := 1#32
  let c1_i32_127 : BitVec 32 := 1#32
  let arg21 : BitVec 32 := Scf.iv c1_i32_125 c1_i32_127 k0_t10
  let v294 : BitVec 32 := Scalar.addi v2 arg21
  let c32_i32_246 : BitVec 32 := 32#32
  let v295 : BitVec 32 := Scalar.remsi v294 c32_i32_246
  ![v295.toNat]
def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_249 : BitVec 32 := 0#32
  let c0_i32_250 : BitVec 32 := 0#32
  ![v2.toNat, 0, 0]
def k0_dev5 (d0 : Dev nD) (k0_t10 : Fin k0_t10_loop.trips) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_125 : BitVec 32 := 1#32
  let c1_i32_127 : BitVec 32 := 1#32
  let arg21 : BitVec 32 := Scf.iv c1_i32_125 c1_i32_127 k0_t10
  let v294 : BitVec 32 := Scalar.addi v2 arg21
  let c32_i32_246 : BitVec 32 := 32#32
  let v295 : BitVec 32 := Scalar.remsi v294 c32_i32_246
  let c1_i32_247 : BitVec 32 := 1#32
  let v296 : BitVec 32 := Scalar.muli v295 c1_i32_247
  let v297 : BitVec 32 := Scalar.addi c0_i32_248 v296
  v297.toNat
@[reducible] def k0_t11_loop : Scf.Loop 32 :=
  let c1_i32_129 : BitVec 32 := 1#32
  let c31_i32_130 : BitVec 32 := 31#32
  let v132 : BitVec 32 := Scalar.addi c1_i32_129 c31_i32_130
  let c1_i32_131 : BitVec 32 := 1#32
  ⟨c1_i32_129, v132, c1_i32_131⟩
def k0_off27 (d0 : Dev nD) (k0_t11 : Fin k0_t11_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_129 : BitVec 32 := 1#32
  let c1_i32_131 : BitVec 32 := 1#32
  let arg21 : BitVec 32 := Scf.iv c1_i32_129 c1_i32_131 k0_t11
  let v294 : BitVec 32 := Scalar.addi v2 arg21
  let c32_i32_246 : BitVec 32 := 32#32
  let v295 : BitVec 32 := Scalar.remsi v294 c32_i32_246
  ![v295.toNat]
def k0_off28 (d0 : Dev nD) (k0_t11 : Fin k0_t11_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_129 : BitVec 32 := 1#32
  let c1_i32_131 : BitVec 32 := 1#32
  let arg21 : BitVec 32 := Scf.iv c1_i32_129 c1_i32_131 k0_t11
  let v294 : BitVec 32 := Scalar.addi v2 arg21
  let c32_i32_246 : BitVec 32 := 32#32
  let v295 : BitVec 32 := Scalar.remsi v294 c32_i32_246
  let c0_i32_248 : BitVec 32 := 0#32
  let c0_i32_249 : BitVec 32 := 0#32
  ![v295.toNat, 0, 0]
def k0_off29 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_250 : BitVec 32 := 0#32
  let c0_i32_251 : BitVec 32 := 0#32
  ![v2.toNat, 0, 0]
@[reducible] def k0_t12_loop : Scf.Loop 32 :=
  let c1_i32_139 : BitVec 32 := 1#32
  let c31_i32_140 : BitVec 32 := 31#32
  let v140 : BitVec 32 := Scalar.addi c1_i32_139 c31_i32_140
  let c1_i32_141 : BitVec 32 := 1#32
  ⟨c1_i32_139, v140, c1_i32_141⟩
def k0_off30 (d0 : Dev nD) (k0_t12 : Fin k0_t12_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_139 : BitVec 32 := 1#32
  let c1_i32_141 : BitVec 32 := 1#32
  let arg21 : BitVec 32 := Scf.iv c1_i32_139 c1_i32_141 k0_t12
  let v294 : BitVec 32 := Scalar.addi v2 arg21
  let c32_i32_246 : BitVec 32 := 32#32
  let v295 : BitVec 32 := Scalar.remsi v294 c32_i32_246
  ![v295.toNat]
def k0_off31 (d0 : Dev nD) (k0_t12 : Fin k0_t12_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_139 : BitVec 32 := 1#32
  let c1_i32_141 : BitVec 32 := 1#32
  let arg21 : BitVec 32 := Scf.iv c1_i32_139 c1_i32_141 k0_t12
  let v294 : BitVec 32 := Scalar.addi v2 arg21
  let c32_i32_246 : BitVec 32 := 32#32
  let v295 : BitVec 32 := Scalar.remsi v294 c32_i32_246
  let c0_i32_249 : BitVec 32 := 0#32
  let c0_i32_250 : BitVec 32 := 0#32
  ![v295.toNat, 0, 0]
@[reducible] def k0_t13_loop : Scf.Loop 32 :=
  let c1_i32_143 : BitVec 32 := 1#32
  let c31_i32_144 : BitVec 32 := 31#32
  let v141 : BitVec 32 := Scalar.addi c1_i32_143 c31_i32_144
  let c1_i32_145 : BitVec 32 := 1#32
  ⟨c1_i32_143, v141, c1_i32_145⟩
def k0_off32 (d0 : Dev nD) (k0_t13 : Fin k0_t13_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_143 : BitVec 32 := 1#32
  let c1_i32_145 : BitVec 32 := 1#32
  let arg21 : BitVec 32 := Scf.iv c1_i32_143 c1_i32_145 k0_t13
  let v294 : BitVec 32 := Scalar.addi v2 arg21
  let c32_i32_246 : BitVec 32 := 32#32
  let v295 : BitVec 32 := Scalar.remsi v294 c32_i32_246
  ![v295.toNat]
def k0_off33 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_248 : BitVec 32 := 0#32
  let c0_i32_249 : BitVec 32 := 0#32
  ![v2.toNat, 0, 0]
@[reducible] def k0_t14_loop : Scf.Loop 32 :=
  let c1_i32_162 : BitVec 32 := 1#32
  let c31_i32_163 : BitVec 32 := 31#32
  let v158 : BitVec 32 := Scalar.addi c1_i32_162 c31_i32_163
  let c1_i32_164 : BitVec 32 := 1#32
  ⟨c1_i32_162, v158, c1_i32_164⟩
def k0_off34 (d0 : Dev nD) (k0_t14 : Fin k0_t14_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_162 : BitVec 32 := 1#32
  let c1_i32_164 : BitVec 32 := 1#32
  let arg21 : BitVec 32 := Scf.iv c1_i32_162 c1_i32_164 k0_t14
  let v294 : BitVec 32 := Scalar.addi v2 arg21
  let c32_i32_246 : BitVec 32 := 32#32
  let v295 : BitVec 32 := Scalar.remsi v294 c32_i32_246
  ![v295.toNat]
def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_249 : BitVec 32 := 0#32
  let c0_i32_250 : BitVec 32 := 0#32
  ![v2.toNat, 0, 0]
def k0_off37 (d0 : Dev nD) (k0_t14 : Fin k0_t14_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_162 : BitVec 32 := 1#32
  let c1_i32_164 : BitVec 32 := 1#32
  let arg21 : BitVec 32 := Scf.iv c1_i32_162 c1_i32_164 k0_t14
  let v294 : BitVec 32 := Scalar.addi v2 arg21
  let c32_i32_246 : BitVec 32 := 32#32
  let v295 : BitVec 32 := Scalar.remsi v294 c32_i32_246
  let c0_i32_251 : BitVec 32 := 0#32
  let c0_i32_252 : BitVec 32 := 0#32
  ![v295.toNat, 0, 0]
def k0_dev6 (d0 : Dev nD) (k0_t14 : Fin k0_t14_loop.trips) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_162 : BitVec 32 := 1#32
  let c1_i32_164 : BitVec 32 := 1#32
  let arg21 : BitVec 32 := Scf.iv c1_i32_162 c1_i32_164 k0_t14
  let v294 : BitVec 32 := Scalar.addi v2 arg21
  let c32_i32_246 : BitVec 32 := 32#32
  let v295 : BitVec 32 := Scalar.remsi v294 c32_i32_246
  let c1_i32_247 : BitVec 32 := 1#32
  let v296 : BitVec 32 := Scalar.muli v295 c1_i32_247
  let v297 : BitVec 32 := Scalar.addi c0_i32_248 v296
  v297.toNat
@[reducible] def k0_t15_loop : Scf.Loop 32 :=
  let c1_i32_170 : BitVec 32 := 1#32
  let c31_i32_171 : BitVec 32 := 31#32
  let v165 : BitVec 32 := Scalar.addi c1_i32_170 c31_i32_171
  let c1_i32_172 : BitVec 32 := 1#32
  ⟨c1_i32_170, v165, c1_i32_172⟩
def k0_off38 (d0 : Dev nD) (k0_t15 : Fin k0_t15_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_170 : BitVec 32 := 1#32
  let c1_i32_172 : BitVec 32 := 1#32
  let arg21 : BitVec 32 := Scf.iv c1_i32_170 c1_i32_172 k0_t15
  let v294 : BitVec 32 := Scalar.addi v2 arg21
  let c32_i32_246 : BitVec 32 := 32#32
  let v295 : BitVec 32 := Scalar.remsi v294 c32_i32_246
  ![v295.toNat]
def k0_off39 (d0 : Dev nD) (k0_t15 : Fin k0_t15_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_170 : BitVec 32 := 1#32
  let c1_i32_172 : BitVec 32 := 1#32
  let arg21 : BitVec 32 := Scf.iv c1_i32_170 c1_i32_172 k0_t15
  let v294 : BitVec 32 := Scalar.addi v2 arg21
  let c32_i32_246 : BitVec 32 := 32#32
  let v295 : BitVec 32 := Scalar.remsi v294 c32_i32_246
  let c0_i32_249 : BitVec 32 := 0#32
  let c0_i32_250 : BitVec 32 := 0#32
  ![v295.toNat, 0, 0]
@[reducible] def k0_t16_loop : Scf.Loop 32 :=
  let c1_i32_184 : BitVec 32 := 1#32
  let c31_i32_185 : BitVec 32 := 31#32
  let v179 : BitVec 32 := Scalar.addi c1_i32_184 c31_i32_185
  let c1_i32_186 : BitVec 32 := 1#32
  ⟨c1_i32_184, v179, c1_i32_186⟩
def k0_off40 (d0 : Dev nD) (k0_t16 : Fin k0_t16_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_184 : BitVec 32 := 1#32
  let c1_i32_186 : BitVec 32 := 1#32
  let arg21 : BitVec 32 := Scf.iv c1_i32_184 c1_i32_186 k0_t16
  let v294 : BitVec 32 := Scalar.addi v2 arg21
  let c32_i32_246 : BitVec 32 := 32#32
  let v295 : BitVec 32 := Scalar.remsi v294 c32_i32_246
  ![v295.toNat]
def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_249 : BitVec 32 := 0#32
  let c0_i32_250 : BitVec 32 := 0#32
  ![v2.toNat, 0, 0]
def k0_dev7 (d0 : Dev nD) (k0_t16 : Fin k0_t16_loop.trips) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_184 : BitVec 32 := 1#32
  let c1_i32_186 : BitVec 32 := 1#32
  let arg21 : BitVec 32 := Scf.iv c1_i32_184 c1_i32_186 k0_t16
  let v294 : BitVec 32 := Scalar.addi v2 arg21
  let c32_i32_246 : BitVec 32 := 32#32
  let v295 : BitVec 32 := Scalar.remsi v294 c32_i32_246
  let c1_i32_247 : BitVec 32 := 1#32
  let v296 : BitVec 32 := Scalar.muli v295 c1_i32_247
  let v297 : BitVec 32 := Scalar.addi c0_i32_248 v296
  v297.toNat
@[reducible] def k0_t17_loop : Scf.Loop 32 :=
  let c1_i32_188 : BitVec 32 := 1#32
  let c31_i32_189 : BitVec 32 := 31#32
  let v180 : BitVec 32 := Scalar.addi c1_i32_188 c31_i32_189
  let c1_i32_190 : BitVec 32 := 1#32
  ⟨c1_i32_188, v180, c1_i32_190⟩
def k0_off43 (d0 : Dev nD) (k0_t17 : Fin k0_t17_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_188 : BitVec 32 := 1#32
  let c1_i32_190 : BitVec 32 := 1#32
  let arg21 : BitVec 32 := Scf.iv c1_i32_188 c1_i32_190 k0_t17
  let v294 : BitVec 32 := Scalar.addi v2 arg21
  let c32_i32_246 : BitVec 32 := 32#32
  let v295 : BitVec 32 := Scalar.remsi v294 c32_i32_246
  ![v295.toNat]
def k0_off44 (d0 : Dev nD) (k0_t17 : Fin k0_t17_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_188 : BitVec 32 := 1#32
  let c1_i32_190 : BitVec 32 := 1#32
  let arg21 : BitVec 32 := Scf.iv c1_i32_188 c1_i32_190 k0_t17
  let v294 : BitVec 32 := Scalar.addi v2 arg21
  let c32_i32_246 : BitVec 32 := 32#32
  let v295 : BitVec 32 := Scalar.remsi v294 c32_i32_246
  let c0_i32_248 : BitVec 32 := 0#32
  let c0_i32_249 : BitVec 32 := 0#32
  ![v295.toNat, 0, 0]
def k0_off45 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_250 : BitVec 32 := 0#32
  let c0_i32_251 : BitVec 32 := 0#32
  ![v2.toNat, 0, 0]
@[reducible] def k0_t18_loop : Scf.Loop 32 :=
  let c1_i32_242 : BitVec 32 := 1#32
  let c31_i32_243 : BitVec 32 := 31#32
  let v293 : BitVec 32 := Scalar.addi c1_i32_242 c31_i32_243
  let c1_i32_244 : BitVec 32 := 1#32
  ⟨c1_i32_242, v293, c1_i32_244⟩
def k0_off46 (d0 : Dev nD) (k0_t18 : Fin k0_t18_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_242 : BitVec 32 := 1#32
  let c1_i32_244 : BitVec 32 := 1#32
  let arg21 : BitVec 32 := Scf.iv c1_i32_242 c1_i32_244 k0_t18
  let v294 : BitVec 32 := Scalar.addi v2 arg21
  let c32_i32_246 : BitVec 32 := 32#32
  let v295 : BitVec 32 := Scalar.remsi v294 c32_i32_246
  ![v295.toNat]
def k0_off47 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_248 : BitVec 32 := 0#32
  let c0_i32_249 : BitVec 32 := 0#32
  ![v2.toNat, 0, 0]
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x1024 : Shape := ⟨2, ![64, 1024]⟩
abbrev S1024x65536 : Shape := ⟨2, ![1024, 65536]⟩
abbrev S65536x1024 : Shape := ⟨2, ![65536, 1024]⟩
abbrev S64x65536 : Shape := ⟨2, ![64, 65536]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x65536, .f32⟩
  | .hbm, ⟨2, _⟩ => ⟨S65536x1024, .f32⟩
  | .hbm, ⟨3, _⟩ => ⟨S1024x65536, .f32⟩
  | .hbm, ⟨4, _⟩ => ⟨S65536x1024, .f32⟩
  | .hbm, ⟨5, _⟩ => ⟨S1024x65536, .f32⟩
  | .hbm, ⟨6, _⟩ => ⟨S65536x1024, .f32⟩
  | .hbm, ⟨7, _⟩ => ⟨S64x65536, .f32⟩
  | .hbm, ⟨8, _⟩ => ⟨S_, .f32⟩
  | .hbm, ⟨9, _⟩ => ⟨S64x65536, .f32⟩
  | .hbm, ⟨10, _⟩ => ⟨S64x65536, .f32⟩
  | .hbm, ⟨11, _⟩ => ⟨S64x1024, .f32⟩
  | .hbm, ⟨12, _⟩ => ⟨S64x65536, .f32⟩
  | .hbm, ⟨13, _⟩ => ⟨S_, .f32⟩
  | .hbm, ⟨14, _⟩ => ⟨S64x65536, .f32⟩
  | .hbm, ⟨15, _⟩ => ⟨S64x65536, .f32⟩
  | .hbm, ⟨16, _⟩ => ⟨S64x1024, .f32⟩
  | .hbm, ⟨17, _⟩ => ⟨S64x65536, .f32⟩
  | .hbm, ⟨18, _⟩ => ⟨S_, .f32⟩
  | .hbm, ⟨19, _⟩ => ⟨S64x65536, .f32⟩
  | .hbm, ⟨20, _⟩ => ⟨S64x65536, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Slots.lean ====
/-
# `Slots` — the kernel's buffers of thirty-two slots, its semaphores by index, its loops' offsets in closed form

The program is `KernelIdeal` at any float values `F`. Three of its buffers have 32 slots of 2×1024 (the
partial products, the received partials, the activations), one slot per device. This module states what a slot is
(`sl p`), that the slots of a buffer are disjoint and cover it, where the program's slot views read and write, which
semaphore each of its semaphore expressions names, and what the printed offset chains of its loops compute: at trip
`k` on device `c` the peer is device `(c + k + 1) % 32` (`pr c k`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Peers -/

/-- The peer device `c` addresses at trip `k` of its loops. -/
def pr (c : Dev nD) (k : ℕ) : Dev nD := ⟨(c.val + k + 1) % 32, Nat.mod_lt _ (by decide)⟩

/-- Every device but `c`. -/
abbrev PE (c : Dev nD) : Finset (Dev nD) := Finset.univ.erase c

theorem dev_lt (c : Dev nD) : c.val < 32 := c.isLt

theorem pr_ne (c : Dev nD) {k : ℕ} (hk : k < 31) : pr c k ≠ c := by
  intro h
  have := congrArg Fin.val h
  have hc := dev_lt c
  simp only [pr] at this
  omega

theorem pr_mem (c : Dev nD) {k : ℕ} (hk : k < 31) : pr c k ∈ PE c := Finset.mem_erase.mpr ⟨pr_ne c hk, Finset.mem_univ _⟩

theorem pr_injOn (c : Dev nD) {k k' : ℕ} (hk : k < 31) (hk' : k' < 31) (h : pr c k = pr c k') : k = k' := by
  have := congrArg Fin.val h
  have hc := dev_lt c
  simp only [pr] at this
  omega

/-- The trip at which `c` addresses `p`. -/
def trip (c p : Dev nD) : ℕ := (p.val + 31 - c.val) % 32

theorem trip_lt {c p : Dev nD} (h : p ≠ c) : trip c p < 31 := by
  have hc := dev_lt c
  have hp := dev_lt p
  have : p.val ≠ c.val := fun e => h (Fin.ext e)
  simp only [trip]
  omega

theorem pr_trip {c p : Dev nD} (h : p ≠ c) : pr c (trip c p) = p := by
  have hc := dev_lt c
  have hp := dev_lt p
  have : p.val ≠ c.val := fun e => h (Fin.ext e)
  refine Fin.ext ?_
  simp only [trip, pr]
  omega

theorem trip_pr (c : Dev nD) {k : ℕ} (hk : k < 31) : trip c (pr c k) = k :=
  pr_injOn c (trip_lt (pr_ne c hk)) hk (pr_trip (pr_ne c hk))

/-- The peers over the trips are the other devices, each once. -/
theorem image_pr (c : Dev nD) : (Finset.range 31).image (pr c) = PE c := by
  ext p
  simp only [Finset.mem_image, Finset.mem_range, Finset.mem_erase, Finset.mem_univ, and_true]
  constructor
  · rintro ⟨k, hk, rfl⟩; exact pr_ne c hk
  · intro h; exact ⟨trip c p, trip_lt h, pr_trip h⟩

/-- A family over the other devices, trip by trip. -/
theorem bigSep_peers {M : Type} [URA M] (c : Dev nD) (Φ : Dev nD → sProp M) :
    bigSep (PE c) Φ = bigSep (Finset.range 31) fun k => Φ (pr c k) := by
  rw [← image_pr c]
  exact bigSep_image_of_injOn (M := M) (fun a ha b hb h =>
    pr_injOn c (Finset.mem_range.mp (Finset.mem_coe.mp ha)) (Finset.mem_range.mp (Finset.mem_coe.mp hb)) h) Φ

/-! ## Slots -/

/-- The elements of slot `p` of a buffer of 32 slots. -/
def sl (p : Dev nD) : Finset S32x2x1024.Idx := Finset.univ.filter fun i => (i 0).val = p.val

theorem mem_sl {p : Dev nD} {i : S32x2x1024.Idx} : i ∈ sl p ↔ (i 0).val = p.val := by simp only [sl, Finset.mem_filter, Finset.mem_univ, true_and]

theorem sl_disjoint {p q : Dev nD} (h : p ≠ q) : Disjoint (sl p) (sl q) :=
  Finset.disjoint_left.mpr fun i hi hj => h (Fin.ext ((mem_sl.mp hi).symm.trans (mem_sl.mp hj)))

/-- An index of slot `p`. -/
abbrev six (p : Dev nD) (j : S2x1024.Idx) : S32x2x1024.Idx := ix3 (n0 := 32) (n1 := 2) (n2 := 1024) p (j 0) (j 1)
/-- An index of a buffer of slots, inside its slot. -/
abbrev inSlot (i : S32x2x1024.Idx) : S2x1024.Idx := ix2 (n0 := 2) (n1 := 1024) (i 1) (i 2)
/-- The slot an index is in. -/
abbrev slotOf (i : S32x2x1024.Idx) : Dev nD := (i 0 : Fin 32)

theorem six_inSlot (i : S32x2x1024.Idx) : six (slotOf i) (inSlot i) = i := by
  funext a; match a with
  | ⟨0, _⟩ => rfl
  | ⟨1, _⟩ => rfl
  | ⟨2, _⟩ => rfl

theorem slotOf_of_mem {p : Dev nD} {i : S32x2x1024.Idx} (h : i ∈ sl p) : slotOf i = p := Fin.ext (mem_sl.mp h)
theorem six_mem (p : Dev nD) (j : S2x1024.Idx) : six p j ∈ sl p := mem_sl.mpr rfl

theorem unit_slot_set {off : Fin 3 → ℕ} {p : Dev nD} (ho : off = ![p.val, 0, 0])
    (inb : ∀ a, off a + S1x2x1024.size a ≤ S32x2x1024.size a) :
    (Rect.unit (s := S32x2x1024) off S1x2x1024.size inb).set = sl p := by
  subst ho
  ext i
  rw [Rect.mem_set_unit, mem_sl]
  constructor
  · intro h
    have h0 := h 0
    have e0 : (![p.val, 0, 0] : Fin 3 → ℕ) 0 = p.val := rfl
    have e1 : S1x2x1024.size 0 = 1 := rfl
    rw [e0, e1] at h0
    omega
  · intro h a
    match a with
    | ⟨0, _⟩ =>
      show p.val ≤ (i 0).val ∧ (i 0).val < p.val + 1
      omega
    | ⟨1, _⟩ =>
      have : (i 1).val < 2 := (i 1).isLt
      show 0 ≤ (i 1).val ∧ (i 1).val < 0 + 2
      omega
    | ⟨2, _⟩ =>
      have : (i 2).val < 1024 := (i 2).isLt
      show 0 ≤ (i 2).val ∧ (i 2).val < 0 + 1024
      omega

/-- Where a slot view sends an index. -/
theorem unit_slot_emb {off : Fin 3 → ℕ} {p : Dev nD} (ho : off = ![p.val, 0, 0])
    (inb : ∀ a, off a + S1x2x1024.size a ≤ S32x2x1024.size a) (j : S2x1024.Idx) :
    (Rect.unit (s := S32x2x1024) off S1x2x1024.size inb).emb (Shape.reshapeEquiv squeezes_S1x2x1024_S2x1024.numel_eq j) = six p j := by
  subst ho
  have hj : Shape.reshapeEquiv squeezes_S1x2x1024_S2x1024.numel_eq j = ix3 (⟨0, Nat.one_pos⟩ : Fin 1) (j 0) (j 1) := by
    conv_lhs => rw [eq_ix2 (n0 := 2) (n1 := 1024) j]
    exact reshapeEquiv_ix2_1ab _ _ _
  rw [hj]
  funext a; match a with
  | ⟨0, _⟩ => exact Fin.ext (show p.val + 1 * 0 = p.val by omega)
  | ⟨1, _⟩ => exact Fin.ext (show 0 + 1 * (j 0).val = (j 0).val by omega)
  | ⟨2, _⟩ => exact Fin.ext (show 0 + 1 * (j 1).val = (j 1).val by omega)

/-- Where a slot rectangle sends an index. -/
theorem unit_slot_emb3 {off : Fin 3 → ℕ} {p : Dev nD} (ho : off = ![p.val, 0, 0])
    (inb : ∀ a, off a + S1x2x1024.size a ≤ S32x2x1024.size a) (j : S1x2x1024.Idx) :
    (Rect.unit (s := S32x2x1024) off S1x2x1024.size inb).emb j = six p (ix2 (n0 := 2) (n1 := 1024) (j 1) (j 2)) := by
  subst ho
  have h0 : (j 0).val < 1 := (j 0).isLt
  funext a; match a with
  | ⟨0, _⟩ => exact Fin.ext (show p.val + 1 * (j 0).val = p.val by omega)
  | ⟨1, _⟩ => exact Fin.ext (show 0 + 1 * (j 1).val = (j 1).val by omega)
  | ⟨2, _⟩ => exact Fin.ext (show 0 + 1 * (j 2).val = (j 2).val by omega)

/-! ## The buffers -/

abbrev xM : Memref sig .tc .vmem S64x1024 .f32 := Memref.whole cc0_stg0_0
abbrev oM : Memref sig .tc .vmem S64x1024 .f32 := Memref.whole cc0_stg1_0
abbrev pbM : Memref sig .tc .vmem S32x2x1024 .bf16 := Memref.whole cc0_scratch0
abbrev rsM : Memref sig .tc .vmem S32x2x1024 .bf16 := Memref.whole cc0_scratch1
abbrev rdM : Memref sig .tc .vmem S2x1024 .bf16 := Memref.whole cc0_scratch2
abbrev xcM : Memref sig .tc .vmem S32x2x1024 .bf16 := Memref.whole cc0_scratch3
abbrev wiM : Memref sig .tc .vmem S1024x2048 .f32 := Memref.whole cc0_scratch4
abbrev woM : Memref sig .tc .vmem S2048x1024 .f32 := Memref.whole cc0_scratch5
abbrev wibM : Memref sig .tc .vmem S2x1024x2048 .bf16 := Memref.whole cc0_scratch6
abbrev wobM : Memref sig .tc .vmem S2x2048x1024 .bf16 := Memref.whole cc0_scratch7

/-- The program's view of one slot of a buffer of slots. -/
abbrev slotV (M : Memref sig .tc .vmem S32x2x1024 .bf16) (off : Fin 3 → ℕ)
    (inb : ∀ a, off a + S1x2x1024.size a ≤ S32x2x1024.size a) : Memref sig .tc .vmem S2x1024 .bf16 :=
  (M.slice (Rect.unit (s := S32x2x1024) off S1x2x1024.size inb) (fun _ => rfl)).squeeze S2x1024 squeezes_S1x2x1024_S2x1024

/-! ## The semaphores -/

/-- Semaphore `p` of the array of 32 laid from `4 + 32 a`: `a = 0` completes a partial's departure, `1` its arrival,
    `2` an activation's departure, `3` its arrival. -/
def fsem (a : Fin 4) (p : Dev nD) : DmaSem sig := ⟨4 + 32 * a.val + p.val, by have := a.isLt; have := dev_lt p; show _ < 132; omega⟩
/-- The two load semaphores. -/
def lsem (i : Fin 2) : DmaSem sig := ⟨2 + i.val, by have := i.isLt; show _ < 132; omega⟩
/-- The runtime's barrier semaphore. -/
abbrev barS : Sem sig := (SemArray.scalar (sig.barrier 0 rfl) : Sems sig S_).sem

theorem arr32_sem {base : ℕ} (h : base + S32.numel ≤ 132) {off : Fin 1 → ℕ} {p : Dev nD} (ho : off = ![p.val])
    (inb : ∀ a, off a + S1.size a ≤ S32.size a) :
    (((SemArray.consecutive base S32 h).slice (Rect.unit (s := S32) off S1.size inb)).squeeze S_ squeezes_S1_S_).sem.val = base + p.val := by
  subst ho
  show base + (S32.rowMajor _).val = _
  rw [Shape.rowMajor_val_one]
  refine congrArg (base + ·) (?_ : p.val + 1 * (Shape.reshapeEquiv _ _ (0 : Fin S1.rank)).val = p.val)
  rw [Nat.lt_one_iff.mp (Fin.isLt (Shape.reshapeEquiv squeezes_S1_S_.numel_eq (fun i => i.elim0) (0 : Fin S1.rank)))]
  rfl

theorem arr2_sem {base : ℕ} (h : base + S2.numel ≤ 132) {off : Fin 1 → ℕ} {p : Fin 2} (ho : off = ![p.val])
    (inb : ∀ a, off a + S1.size a ≤ S2.size a) :
    (((SemArray.consecutive base S2 h).slice (Rect.unit (s := S2) off S1.size inb)).squeeze S_ squeezes_S1_S_).sem.val = base + p.val := by
  subst ho
  show base + (S2.rowMajor _).val = _
  rw [Shape.rowMajor_val_one]
  refine congrArg (base + ·) (?_ : p.val + 1 * (Shape.reshapeEquiv _ _ (0 : Fin S1.rank)).val = p.val)
  rw [Nat.lt_one_iff.mp (Fin.isLt (Shape.reshapeEquiv squeezes_S1_S_.numel_eq (fun i => i.elim0) (0 : Fin S1.rank)))]
  rfl

section Sems
variable {off : Fin 1 → ℕ} {p : Dev nD} (ho : off = ![p.val]) (inb : ∀ a, off a + S1.size a ≤ S32.size a)
include ho
/-- The semaphore each of the program's four arrays names at an offset. -/
theorem sem9 : ((cc0_scratch9.slice (Rect.unit (s := S32) off S1.size inb)).squeeze S_ squeezes_S1_S_).sem = fsem 0 p :=
  Fin.ext (arr32_sem _ ho inb)
theorem sem10 : ((cc0_scratch10.slice (Rect.unit (s := S32) off S1.size inb)).squeeze S_ squeezes_S1_S_).sem = fsem 1 p :=
  Fin.ext (arr32_sem _ ho inb)
theorem sem11 : ((cc0_scratch11.slice (Rect.unit (s := S32) off S1.size inb)).squeeze S_ squeezes_S1_S_).sem = fsem 2 p :=
  Fin.ext (arr32_sem _ ho inb)
theorem sem12 : ((cc0_scratch12.slice (Rect.unit (s := S32) off S1.size inb)).squeeze S_ squeezes_S1_S_).sem = fsem 3 p :=
  Fin.ext (arr32_sem _ ho inb)
end Sems

/-- The load semaphore the program names at an offset. -/
theorem sem8 {off : Fin 1 → ℕ} {p : Fin 2} (ho : off = ![p.val]) (inb : ∀ a, off a + S1.size a ≤ S2.size a) :
    ((cc0_scratch8.slice (Rect.unit (s := S2) off S1.size inb)).squeeze S_ squeezes_S1_S_).sem = lsem p :=
  Fin.ext (arr2_sem _ ho inb)

/-! ## The printed offsets -/

/-- The device's own index, as the program computes it. -/
theorem my_word (c : Dev nD) : (Scalar.remsi (Scalar.divsi (Dev.word c) 1#32) 32#32).toNat = c.val := by
  revert c; decide +kernel

/-- The index of the peer at a trip, as the loops compute it. -/
theorem peer_word (c : Dev nD) {k : ℕ} (hk : k < 31) :
    (Scalar.remsi (Scalar.addi (Scalar.remsi (Scalar.divsi (Dev.word c) 1#32) 32#32) (Scf.iv 1#32 1#32 k)) 32#32).toNat = (pr c k).val := by
  have h : ∀ (c : Dev nD) (k : Fin 31),
      (Scalar.remsi (Scalar.addi (Scalar.remsi (Scalar.divsi (Dev.word c) 1#32) 32#32) (Scf.iv 1#32 1#32 k.val)) 32#32).toNat
        = (pr c k.val).val := by decide +kernel
  exact h c ⟨k, hk⟩

/-- The id of the peer's device, as the loops compute it. -/
theorem dev_word (c : Dev nD) {k : ℕ} (hk : k < 31) :
    (Scalar.addi 0#32 (Scalar.muli (Scalar.remsi (Scalar.addi (Scalar.remsi (Scalar.divsi (Dev.word c) 1#32) 32#32) (Scf.iv 1#32 1#32 k)) 32#32) 1#32)).toNat
      = (pr c k).val := by
  have h : ∀ (c : Dev nD) (k : Fin 31),
      (Scalar.addi 0#32 (Scalar.muli (Scalar.remsi (Scalar.addi (Scalar.remsi (Scalar.divsi (Dev.word c) 1#32) 32#32) (Scf.iv 1#32 1#32 k.val)) 32#32) 1#32)).toNat
        = (pr c k.val).val := by decide +kernel
  exact h c ⟨k, hk⟩

/-- The offset of a slot, and of a semaphore, as the program writes them. -/
abbrev off3 (p : Dev nD) : Fin 3 → ℕ := ![p.val, 0, 0]
abbrev off1 (p : Dev nD) : Fin 1 → ℕ := ![p.val]

theorem my_off1 (c : Dev nD) : ![(Scalar.remsi (Scalar.divsi (Dev.word c) 1#32) 32#32).toNat] = off1 c := by rw [my_word]
theorem my_off3 (c : Dev nD) : ![(Scalar.remsi (Scalar.divsi (Dev.word c) 1#32) 32#32).toNat, 0, 0] = off3 c := by rw [my_word]
theorem peer_off1 (c : Dev nD) {k : ℕ} (hk : k < 31) :
    ![(Scalar.remsi (Scalar.addi (Scalar.remsi (Scalar.divsi (Dev.word c) 1#32) 32#32) (Scf.iv 1#32 1#32 k)) 32#32).toNat] = off1 (pr c k) := by
  rw [peer_word c hk]
theorem peer_off3 (c : Dev nD) {k : ℕ} (hk : k < 31) :
    ![(Scalar.remsi (Scalar.addi (Scalar.remsi (Scalar.divsi (Dev.word c) 1#32) 32#32) (Scf.iv 1#32 1#32 k)) 32#32).toNat, 0, 0] = off3 (pr c k) := by
  rw [peer_word c hk]

theorem trips31 : Scf.trips (1#32) (Scalar.addi 1#32 31#32) 1#32 = 31 := by decide +kernel
theorem off5_eq (c : Dev nD) : k0_off5 c = off3 c := my_off3 c
theorem off4_eq (c : Dev nD) (k : Fin k0_t2_loop.trips) : k0_off4 c k = off3 (pr c k) := peer_off3 c (trips31 ▸ k.isLt)
theorem dev2_eq (c : Dev nD) (k : Fin k0_t2_loop.trips) : k0_dev2 c k = (pr c k).val := dev_word c (trips31 ▸ k.isLt)

end Cert.MlpProof

end
-- ==== Proof.Protocol.lean ====
/-
# `Protocol` — what the thirty-two devices hold, and what each signal and transfer hands over

Three layers; each layer scatters partial products (device `c` sends slot `p` of its partial to device `p`), reduces the
32 partials received, and gathers the reduced slots (device `c` sends its 2×1024 result to every other device). The
buffers' contents at each layer are functions of the memory at launch (`PART`, `RSB`, `RED`, `XC`); the semaphore cells'
schedule (`ringRd`) says, per layer, what each completed transfer or signal delivers to the core that waits for it;
the levels (`lv`) order the waits: a core waits on a cell only while what it still owes lies above it.
-/
module

public import proofs.«01_k».proof.Proof.Slots
public import Idealize.ShloMosaic.Lib.Transfers
public import Mathlib.Algebra.BigOperators.Intervals

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

/-! ## The resource algebra: the pipeline library's copy and the exchange's, whose duties are named by devices -/

abbrev UB : Type := URounds (GSem nD τ sig) (Dev nD)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## Contents -/

/-- Device `c`'s copy of `x`, as the launch stages it. -/
def xstg (c : Dev nD) : Vec F S64x1024 .f32 :=
  (win0_0.blk (0 : Fin 1)).view.read (Elt F) (m ((c : Thread nD τ).loc main_arg0))

/-- Device `c`'s block of layer `r`'s first and second weight. -/
def win (r : ℕ) (c : Dev nD) : Vec F S1024x2048 .f32 :=
  match r with
  | 0 => m ((c : Thread nD τ).loc main_arg1)
  | 1 => m ((c : Thread nD τ).loc main_arg3)
  | _ => m ((c : Thread nD τ).loc main_arg5)
def wout (r : ℕ) (c : Dev nD) : Vec F S2048x1024 .f32 :=
  match r with
  | 0 => m ((c : Thread nD τ).loc main_arg2)
  | 1 => m ((c : Thread nD τ).loc main_arg4)
  | _ => m ((c : Thread nD τ).loc main_arg6)

/-- Those blocks as the matrix unit reads them. -/
def wbin (r : ℕ) (c : Dev nD) : Vec F S1x1024x2048 .bf16 := k0_pay2 (win m r c)
def wbout (r : ℕ) (c : Dev nD) : Vec F S1x2048x1024 .bf16 := k0_pay3 (wout m r c)

/-- The partials device `c` gathers in its 32 slots when device `p` holds `P p`: slot `p` is `p`'s slot `c`. -/
def rsOf (P : Dev nD → Vec F S32x2x1024 .bf16) (c : Dev nD) : Vec F S32x2x1024 .bf16 :=
  fun i => P (slotOf i) (six c (inSlot i))
/-- Their sum over the slots. -/
def redOf (P : Dev nD → Vec F S32x2x1024 .bf16) (c : Dev nD) : Vec F S2x1024 .bf16 := k0_pay8 (rsOf P c)
/-- The activations every device then holds: slot `p` is device `p`'s sum. -/
def xcOf (P : Dev nD → Vec F S32x2x1024 .bf16) : Vec F S32x2x1024 .bf16 := fun i => redOf P (slotOf i) (inSlot i)

/-- Device `c`'s partial product at layer `r`. -/
def PART : ℕ → Dev nD → Vec F S32x2x1024 .bf16
  | 0 => fun c => k0_pay4 (k0_pay1 (xstg m c)) (wbin m 0 c) (wbout m 0 c)
  | r + 1 => fun c => k0_pay11 (xcOf (PART r)) (wbin m (r + 1) c) (wbout m (r + 1) c)

/-- What layer `r` leaves in device `c`'s buffer of received partials, its reduced slot, and every device's activations. -/
def RSB (r : ℕ) (c : Dev nD) : Vec F S32x2x1024 .bf16 := rsOf (PART m r) c
def RED (r : ℕ) (c : Dev nD) : Vec F S2x1024 .bf16 := redOf (PART m r) c
def XC (r : ℕ) : Vec F S32x2x1024 .bf16 := xcOf (PART m r)

theorem PART_succ (r : ℕ) (c : Dev nD) : PART m (r + 1) c = k0_pay11 (XC m r) (wbin m (r + 1) c) (wbout m (r + 1) c) := rfl
theorem RED_eq (r : ℕ) (c : Dev nD) : RED m r c = k0_pay8 (RSB m r c) := rfl
theorem RSB_six (r : ℕ) (c p : Dev nD) (j : S2x1024.Idx) : RSB m r c (six p j) = PART m r p (six c j) :=
  congrArg (fun k => PART m r p (six c k)) (funext fun a => by match a with | ⟨0, _⟩ => rfl | ⟨1, _⟩ => rfl)
theorem XC_six (r : ℕ) (p : Dev nD) (j : S2x1024.Idx) : XC m r (six p j) = RED m r p j :=
  congrArg (RED m r p) (funext fun a => by match a with | ⟨0, _⟩ => rfl | ⟨1, _⟩ => rfl)

/-! ## The cells -/

/-- Cell `a`, `p` of device `c` (`fsem`), its load cells, its barrier cell. -/
abbrev fcell (a : Fin 4) (c p : Dev nD) : GSem nD τ sig := ((c : Thread nD τ), .dma (fsem a p))
abbrev lcell (i : Fin 2) (c : Dev nD) : GSem nD τ sig := ((c : Thread nD τ), .dma (lsem i))
abbrev barCell (c : Dev nD) : GSem nD τ sig := ((c : Thread nD τ), .reg barS)

/-- The credit of a slot's transfer, and of the two weights'. -/
abbrev N : ℕ := (rdM).view.dmaCredit
abbrev NI : ℕ := (wiM).view.dmaCredit
abbrev NO : ℕ := (woM).view.dmaCredit
theorem N_pos : 0 < N := View.dmaCredit_pos _ (by decide)
theorem NI_pos : 0 < NI := View.dmaCredit_pos _ (by decide)
theorem NO_pos : 0 < NO := View.dmaCredit_pos _ (by decide)

/-- Slot `p` of device `c`'s partial product, received partials and activations, held whole at contents `f`. -/
def pb (c p : Dev nD) (f : Vec F S32x2x1024 .bf16) : sProp 𝕄 := ((c : Thread nD τ).loc cc0_scratch0) ↦[sl p]{fullShare} f
def rs (c p : Dev nD) (f : Vec F S32x2x1024 .bf16) : sProp 𝕄 := ((c : Thread nD τ).loc cc0_scratch1) ↦[sl p]{fullShare} f
def xc (c p : Dev nD) (f : Vec F S32x2x1024 .bf16) : sProp 𝕄 := ((c : Thread nD τ).loc cc0_scratch3) ↦[sl p]{fullShare} f
/-- Device `c`'s reduced slot at share `q`. -/
def rd (c : Dev nD) (q : PosShare TreeShare) (f : Vec F S2x1024 .bf16) : sProp 𝕄 := ((c : Thread nD τ).loc cc0_scratch2) ↦{q} f
/-- Device `c`'s staging buffers of the weights, and its reads of the weights in HBM. -/
def wi (c : Dev nD) (f : Vec F S1024x2048 .f32) : sProp 𝕄 := ((c : Thread nD τ).loc cc0_scratch4) ↦{fullShare} f
def wo (c : Dev nD) (f : Vec F S2048x1024 .f32) : sProp 𝕄 := ((c : Thread nD τ).loc cc0_scratch5) ↦{fullShare} f
def inArg (r : ℕ) (c : Dev nD) : sProp 𝕄 :=
  match r with
  | 0 => ((c : Thread nD τ).loc main_arg1) ↦{fullShare} m ((c : Thread nD τ).loc main_arg1)
  | 1 => ((c : Thread nD τ).loc main_arg3) ↦{fullShare} m ((c : Thread nD τ).loc main_arg3)
  | _ => ((c : Thread nD τ).loc main_arg5) ↦{fullShare} m ((c : Thread nD τ).loc main_arg5)
def outArg (r : ℕ) (c : Dev nD) : sProp 𝕄 :=
  match r with
  | 0 => ((c : Thread nD τ).loc main_arg2) ↦{fullShare} m ((c : Thread nD τ).loc main_arg2)
  | 1 => ((c : Thread nD τ).loc main_arg4) ↦{fullShare} m ((c : Thread nD τ).loc main_arg4)
  | _ => ((c : Thread nD τ).loc main_arg6) ↦{fullShare} m ((c : Thread nD τ).loc main_arg6)

omit [FloatOps F] in
instance pb_storable (c p : Dev nD) (f) : BI.Storable (upEmb : UEmb _ 𝕄) (pb (F := F) c p f) := by unfold pb; infer_instance
omit [FloatOps F] in
instance rs_storable (c p : Dev nD) (f) : BI.Storable (upEmb : UEmb _ 𝕄) (rs (F := F) c p f) := by unfold rs; infer_instance
omit [FloatOps F] in
instance xc_storable (c p : Dev nD) (f) : BI.Storable (upEmb : UEmb _ 𝕄) (xc (F := F) c p f) := by unfold xc; infer_instance
omit [FloatOps F] in
instance rd_storable (c : Dev nD) (q) (f) : BI.Storable (upEmb : UEmb _ 𝕄) (rd (F := F) c q f) := by unfold rd; infer_instance
omit [FloatOps F] in
instance wi_storable (c : Dev nD) (f) : BI.Storable (upEmb : UEmb _ 𝕄) (wi (F := F) c f) := by unfold wi; infer_instance
omit [FloatOps F] in
instance wo_storable (c : Dev nD) (f) : BI.Storable (upEmb : UEmb _ 𝕄) (wo (F := F) c f) := by unfold wo; infer_instance
omit [FloatOps F] in
instance inArg_storable (r : ℕ) (c : Dev nD) : BI.Storable (upEmb : UEmb _ 𝕄) (inArg (F := F) m r c) := by
  unfold inArg; split <;> infer_instance
omit [FloatOps F] in
instance outArg_storable (r : ℕ) (c : Dev nD) : BI.Storable (upEmb : UEmb _ 𝕄) (outArg (F := F) m r c) := by
  unfold outArg; split <;> infer_instance

/-- The share of device `c`'s reduced slot its transfer to `p` reads through. -/
abbrev tokShare (c p : Dev nD) : PosShare TreeShare := shareTokN fullShare (trip c p)

/-! ## What each cell delivers -/

/-- Device `d`'s signal of device `c`'s barrier: slot `c` of `d`'s buffer of received partials. -/
def barPay (c d : Dev nD) : sProp 𝕄 := iprop(∃ f, rs d c f)
/-- Layer `r`'s first weight staged, with the array it was read from; its second. -/
def ld0Pay (r : ℕ) (c : Dev nD) : sProp 𝕄 := iprop(wi c (win m r c) ∗ inArg m r c)
def ld1Pay (r : ℕ) (c : Dev nD) : sProp 𝕄 := iprop(wo c (wout m r c) ∗ outArg m r c)
/-- A partial sent to `p`: the slot it was read from. -/
def sndPay (r : ℕ) (c p : Dev nD) : sProp 𝕄 := pb c p (PART m r c)
/-- `p`'s partial received: its slot, and slot `c` of `p`'s activations to gather into, at that layer. -/
def rcvPay (r : ℕ) (c p : Dev nD) : sProp 𝕄 :=
  iprop(rs c p (RSB m r c) ∗ (∃ f, xc p c f) ∗ reached ER (fcell 3 p c) r)
/-- The reduced slot sent to `p`: the share it was read through. -/
def gsndPay (r : ℕ) (c p : Dev nD) : sProp 𝕄 := rd c (tokShare c p) (RED m r c)
/-- `p`'s reduced slot received: its slot and, if another layer follows, slot `c` of `p`'s buffer of received partials
    at the next layer. -/
def grcvPay (r : ℕ) (c p : Dev nD) : sProp 𝕄 :=
  iprop(xc c p (XC m r) ∗ (if r < 2 then iprop((∃ f, rs p c f) ∗ reached ER (fcell 1 p c) (r + 1)) else iprop(emp)))

def famPay (a : Fin 4) (r : ℕ) (c p : Dev nD) : sProp 𝕄 :=
  match a with
  | 0 => sndPay m r c p
  | 1 => rcvPay m r c p
  | 2 => gsndPay m r c p
  | 3 => grcvPay m r c p

instance famPay_storable (a : Fin 4) (r : ℕ) (c p : Dev nD) : BI.Storable (upEmb : UEmb _ 𝕄) (famPay (F := F) m a r c p) := by
  unfold famPay sndPay rcvPay gsndPay grcvPay
  (repeat' split) <;> infer_instance

/-- Which array and which slot a semaphore of the four arrays is. -/
def decA (n : DmaSem sig) : Fin 4 := ⟨(n.val - 4) / 32 % 4, Nat.mod_lt _ (by decide)⟩
def decP (n : DmaSem sig) : Dev nD := ⟨(n.val - 4) % 32, Nat.mod_lt _ (by decide)⟩

theorem decA_fsem (a : Fin 4) (p : Dev nD) : decA (fsem a p) = a := by
  have := a.isLt; have := dev_lt p
  exact Fin.ext (by simp only [decA, fsem]; omega)
theorem decP_fsem (a : Fin 4) (p : Dev nD) : decP (fsem a p) = p := by
  have := a.isLt; have := dev_lt p
  exact Fin.ext (by simp only [decP, fsem]; omega)
theorem fsem_ge (a : Fin 4) (p : Dev nD) : 4 ≤ (fsem a p).val := by simp only [fsem]; omega

/-- The one duty of a transfer's cell. -/
abbrev dz : Dev nD := (0 : Fin 32)

/-- Round `r` is layer `r`. A barrier cell has, at round 0, one duty for every other device; a load cell one duty in each
    layer; a cell of the four arrays one duty in each layer, but for the slot of the device itself, which is never used. -/
def ringRd : Rounds.Schedule (GSem nD τ sig) (Dev nD) 𝕄 where
  duties g r := match g.2 with
    | .reg _ => if r = 0 then PE g.1.1 else ∅
    | .dma n => if r < 3 ∧ 2 ≤ n.val ∧ (4 ≤ n.val → decP n ≠ g.1.1) then {dz} else ∅
  unitless _ := False
  amount g _ _ := match g.2 with
    | .reg _ => 1
    | .dma n => if n.val < 4 then (if n.val = 2 then NI else NO) else N
  payload g r d := match g.2 with
    | .reg _ => barPay g.1.1 d
    | .dma n => if n.val < 4 then (if n.val = 2 then ld0Pay m r g.1.1 else ld1Pay m r g.1.1) else famPay m (decA n) r g.1.1 (decP n)
  amount_pos g _ _ _ := by
    split
    · exact Nat.one_pos
    · split
      · split
        · exact NI_pos
        · exact NO_pos
      · exact N_pos

instance ringRd_payload_storable (g : GSem nD τ sig) (r : ℕ) (d : Dev nD) :
    BI.Storable (upEmb : UEmb _ 𝕄) ((ringRd (F := F) m).payload g r d) := by
  dsimp only [ringRd]
  unfold barPay ld0Pay ld1Pay
  (repeat' split) <;> infer_instance

section Sched
variable (c : Dev nD)

theorem duties_bar : (ringRd (F := F) m).duties (barCell c) 0 = PE c := by
  show (if (0 : ℕ) = 0 then PE c else ∅) = PE c
  exact if_pos rfl
theorem duties_bar_later {r : ℕ} (hr : 1 ≤ r) : (ringRd (F := F) m).duties (barCell c) r = ∅ := if_neg (by omega)
theorem duties_fam (a : Fin 4) {p : Dev nD} (hp : p ≠ c) {r : ℕ} (hr : r < 3) : (ringRd (F := F) m).duties (fcell a c p) r = {dz} :=
  if_pos ⟨hr, by have := fsem_ge a p; omega, fun _ => by rw [decP_fsem]; exact hp⟩
theorem duties_fam_self (a : Fin 4) (r : ℕ) : (ringRd (F := F) m).duties (fcell a c c) r = ∅ :=
  if_neg (fun h => h.2.2 (fsem_ge a c) (decP_fsem a c))
theorem duties_dma_later (n : DmaSem sig) {r : ℕ} (hr : 3 ≤ r) : (ringRd (F := F) m).duties ((c : Thread nD τ), .dma n) r = ∅ :=
  if_neg (fun h => by have := h.1; omega)
theorem duties_load (i : Fin 2) {r : ℕ} (hr : r < 3) : (ringRd (F := F) m).duties (lcell i c) r = {dz} := by
  refine if_pos ⟨hr, by simp only [lsem]; omega, fun h => absurd h (by have := i.isLt; simp only [lsem]; omega)⟩

theorem amount_bar (r : ℕ) (d : Dev nD) : (ringRd (F := F) m).amount (barCell c) r d = 1 := rfl
theorem amount_fam (a : Fin 4) (p : Dev nD) (r : ℕ) (d : Dev nD) : (ringRd (F := F) m).amount (fcell a c p) r d = N :=
  if_neg (by have := fsem_ge a p; omega)
theorem amount_ld0 (r : ℕ) (d : Dev nD) : (ringRd (F := F) m).amount (lcell 0 c) r d = NI := rfl
theorem amount_ld1 (r : ℕ) (d : Dev nD) : (ringRd (F := F) m).amount (lcell 1 c) r d = NO := rfl

theorem payload_bar (r : ℕ) (d : Dev nD) : (ringRd (F := F) m).payload (barCell c) r d = barPay c d := rfl
theorem payload_fam (a : Fin 4) (p : Dev nD) (r : ℕ) (d : Dev nD) : (ringRd (F := F) m).payload (fcell a c p) r d = famPay m a r c p := by
  show (if (fsem a p).val < 4 then _ else famPay m (decA (fsem a p)) r c (decP (fsem a p))) = _
  rw [if_neg (by have := fsem_ge a p; omega), decA_fsem, decP_fsem]
theorem payload_ld0 (r : ℕ) (d : Dev nD) : (ringRd (F := F) m).payload (lcell 0 c) r d = ld0Pay m r c := rfl
theorem payload_ld1 (r : ℕ) (d : Dev nD) : (ringRd (F := F) m).payload (lcell 1 c) r d = ld1Pay m r c := rfl

theorem card_PE : (PE c).card = 31 := by rw [Finset.card_erase_of_mem (Finset.mem_univ _), Finset.card_univ]; rfl

theorem expect_bar : (ringRd (F := F) m).expect (barCell c) 0 = 31 := by
  unfold Schedule.expect Schedule.amountOf
  rw [duties_bar, Finset.sum_congr rfl fun d _ => amount_bar m c 0 d, Finset.sum_const, card_PE, smul_eq_mul]
theorem expect_fam (a : Fin 4) {p : Dev nD} (hp : p ≠ c) {r : ℕ} (hr : r < 3) : (ringRd (F := F) m).expect (fcell a c p) r = N := by
  unfold Schedule.expect Schedule.amountOf; rw [duties_fam m c a hp hr, Finset.sum_singleton, amount_fam]
theorem expect_ld0 {r : ℕ} (hr : r < 3) : (ringRd (F := F) m).expect (lcell 0 c) r = NI := by
  unfold Schedule.expect Schedule.amountOf; rw [duties_load m c 0 hr, Finset.sum_singleton, amount_ld0]
theorem expect_ld1 {r : ℕ} (hr : r < 3) : (ringRd (F := F) m).expect (lcell 1 c) r = NO := by
  unfold Schedule.expect Schedule.amountOf; rw [duties_load m c 1 hr, Finset.sum_singleton, amount_ld1]

theorem rest_bar : bigSep ((ringRd (F := F) m).duties (barCell c) 0 \ ∅) (fun d => (ringRd (F := F) m).payload (barCell c) 0 d)
    = bigSep (PE c) (fun d => barPay c d) := by
  rw [Finset.sdiff_empty, duties_bar]; rfl
theorem rest_fam (a : Fin 4) {p : Dev nD} (hp : p ≠ c) {r : ℕ} (hr : r < 3) :
    bigSep ((ringRd (F := F) m).duties (fcell a c p) r \ ∅) (fun d => (ringRd (F := F) m).payload (fcell a c p) r d) = famPay m a r c p := by
  rw [Finset.sdiff_empty, duties_fam m c a hp hr, bigSep_singleton, payload_fam]
theorem rest_ld0 {r : ℕ} (hr : r < 3) :
    bigSep ((ringRd (F := F) m).duties (lcell 0 c) r \ ∅) (fun d => (ringRd (F := F) m).payload (lcell 0 c) r d) = ld0Pay m r c := by
  rw [Finset.sdiff_empty, duties_load m c 0 hr, bigSep_singleton, payload_ld0]
theorem rest_ld1 {r : ℕ} (hr : r < 3) :
    bigSep ((ringRd (F := F) m).duties (lcell 1 c) r \ ∅) (fun d => (ringRd (F := F) m).payload (lcell 1 c) r d) = ld1Pay m r c := by
  rw [Finset.sdiff_empty, duties_load m c 1 hr, bigSep_singleton, payload_ld1]

end Sched

/-! ## What each core owes; the levels -/

/-- Stage `s` is layer `s / 2`'s scatter (even) or gather (odd): device `c`'s transfer to `p` credits this cell of `p`. -/
def stA (s : ℕ) : Fin 4 := if s % 2 = 0 then 1 else 3
abbrev stCell (s : ℕ) (c p : Dev nD) : GSem nD τ sig := fcell (stA s) p c

/-- What `c` owes for stage `s` from trip `k` on, for all stages from `s` on, and for its barrier signals from trip `k` on. -/
def OS (c : Dev nD) (s k : ℕ) : CellTallies nD τ sig ℕ := ∑ j ∈ Finset.Ico k 31, tallyAt (stCell s c (pr c j)) (s / 2) N
def OT (c : Dev nD) (s : ℕ) : CellTallies nD τ sig ℕ := ∑ t ∈ Finset.Ico s 6, OS c t 0
def OB (c : Dev nD) (k : ℕ) : CellTallies nD τ sig ℕ := ∑ j ∈ Finset.Ico k 31, tallyAt (barCell (pr c j)) 0 1
/-- At launch. -/
def O₀ (c : Dev nD) : CellTallies nD τ sig ℕ := OT c 0 + OB c 0

theorem OS_peel (c : Dev nD) (s : ℕ) {k : ℕ} (hk : k < 31) : OS c s k = OS c s (k + 1) + tallyAt (stCell s c (pr c k)) (s / 2) N := by
  unfold OS; rw [Finset.sum_eq_sum_Ico_succ_bot hk, add_comm]
theorem OS_end (c : Dev nD) (s : ℕ) : OS c s 31 = 0 := by unfold OS; rw [Finset.Ico_self, Finset.sum_empty]
theorem OB_peel (c : Dev nD) {k : ℕ} (hk : k < 31) : OB c k = OB c (k + 1) + tallyAt (barCell (pr c k)) 0 1 := by
  unfold OB; rw [Finset.sum_eq_sum_Ico_succ_bot hk, add_comm]
theorem OB_end (c : Dev nD) : OB c 31 = 0 := by unfold OB; rw [Finset.Ico_self, Finset.sum_empty]
theorem OT_peel (c : Dev nD) {s : ℕ} (hs : s < 6) : OT c s = OT c (s + 1) + OS c s 0 := by
  unfold OT; rw [Finset.sum_eq_sum_Ico_succ_bot hs, add_comm]
theorem OT_end (c : Dev nD) : OT c 6 = 0 := by unfold OT; rw [Finset.Ico_self, Finset.sum_empty]

theorem tally_sum_pos {S : Finset ℕ} {f : ℕ → CellTallies nD τ sig ℕ} {g : GSem nD τ sig} {u : ℕ} (h : 0 < (∑ j ∈ S, f j) g u) :
    ∃ j ∈ S, 0 < f j g u := by
  rw [Finset.sum_apply, Finsupp.finset_sum_apply] at h
  by_contra hn
  push Not at hn
  rw [Finset.sum_eq_zero fun j hj => Nat.le_zero.mp (hn j hj)] at h
  exact Nat.lt_irrefl 0 h

theorem tallyAt_pos {g g' : GSem nD τ sig} {u u' : ℕ} {n : ℕ} (h : 0 < (tallyAt g u n : CellTallies nD τ sig ℕ) g' u') : g' = g ∧ u' = u := by
  rw [tallyAt_apply] at h
  by_contra hn
  rw [if_neg hn] at h
  exact Nat.lt_irrefl 0 h

theorem OT_pos {c : Dev nD} {s : ℕ} {g : GSem nD τ sig} {u : ℕ} (h : 0 < OT c s g u) :
    ∃ t, s ≤ t ∧ t < 6 ∧ ∃ p, p ≠ c ∧ g = stCell t c p ∧ u = t / 2 := by
  obtain ⟨t, ht, h⟩ := tally_sum_pos h
  obtain ⟨j, hj, h⟩ := tally_sum_pos h
  rw [Finset.mem_Ico] at ht hj
  obtain ⟨h1, h2⟩ := tallyAt_pos h
  exact ⟨t, ht.1, ht.2, pr c j, pr_ne c hj.2, h1, h2⟩
theorem OB_pos {c : Dev nD} {k : ℕ} {g : GSem nD τ sig} {u : ℕ} (h : 0 < OB c k g u) : ∃ p, p ≠ c ∧ g = barCell p ∧ u = 0 := by
  obtain ⟨j, hj, h⟩ := tally_sum_pos h
  rw [Finset.mem_Ico] at hj
  obtain ⟨h1, h2⟩ := tallyAt_pos h
  exact ⟨pr c j, pr_ne c hj.2, h1, h2⟩
theorem O₀_pos {c : Dev nD} {g : GSem nD τ sig} {u : ℕ} (h : 0 < O₀ c g u) :
    (∃ t, t < 6 ∧ ∃ p, p ≠ c ∧ g = stCell t c p ∧ u = t / 2) ∨ ∃ p, p ≠ c ∧ g = barCell p ∧ u = 0 := by
  unfold O₀ at h
  rw [Pi.add_apply, Finsupp.add_apply] at h
  rcases Nat.add_pos_iff_pos_or_pos.mp h with h | h
  · obtain ⟨t, _, h⟩ := OT_pos h
    exact .inl ⟨t, h⟩
  · exact .inr (OB_pos h)

/-- A credit token on a cell is for one of the three layers. -/
def L (g : GSem nD τ sig) : Finset ℕ := if g.1.2 = .tc then Finset.range 3 else ∅
/-- Barrier cells at 1, the cell of stage `s`'s arrivals at `2 + s`, everything else (staging, loads, departures) at 0. -/
def lv (g : GSem nD τ sig) (u : ℕ) : ℕ :=
  match g.2 with
  | .reg _ => 1
  | .dma n => if n.val < 4 then 0 else if decA n = 1 then 2 + 2 * u else if decA n = 3 then 3 + 2 * u else 0

theorem L_of_ne (g : GSem nD τ sig) (h : g.1.2 ≠ .tc) : L g = ∅ := if_neg h
theorem L_tc (c : Dev nD) (sm : SemLoc sig) : L ((c : Thread nD τ), sm) = Finset.range 3 := if_pos rfl
theorem lv_fam (a : Fin 4) (c p : Dev nD) (u : ℕ) : lv (fcell a c p) u = if a = 1 then 2 + 2 * u else if a = 3 then 3 + 2 * u else 0 := by
  show (if (fsem a p).val < 4 then 0 else if decA (fsem a p) = 1 then 2 + 2 * u else if decA (fsem a p) = 3 then 3 + 2 * u else 0) = _
  rw [if_neg (by have := fsem_ge a p; omega), decA_fsem]
theorem lv_st (t : ℕ) (c p : Dev nD) : lv (stCell t c p) (t / 2) = 2 + t := by
  rw [lv_fam]; unfold stA
  by_cases h : t % 2 = 0
  · rw [if_pos h, if_pos rfl]; omega
  · rw [if_neg h, if_neg (by decide), if_pos rfl]; omega

/-- A core may wait, owing the stages from `s` on, on a cell whose level is below `2 + s`. -/
theorem mayWait_stage (c : Dev nD) (sm : SemLoc sig) {ι : ℕ} (hι : ι < 3) {s : ℕ} (h : lv ((c : Thread nD τ), sm) ι < 2 + s) :
    (levAts L lv : sProp 𝕄) ⊢ MayWait (c : Thread nD τ) sm ι (OT c s) :=
  MayOwe.of_cut (L := L) (lev := lv) (lv ((c : Thread nD τ), sm) ι)
    (fun p hp => by rw [Finset.mem_singleton.mp hp, L_tc]; exact Finset.mem_range.mpr hι)
    (fun g u hg => by
      obtain ⟨t, h1, h2, p, _, rfl, rfl⟩ := OT_pos hg
      rw [L_tc]; exact Finset.mem_range.mpr (by omega))
    (fun p hp => by rw [Finset.mem_singleton.mp hp])
    (fun g u hg => by
      obtain ⟨t, h1, h2, p, _, rfl, rfl⟩ := OT_pos hg
      rw [lv_st]; omega)

/-- At launch a core may wait on a cell of level 0. -/
theorem mayWait_launch (c : Dev nD) (sm : SemLoc sig) (h : lv ((c : Thread nD τ), sm) 0 = 0) :
    (levAts L lv : sProp 𝕄) ⊢ MayWait (c : Thread nD τ) sm 0 (O₀ c) :=
  MayOwe.of_cut (L := L) (lev := lv) 0
    (fun p hp => by rw [Finset.mem_singleton.mp hp, L_tc]; exact Finset.mem_range.mpr (by decide : 0 < 3))
    (fun g u hg => by
      rcases O₀_pos hg with ⟨t, h2, p, _, rfl, rfl⟩ | ⟨p, _, rfl, rfl⟩
      · rw [L_tc]; exact Finset.mem_range.mpr (by omega)
      · rw [L_tc]; decide)
    (fun p hp => by rw [Finset.mem_singleton.mp hp, h])
    (fun g u hg => by
      rcases O₀_pos hg with ⟨t, h2, p, _, rfl, rfl⟩ | ⟨p, _, rfl, rfl⟩
      · rw [lv_st]; omega
      · exact Nat.one_pos)

end Cert.MlpProof

end
-- ==== Proof.Steps.lean ====
/-
# `Steps` — the effects of the kernel one at a time: signals, transfers, waits, and loops over the peers

Each effect of the body is one lemma over the protocol (`Protocol`): what a core must hold to issue it and what it holds
after. A loop over the 31 peers is `wp_peers`: a trip's lemma, for every trip.
-/
module

public import proofs.«01_k».proof.Proof.Protocol
public import proofs.«01_k».proof.Proof.Gen.KernelIdeal.Skeleton
public import Idealize.ShloMosaic.Lib.Tactic
public import Idealize.ShloMosaic.Lib.Scf
public import Idealize.ShloMosaic.Lib.Pipeline.Kit

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig ℕ (Elt F) ℕ UU ℕ

variable (m : (ℓ : Loc nD τ sig) → Buf (Elt F) ℓ)

/-! ## The programs' weakest precondition, and what every core knows -/

abbrev 𝒱₀ : Variants := Variants.none

/-- From device `c`'s TensorCore, the program `p` runs without fault and ends in `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The cells in a row: the barrier, the two loads, the four arrays of 32. -/
def csem (k : Fin 131) : SemLoc sig :=
  if k.val = 0 then .reg barS else .dma ⟨k.val + 1, by have := k.isLt; show k.val + 1 < 132; omega⟩
abbrev kcell (ck : Dev nD × Fin 131) : GSem nD τ sig := ((ck.1 : Thread nD τ), csem ck.2)
def kl (i : Fin 2) : Fin 131 := ⟨1 + i.val, by have := i.isLt; omega⟩
def kf (a : Fin 4) (p : Dev nD) : Fin 131 := ⟨3 + 32 * a.val + p.val, by have := a.isLt; have := dev_lt p; omega⟩

theorem csem_bar : csem 0 = .reg barS := rfl
theorem csem_kl (i : Fin 2) : csem (kl i) = .dma (lsem i) := by
  unfold csem kl lsem
  rw [if_neg (by show ¬ (1 + i.val = 0); omega)]
  exact congrArg SemLoc.dma (Fin.ext (by show 1 + i.val + 1 = 2 + i.val; omega))
theorem csem_kf (a : Fin 4) (p : Dev nD) : csem (kf a p) = .dma (fsem a p) := by
  unfold csem kf fsem
  rw [if_neg (by show ¬ (3 + 32 * a.val + p.val = 0); omega)]
  exact congrArg SemLoc.dma (Fin.ext (by show 3 + 32 * a.val + p.val + 1 = 4 + 32 * a.val + p.val; omega))

variable (K : Dev nD × Fin 131 → ℕ)

/-- What every core knows: the levels, every cell's invariant, and that every cell's round 0 is reached. -/
def Ctx : sProp 𝕄 :=
  iprop(levAts L lv ∗ (bigSep Finset.univ fun ck => cellInv ER (ringRd m) (K ck) (kcell ck))
    ∗ bigSep Finset.univ fun ck => reached ER (kcell ck) 0)

instance ctx_persistent : BI.Persistent (Ctx m K) := by unfold Ctx; infer_instance

theorem ctx_lev : Ctx m K ⊢ levAts L lv := by unfold Ctx; iintro ⟨H, -⟩; iexact H
theorem inv_at (ck : Dev nD × Fin 131) :
    (bigSep Finset.univ fun ck : Dev nD × Fin 131 => (cellInv ER (ringRd m) (K ck) (kcell ck) : sProp 𝕄)) ⊢ cellInv ER (ringRd m) (K ck) (kcell ck) :=
  bigSep_elim (Finset.mem_univ ck)
omit [FloatOps F] in
theorem reached_at (ck : Dev nD × Fin 131) :
    (bigSep Finset.univ fun ck : Dev nD × Fin 131 => (reached ER (kcell ck) 0 : sProp 𝕄)) ⊢ reached ER (kcell ck) 0 :=
  bigSep_elim (Finset.mem_univ ck)

theorem ctx_inv (c : Dev nD) (k : Fin 131) {s : SemLoc sig} (h : csem k = s) :
    Ctx m K ⊢ cellInv ER (ringRd m) (K (c, k)) ((c : Thread nD τ), s) := by
  subst h; unfold Ctx
  iintro ⟨-, H, -⟩
  iapply (inv_at m K (c, k)); iexact H
theorem ctx_reached (c : Dev nD) (k : Fin 131) {s : SemLoc sig} (h : csem k = s) :
    Ctx m K ⊢ reached ER ((c : Thread nD τ), s) 0 := by
  subst h; unfold Ctx
  iintro ⟨-, -, H⟩
  iapply (reached_at (F := F) (c, k)); iexact H

/-- Device `c` owes `O`, whatever it has waited on. -/
def OW (c : Dev nD) (O : CellTallies nD τ sig ℕ) : sProp 𝕄 := iprop(∃ W, owes (c : Thread nD τ) O W)

/-- Device `c` is at round `r` of its cell `a`, `p`, which is reached; the same of a load cell. -/
def at' (a : Fin 4) (c p : Dev nD) (r : ℕ) : sProp 𝕄 := iprop(atPos ER (fcell a c p) r ∅ 0 ∗ reached ER (fcell a c p) r)
def atL (i : Fin 2) (c : Dev nD) (r : ℕ) : sProp 𝕄 := iprop(atPos ER (lcell i c) r ∅ 0 ∗ reached ER (lcell i c) r)

/-! ## Loops over the peers -/

/-- Equal assertions entail each other. -/
theorem eqv {M : Type} [URA M] {P Q : sProp M} (h : P = Q) : P ⊢ Q := h ▸ BI.Entails.refl _

/-- One assertion of each, from another of each. -/
theorem each {M : Type} [URA M] {I : Type} {s : Finset I} {Φ Ψ : I → sProp M} (h : ∀ i, Φ i ⊢ Ψ i) : bigSep s Φ ⊢ bigSep s Ψ :=
  bigSep_mono fun i _ => h i

/-- A program that only returns. -/
theorem ret_intro {c : Dev nD} {α : Type} {a : α} {Q : α → sProp 𝕄} : Q a ⊢ WP c (.ret a) Q := by
  show Q a ⊢ wp frame _ _ _ _
  rw [wp_ret]
  iintro H; imodintro; iexact H

section Peers

/-- A loop whose trip `k` turns what is held for the trip's peer, before (`Φ`), to what is held after (`Ψ`). -/
theorem wp_peers {c : Dev nD} {l : Scf.Loop 32} {R : ℕ → sProp 𝕄} {Φ Ψ : Dev nD → sProp 𝕄} {P : sProp 𝕄} [BI.Persistent P] (hl : l.trips = 31) {hok : l.OK}
    {body : Fin l.trips → Unit → Prog (TpuEff nD τ sig (Elt F) Λ₀ .tc) Unit}
    (hbody : ∀ k : Fin l.trips, iprop(P ∗ R k.val ∗ Φ (pr c k.val)) ⊢ WP c (body k ()) fun _ => iprop(R (k.val + 1) ∗ Ψ (pr c k.val)))
    {α : Type} {kk : Unit → Prog (TpuEff nD τ sig (Elt F) Λ₀ .tc) α} {Q : α → sProp 𝕄} :
    iprop(P ∗ R 0 ∗ bigSep (PE c) Φ)
      ⊢ iprop((iprop(R 31 ∗ bigSep (PE c) Ψ) -∗ WP c (kk ()) Q) -∗ WP c (Scf.Loop.for l hok () body >>= kk) Q) := by
  have hb : ∀ (k : Fin l.trips) (acc : Unit),
      iprop(P ∗ R k.val ∗ bigSep (Finset.Ico k.val 31) (fun j => Φ (pr c j)) ∗ bigSep (Finset.range k.val) (fun j => Ψ (pr c j)))
        ⊢ WP c (body k acc) fun _ =>
          iprop(P ∗ R (k.val + 1) ∗ bigSep (Finset.Ico (k.val + 1) 31) (fun j => Φ (pr c j)) ∗ bigSep (Finset.range (k.val + 1)) (fun j => Ψ (pr c j))) := by
    intro k acc
    have hk : k.val < 31 := hl ▸ k.isLt
    have e1 : Finset.Ico k.val 31 = insert k.val (Finset.Ico (k.val + 1) 31) := (Finset.insert_Ico_add_one_left_eq_Ico hk).symm
    have e2 : Finset.range (k.val + 1) = insert k.val (Finset.range k.val) := Finset.range_add_one
    have e3 : bigSep (Finset.Ico k.val 31) (fun j => Φ (pr c j)) = iprop(Φ (pr c k.val) ∗ bigSep (Finset.Ico (k.val + 1) 31) fun j => Φ (pr c j)) := by
      rw [e1]; exact bigSep_insert (by rw [Finset.mem_Ico]; omega)
    have e4 : bigSep (Finset.range (k.val + 1)) (fun j => Ψ (pr c j)) = iprop(Ψ (pr c k.val) ∗ bigSep (Finset.range k.val) fun j => Ψ (pr c j)) := by
      rw [e2]; exact bigSep_insert (by rw [Finset.mem_range]; omega)
    rw [e3, e4]
    iintro ⟨#HP, HR, ⟨HΦ, HΦs⟩, HΨs⟩
    iapply (wp_wand_r _ _ _)
    isplitl [HR HΦ]
    · iapply (hbody k)
      isplitr; · iexact HP
      isplitl [HR] <;> iassumption
    · iintro %_ ⟨HR, HΨ⟩
      isplitr; · iexact HP
      isplitl [HR]; · iexact HR
      isplitl [HΦs]; · iexact HΦs
      isplitl [HΨ] <;> iassumption
  iintro ⟨#HP, HR, HΦ⟩ Hk
  iapply (Scf.wp_for_bind _ _ _ l.lb l.ub l.st hok () body
    (fun k _ => iprop(P ∗ R k ∗ bigSep (Finset.Ico k 31) (fun j => Φ (pr c j)) ∗ bigSep (Finset.range k) (fun j => Ψ (pr c j)))) hb) $$ [HR HΦ]
  · isplitr; · iexact HP
    isplitl [HR]; · iexact HR
    isplitl [HΦ]
    · have e : bigSep (PE c) Φ = bigSep (Finset.Ico 0 31) fun j => Φ (pr c j) := by rw [bigSep_peers, Finset.range_eq_Ico]
      iapply (eqv e); iexact HΦ
    have e : (bigSep (Finset.range 0) fun j => Ψ (pr c j)) = iprop(emp) := by rw [Finset.range_zero]; exact bigSep_empty
    rw [e]; iempintro
  · iintro %_
    rw [show Scf.trips l.lb l.ub l.st = 31 from hl]
    iintro ⟨-, HR, -, HΨ⟩
    iapply Hk
    isplitl [HR]; · iexact HR
    rw [bigSep_peers]; iexact HΨ

end Peers

/-! ## Waits -/

section Waits
variable {c : Dev nD}
variable {sp sp' : Space} {sh sh' : Shape} {e e' : EltTy}
  {src : Memref sig .tc sp sh e} {dst : Memref sig .tc sp' sh' e'} {h1 : src.view.WordExact} {h2 : dst.view.WordExact}

/-- The wait for a slot's transfer at layer `r`, owing the stages from `s` on. -/
theorem wp_wait_fam (a : Fin 4) {p : Dev nD} (hp : p ≠ c) {r : ℕ} (hr : r < 3) {s : ℕ} (hs : lv (fcell a c p) r < 2 + s)
    {sem : DmaSem sig} (hsem : sem = fsem a p) (hN : dst.view.dmaCredit = N)
    {α : Type} {k : PUnit → Prog (TpuEff nD τ sig (Elt F) Λ₀ .tc) α} {Q : α → sProp 𝕄} :
    iprop(Ctx m K ∗ OW c (OT c s) ∗ cred (tallyAt (fcell a c p) r N) ∗ at' a c p r)
      ⊢ iprop((iprop(OW c (OT c s) ∗ at' a c p (r + 1) ∗ famPay m a r c p) -∗ WP c (k ⟨⟩) Q)
          -∗ WP c (.op (.waitDma2 sem src dst h1 h2) k) Q) := by
  subst hsem
  unfold OW at'
  iintro ⟨#HC, ⟨%W, HO⟩, Hc, Hat, -⟩ Hk
  iapply (Rounds.wp_wait_rest_token 𝒱₀ ER (ringRd m) (c : Thread nD τ) none (κ := K (c, kf a p)) (k' := N)
      (by rw [← hN]; exact wpE_waitDma2_eq 𝒱₀ (c : Thread nD τ) none Set.univ) (Set.mem_univ _) r (O := OT c s) (W := W) (R := r) (m := 0) (T := ∅)
      (by rw [Nat.zero_add, expect_fam m c a hp hr])) $$ [HO Hc Hat]
  · isplitr; · iapply (ctx_inv m K c (kf a p) (csem_kf a p)); iexact HC
    isplitl [Hc]; · iexact Hc
    isplitl [HO]; · iexact HO
    isplitr; · iapply (mayWait_stage c (.dma (fsem a p)) hr hs); iapply (ctx_lev m K); iexact HC
    iexact Hat
  iintro ⟨HO, Hat, Hr, Hpay⟩
  iapply Hk
  isplitl [HO]; · iexists _; iexact HO
  isplitl [Hat Hr]; · isplitl [Hat] <;> iassumption
  iapply (Entails.of_eq (rest_fam m c a hp hr)); iexact Hpay

/-- The wait for a weight to be staged, whatever is owed from stage `s` on. -/
theorem wp_wait_ld0 {r : ℕ} (hr : r < 3) {O : CellTallies nD τ sig ℕ} (hO : (levAts L lv : sProp 𝕄) ⊢ MayWait (c : Thread nD τ) (.dma (lsem 0)) r O)
    {sem : DmaSem sig} (hsem : sem = lsem 0) (hN : dst.view.dmaCredit = NI)
    {α : Type} {k : PUnit → Prog (TpuEff nD τ sig (Elt F) Λ₀ .tc) α} {Q : α → sProp 𝕄} :
    iprop(Ctx m K ∗ OW c O ∗ cred (tallyAt (lcell 0 c) r NI) ∗ atL 0 c r)
      ⊢ iprop((iprop(OW c O ∗ atL 0 c (r + 1) ∗ ld0Pay m r c) -∗ WP c (k ⟨⟩) Q)
          -∗ WP c (.op (.waitDma2 sem src dst h1 h2) k) Q) := by
  subst hsem
  unfold OW atL
  iintro ⟨#HC, ⟨%W, HO⟩, Hc, Hat, -⟩ Hk
  iapply (Rounds.wp_wait_rest_token 𝒱₀ ER (ringRd m) (c : Thread nD τ) none (κ := K (c, kl 0)) (k' := NI)
      (by rw [← hN]; exact wpE_waitDma2_eq 𝒱₀ (c : Thread nD τ) none Set.univ) (Set.mem_univ _) r (O := O) (W := W) (R := r) (m := 0) (T := ∅)
      (by rw [Nat.zero_add, expect_ld0 m c hr])) $$ [HO Hc Hat]
  · isplitr; · iapply (ctx_inv m K c (kl 0) (csem_kl 0)); iexact HC
    isplitl [Hc]; · iexact Hc
    isplitl [HO]; · iexact HO
    isplitr; · iapply hO; iapply (ctx_lev m K); iexact HC
    iexact Hat
  iintro ⟨HO, Hat, Hr, Hpay⟩
  iapply Hk
  isplitl [HO]; · iexists _; iexact HO
  isplitl [Hat Hr]; · isplitl [Hat] <;> iassumption
  iapply (Entails.of_eq (rest_ld0 m c hr)); iexact Hpay

theorem wp_wait_ld1 {r : ℕ} (hr : r < 3) {O : CellTallies nD τ sig ℕ} (hO : (levAts L lv : sProp 𝕄) ⊢ MayWait (c : Thread nD τ) (.dma (lsem 1)) r O)
    {sem : DmaSem sig} (hsem : sem = lsem 1) (hN : dst.view.dmaCredit = NO)
    {α : Type} {k : PUnit → Prog (TpuEff nD τ sig (Elt F) Λ₀ .tc) α} {Q : α → sProp 𝕄} :
    iprop(Ctx m K ∗ OW c O ∗ cred (tallyAt (lcell 1 c) r NO) ∗ atL 1 c r)
      ⊢ iprop((iprop(OW c O ∗ atL 1 c (r + 1) ∗ ld1Pay m r c) -∗ WP c (k ⟨⟩) Q)
          -∗ WP c (.op (.waitDma2 sem src dst h1 h2) k) Q) := by
  subst hsem
  unfold OW atL
  iintro ⟨#HC, ⟨%W, HO⟩, Hc, Hat, -⟩ Hk
  iapply (Rounds.wp_wait_rest_token 𝒱₀ ER (ringRd m) (c : Thread nD τ) none (κ := K (c, kl 1)) (k' := NO)
      (by rw [← hN]; exact wpE_waitDma2_eq 𝒱₀ (c : Thread nD τ) none Set.univ) (Set.mem_univ _) r (O := O) (W := W) (R := r) (m := 0) (T := ∅)
      (by rw [Nat.zero_add, expect_ld1 m c hr])) $$ [HO Hc Hat]
  · isplitr; · iapply (ctx_inv m K c (kl 1) (csem_kl 1)); iexact HC
    isplitl [Hc]; · iexact Hc
    isplitl [HO]; · iexact HO
    isplitr; · iapply hO; iapply (ctx_lev m K); iexact HC
    iexact Hat
  iintro ⟨HO, Hat, Hr, Hpay⟩
  iapply Hk
  isplitl [HO]; · iexists _; iexact HO
  isplitl [Hat Hr]; · isplitl [Hat] <;> iassumption
  iapply (Entails.of_eq (rest_ld1 m c hr)); iexact Hpay

/-- The wait for the 31 signals: every peer's slot for this device's partial. -/
theorem wp_wait_bar
    {α : Type} {k : PUnit → Prog (TpuEff nD τ sig (Elt F) Λ₀ .tc) α} {Q : α → sProp 𝕄} :
    iprop(Ctx m K ∗ OW c (OT c 0) ∗ cred (tallyAt (barCell c) 0 31) ∗ atPos ER (barCell c) 0 ∅ 0)
      ⊢ iprop((iprop(OW c (OT c 0) ∗ atPos ER (barCell c) 1 ∅ 0 ∗ bigSep (PE c) fun p => barPay c p) -∗ WP c (k ⟨⟩) Q)
          -∗ WP c (.op (.semWait barS 31) k) Q) := by
  unfold OW
  iintro ⟨#HC, ⟨%W, HO⟩, Hc, Hat⟩ Hk
  iapply (Rounds.wp_wait_rest_token 𝒱₀ ER (ringRd m) (c : Thread nD τ) none (κ := K (c, 0)) (k' := 31)
      (wpE_semWait_eq 𝒱₀ (c : Thread nD τ) none Set.univ) (Set.mem_univ _) 0 (O := OT c 0) (W := W) (R := 0) (m := 0) (T := ∅)
      (by rw [Nat.zero_add, expect_bar])) $$ [HO Hc Hat]
  · isplitr; · iapply (ctx_inv m K c 0 csem_bar); iexact HC
    isplitl [Hc]; · iexact Hc
    isplitl [HO]; · iexact HO
    isplitr; · iapply (mayWait_stage c (.reg barS) (by decide) (by show 1 < 2 + 0; decide)); iapply (ctx_lev m K); iexact HC
    iexact Hat
  iintro ⟨HO, Hat, -, Hpay⟩
  iapply Hk
  isplitl [HO]; · iexists _; iexact HO
  isplitl [Hat]; · iexact Hat
  iapply (Entails.of_eq (rest_bar m c)); iexact Hpay

/-- A signal of a peer's barrier: this device's slot for that peer's partial goes with it. -/
theorem wp_signal_bar {p : Dev nD} (hp : p ≠ c) {O O' : CellTallies nD τ sig ℕ} (hO : O' = O + tallyAt (barCell p) 0 1)
    {d : Dev nD} (hd : d = p)
    {α : Type} {k : PUnit → Prog (TpuEff nD τ sig (Elt F) Λ₀ .tc) α} {Q : α → sProp 𝕄} :
    iprop(Ctx m K ∗ OW c O' ∗ dutyTok ER (barCell p) 0 c ∗ ∃ f, rs c p f)
      ⊢ iprop((OW c O -∗ WP c (k ⟨⟩) Q) -∗ WP c (.op (.semSignal (d : Thread nD τ) barS 1) k) Q) := by
  subst hd
  unfold OW
  iintro ⟨#HC, ⟨%W, HO⟩, Ht, Hp⟩ Hk
  iapply (Rounds.wp_signal 𝒱₀ ER (ringRd m) (c : Thread nD τ) none (dst := (d : Thread nD τ)) (κ := K (d, 0)) (r := 0)
      (d := c) (by rw [duties_bar]; exact Finset.mem_erase.mpr ⟨hp.symm, Finset.mem_univ _⟩) (amount_bar m d 0 c) 0 O hO) $$ [HO Ht Hp]
  · isplitr; · iapply (ctx_inv m K d 0 csem_bar); iexact HC
    isplitl [HO]; · iexact HO
    isplitl [Ht]; · iexact Ht
    isplitl [Hp]; · rw [payload_bar]; unfold barPay; iexact Hp
    iapply (ctx_reached m K d 0 csem_bar); iexact HC
  iintro HO
  iapply Hk
  iexists _; iexact HO

end Waits

/-! ## The slots, as the program's views reach them -/

section SlotViews
variable {off : Fin 3 → ℕ} {p : Dev nD} (ho : off = off3 p) (inb : ∀ a, off a + S1x2x1024.size a ≤ S32x2x1024.size a)
include ho

theorem pb_set : (slotV pbM off inb).view.set = sl p :=
  (View.set_reshape _ _).trans ((View.set_slice_whole _ _).trans (unit_slot_set ho inb))
theorem rs_set : (slotV rsM off inb).view.set = sl p :=
  (View.set_reshape _ _).trans ((View.set_slice_whole _ _).trans (unit_slot_set ho inb))
theorem xc_set : (slotV xcM off inb).view.set = sl p :=
  (View.set_reshape _ _).trans ((View.set_slice_whole _ _).trans (unit_slot_set ho inb))

omit [FloatOps F] in
theorem pb_read (f : Vec F S32x2x1024 .bf16) (j : S2x1024.Idx) : (slotV pbM off inb).view.read (Elt F) f j = f (six p j) :=
  congrArg f (unit_slot_emb ho inb j)

omit [FloatOps F] in
theorem rs_write (f : Vec F S32x2x1024 .bf16) (w : Vec F S2x1024 .bf16) (j : S2x1024.Idx) :
    (slotV rsM off inb).view.write (Elt F) f w Finset.univ (six p j) = w j := by
  have h := View.write_emb_of_mem (v := (slotV rsM off inb).view) f w (Finset.mem_univ j)
  rw [show (slotV rsM off inb).view.emb j = six p j from unit_slot_emb ho inb j] at h
  exact h
omit [FloatOps F] in
theorem xc_write (f : Vec F S32x2x1024 .bf16) (w : Vec F S2x1024 .bf16) (j : S2x1024.Idx) :
    (slotV xcM off inb).view.write (Elt F) f w Finset.univ (six p j) = w j := by
  have h := View.write_emb_of_mem (v := (slotV xcM off inb).view) f w (Finset.mem_univ j)
  rw [show (slotV xcM off inb).view.emb j = six p j from unit_slot_emb ho inb j] at h
  exact h
end SlotViews

omit [FloatOps F] in
/-- Contents that agree at every index of a slot are the same slot. -/
theorem slot_ext {p : Dev nD} {f g : Vec F S32x2x1024 .bf16} (h : ∀ j, f (six p j) = g (six p j)) : ∀ i ∈ sl p, f i = g i := by
  intro i hi
  have e := six_inSlot i
  rw [slotOf_of_mem hi] at e
  rw [← e]; exact h _

end Cert.MlpProof

end
-- ==== Proof.Moves.lean ====
/-
# `Moves` — the transfers one at a time: the weights staged, a partial sent, a reduced slot sent
-/
module

public import proofs.«01_k».proof.Proof.Steps

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig ℕ (Elt F) ℕ UU ℕ

variable (m : (ℓ : Loc nD τ sig) → Buf (Elt F) ℓ)

variable (K : Dev nD × Fin 131 → ℕ)

/-! ## What the views hold, as slots and whole buffers -/

section Held
variable {off : Fin 3 → ℕ} {p : Dev nD} (ho : off = off3 p) (inb : ∀ a, off a + S1x2x1024.size a ≤ S32x2x1024.size a) (c : Dev nD)
include ho

omit [FloatOps F] in
theorem pb_view (f : Vec F S32x2x1024 .bf16) :
    (((slotV pbM off inb).view.loc (c : Thread nD τ)) ↦[(slotV pbM off inb).view.set]{fullShare} f : sProp 𝕄) = pb c p f :=
  congrArg (fun S => (((c : Thread nD τ).loc cc0_scratch0) ↦[S]{fullShare} f : sProp 𝕄)) (pb_set ho inb)
omit [FloatOps F] in
theorem rs_view (f : Vec F S32x2x1024 .bf16) :
    (((slotV rsM off inb).view.loc (c : Thread nD τ)) ↦[(slotV rsM off inb).view.set]{fullShare} f : sProp 𝕄) = rs c p f :=
  congrArg (fun S => (((c : Thread nD τ).loc cc0_scratch1) ↦[S]{fullShare} f : sProp 𝕄)) (rs_set ho inb)
omit [FloatOps F] in
theorem xc_view (f : Vec F S32x2x1024 .bf16) :
    (((slotV xcM off inb).view.loc (c : Thread nD τ)) ↦[(slotV xcM off inb).view.set]{fullShare} f : sProp 𝕄) = xc c p f :=
  congrArg (fun S => (((c : Thread nD τ).loc cc0_scratch3) ↦[S]{fullShare} f : sProp 𝕄)) (xc_set ho inb)
end Held

/-- Every slot's transfer has the same credit. -/
theorem slot_amount (M : Memref sig .tc .vmem S32x2x1024 .bf16) (off : Fin 3 → ℕ) (inb : ∀ a, off a + S1x2x1024.size a ≤ S32x2x1024.size a)
    (n : DmaSem sig) : (slotV M off inb).view.amount (.dma n) = N := rfl

omit [FloatOps F] in
theorem rd_view (c : Dev nD) (q : PosShare TreeShare) (f : Vec F S2x1024 .bf16) :
    (((rdM).view.loc (c : Thread nD τ)) ↦[(rdM).view.set]{q} f : sProp 𝕄) = rd c q f :=
  congrArg (fun S => (((c : Thread nD τ).loc cc0_scratch2) ↦[S]{q} f : sProp 𝕄)) (View.set_whole _)
omit [FloatOps F] in
theorem wi_view (c : Dev nD) (f : Vec F S1024x2048 .f32) :
    (((wiM).view.loc (c : Thread nD τ)) ↦[(wiM).view.set]{fullShare} f : sProp 𝕄) = wi c f :=
  congrArg (fun S => (((c : Thread nD τ).loc cc0_scratch4) ↦[S]{fullShare} f : sProp 𝕄)) (View.set_whole _)
omit [FloatOps F] in
theorem wo_view (c : Dev nD) (f : Vec F S2048x1024 .f32) :
    (((woM).view.loc (c : Thread nD τ)) ↦[(woM).view.set]{fullShare} f : sProp 𝕄) = wo c f :=
  congrArg (fun S => (((c : Thread nD τ).loc cc0_scratch5) ↦[S]{fullShare} f : sProp 𝕄)) (View.set_whole _)

omit [FloatOps F] in
theorem pb_congr {c p : Dev nD} {f g : Vec F S32x2x1024 .bf16} (h : ∀ j, f (six p j) = g (six p j)) : (pb c p f : sProp 𝕄) = pb c p g :=
  pointsTo_congr (slot_ext h)
omit [FloatOps F] in
theorem rs_congr {c p : Dev nD} {f g : Vec F S32x2x1024 .bf16} (h : ∀ j, f (six p j) = g (six p j)) : (rs c p f : sProp 𝕄) = rs c p g :=
  pointsTo_congr (slot_ext h)
omit [FloatOps F] in
theorem xc_congr {c p : Dev nD} {f g : Vec F S32x2x1024 .bf16} (h : ∀ j, f (six p j) = g (six p j)) : (xc c p f : sProp 𝕄) = xc c p g :=
  pointsTo_congr (slot_ext h)

/-! ## The weights' transfers -/

section Loads
variable {c : Dev nD} {r : ℕ}

theorem wp_ld0 (hr : r < 3) {src : Memref sig .tc .hbm S1024x2048 .f32} {X : Buf (Elt F) (src.view.loc (c : Thread nD τ))}
    (hP : (src.view.loc (c : Thread nD τ) ↦[src.view.set]{fullShare} X : sProp 𝕄) = inArg m r c) (hX : src.view.read (Elt F) X = win m r c)
    {sem : DmaSem sig} (hsem : sem = lsem 0)
    {h1 : src.view.WordExact} {h2 : (wiM).view.WordExact} {h3 : DmaTarget.Typed (nD := nD) (τ := τ) .hbm (.dma sem) (DmaTarget.here (p := Proc.tc) wiM)}
    {α : Type} {k : PUnit → Prog (TpuEff nD τ sig (Elt F) Λ₀ .tc) α} {Q : α → sProp 𝕄} :
    iprop(Ctx m K ∗ (∃ f, wi c f) ∗ inArg m r c ∗ dutyTok ER (lcell 0 c) r dz ∗ reached ER (lcell 0 c) r)
      ⊢ iprop((cred (tallyAt (lcell 0 c) r NI) -∗ WP c (k ⟨⟩) Q)
          -∗ WP c (.op (.enqueueDma src (.here wiM) (.dma sem) h1 h2 h3) k) Q) := by
  subst hsem
  iintro ⟨#HC, ⟨%f, Hf⟩, Ha, Ht, Hr⟩ Hk
  iapply (Rounds.wp_copy_pointsTo 𝒱₀ ER (ringRd m) (c : Thread nD τ) none (κ := K (c, kl 0)) (r := r) (d := dz) (fs := X) (fd := f) (q := fullShare)
      (by rw [duties_load m c 0 hr]; exact Finset.mem_singleton_self _) r NI rfl (amount_ld0 m c r dz)
      (by rw [payload_ld0, hP, hX, wi_view]; unfold ld0Pay; rw [View.write_whole_univ])) $$ [Hf Ha Ht Hr]
  · isplitr; · iapply (ctx_inv m K c (kl 0) (csem_kl 0)); iexact HC
    isplitl [Ha]; · rw [hP]; iexact Ha
    isplitl [Hf]; · rw [wi_view]; iexact Hf
    isplitl [Ht] <;> iassumption
  iexact Hk

theorem wp_ld1 (hr : r < 3) {src : Memref sig .tc .hbm S2048x1024 .f32} {X : Buf (Elt F) (src.view.loc (c : Thread nD τ))}
    (hP : (src.view.loc (c : Thread nD τ) ↦[src.view.set]{fullShare} X : sProp 𝕄) = outArg m r c) (hX : src.view.read (Elt F) X = wout m r c)
    {sem : DmaSem sig} (hsem : sem = lsem 1)
    {h1 : src.view.WordExact} {h2 : (woM).view.WordExact} {h3 : DmaTarget.Typed (nD := nD) (τ := τ) .hbm (.dma sem) (DmaTarget.here (p := Proc.tc) woM)}
    {α : Type} {k : PUnit → Prog (TpuEff nD τ sig (Elt F) Λ₀ .tc) α} {Q : α → sProp 𝕄} :
    iprop(Ctx m K ∗ (∃ f, wo c f) ∗ outArg m r c ∗ dutyTok ER (lcell 1 c) r dz ∗ reached ER (lcell 1 c) r)
      ⊢ iprop((cred (tallyAt (lcell 1 c) r NO) -∗ WP c (k ⟨⟩) Q)
          -∗ WP c (.op (.enqueueDma src (.here woM) (.dma sem) h1 h2 h3) k) Q) := by
  subst hsem
  iintro ⟨#HC, ⟨%f, Hf⟩, Ha, Ht, Hr⟩ Hk
  iapply (Rounds.wp_copy_pointsTo 𝒱₀ ER (ringRd m) (c : Thread nD τ) none (κ := K (c, kl 1)) (r := r) (d := dz) (fs := X) (fd := f) (q := fullShare)
      (by rw [duties_load m c 1 hr]; exact Finset.mem_singleton_self _) r NO rfl (amount_ld1 m c r dz)
      (by rw [payload_ld1, hP, hX, wo_view]; unfold ld1Pay; rw [View.write_whole_univ])) $$ [Hf Ha Ht Hr]
  · isplitr; · iapply (ctx_inv m K c (kl 1) (csem_kl 1)); iexact HC
    isplitl [Ha]; · rw [hP]; iexact Ha
    isplitl [Hf]; · rw [wo_view]; iexact Hf
    isplitl [Ht] <;> iassumption
  iexact Hk

end Loads

/-! ## The transfers between devices -/

/-- What `c` needs to send its partial for `p` at layer `r`. -/
def rsNeed (r : ℕ) (c p : Dev nD) : sProp 𝕄 :=
  iprop(pb c p (PART m r c) ∗ (∃ f, rs p c f) ∗ reached ER (fcell 1 p c) r ∗ (∃ f, xc c p f)
    ∗ dutyTok ER (fcell 0 c p) r dz ∗ dutyTok ER (fcell 1 p c) r dz ∗ reached ER (fcell 0 c p) r ∗ reached ER (fcell 3 c p) r)

/-- What `c` needs to send its reduced slot to `p` at layer `r`. -/
def agNeed (r : ℕ) (c p : Dev nD) : sProp 𝕄 :=
  iprop(rd c (tokShare c p) (RED m r c) ∗ (∃ f, xc p c f) ∗ reached ER (fcell 3 p c) r
    ∗ (if r < 2 then iprop((∃ f, rs c p f) ∗ reached ER (fcell 1 c p) (r + 1)) else iprop(emp))
    ∗ dutyTok ER (fcell 2 c p) r dz ∗ dutyTok ER (fcell 3 p c) r dz ∗ reached ER (fcell 2 c p) r)

section Sends
variable {c p : Dev nD} {r : ℕ}
  {offS offD : Fin 3 → ℕ} {inbS : ∀ a, offS a + S1x2x1024.size a ≤ S32x2x1024.size a} {inbD : ∀ a, offD a + S1x2x1024.size a ≤ S32x2x1024.size a}

theorem wp_rs_send (hp : p ≠ c) (hr : r < 3) (hoS : offS = off3 p) (hoD : offD = off3 c)
    {sS sR : DmaSem sig} (hsS : sS = fsem 0 p) (hsR : sR = fsem 1 c) {d : Dev nD} (hd : d = p)
    {O O' : CellTallies nD τ sig ℕ} (hO : O' = O + tallyAt (fcell 1 p c) r N)
    {hsc : (slotV rsM offD inbD).view.ref.isScScratch = false}
    {h1 : (slotV pbM offS inbS).view.WordExact} {h2 : (slotV rsM offD inbD).view.WordExact}
    {h3 : DmaTarget.Typed .vmem (.dma sR) (.remote (Dev.tc d : Thread nD τ) (slotV rsM offD inbD) (.dma sS) hsc)}
    {α : Type} {k : PUnit → Prog (TpuEff nD τ sig (Elt F) Λ₀ .tc) α} {Q : α → sProp 𝕄} :
    iprop(Ctx m K ∗ OW c O' ∗ rsNeed m r c p)
      ⊢ iprop((iprop(OW c O ∗ cred (tallyAt (fcell 0 c p) r N)) -∗ WP c (k ⟨⟩) Q)
          -∗ WP c (.op (.enqueueDma (slotV pbM offS inbS) (.remote (Dev.tc d : Thread nD τ) (slotV rsM offD inbD) (.dma sS) hsc) (.dma sR) h1 h2 h3) k) Q) := by
  subst hd hsS hsR
  unfold OW rsNeed
  iintro ⟨#HC, ⟨%W, HO⟩, Hpb, ⟨%fd, Hrs⟩, Hr1, Hxc, Ht0, Ht1, Hr0, Hr3⟩ Hk
  have hpay₁ : ((slotV pbM offS inbS).view.loc (c : Thread nD τ) ↦[(slotV pbM offS inbS).view.set]{fullShare} PART m r c : sProp 𝕄)
      ⊢ (ringRd m).payload (fcell 0 c d) r dz := by
    rw [payload_fam, pb_view hoS]; exact BI.Entails.refl _
  have hpay₂ : iprop(((slotV rsM offD inbD).view.loc (d : Thread nD τ) ↦[(slotV rsM offD inbD).view.set]{fullShare}
        ((slotV rsM offD inbD).view.write (Elt F) fd ((slotV pbM offS inbS).view.read (Elt F) (PART m r c)) Finset.univ))
      ∗ ((∃ f, xc c d f) ∗ reached ER (fcell 3 c d) r)) ⊢ (ringRd m).payload (fcell 1 d c) r dz := by
    rw [payload_fam, rs_view hoD,
      rs_congr (g := RSB m r d) fun j => (rs_write hoD inbD fd _ j).trans ((pb_read hoS inbS _ j).trans (RSB_six m r d c j).symm)]
    exact BI.Entails.refl _
  iapply (Rounds.wp_send_pointsTo_with 𝒱₀ ER (ringRd m) (c : Thread nD τ) none (κ₁ := K (c, kf 0 d)) (κ₂ := K (d, kf 1 c))
      (c' := (d : Thread nD τ)) (src := slotV pbM offS inbS) (dst := slotV rsM offD inbD)
      (r₁ := r) (r₂ := r) (d₁ := dz) (d₂ := dz) (q := fullShare) (fs := PART m r c) (fd := fd)
      (F := iprop((∃ f, xc c d f) ∗ reached ER (fcell 3 c d) r))
      (by rw [duties_fam m c 0 hp hr]; exact Finset.mem_singleton_self _)
      (by rw [duties_fam m d 1 hp.symm hr]; exact Finset.mem_singleton_self _)
      r r N (slot_amount rsM offD inbD (fsem 1 c)) (amount_fam m c 0 d r dz) (amount_fam m d 1 c r dz) O hO (W := W)
      hpay₁ hpay₂) $$ [HO Hpb Hrs Hr1 Hxc Ht0 Ht1 Hr0 Hr3]
  · isplitr; · iapply (ctx_inv m K c (kf 0 d) (csem_kf 0 d)); iexact HC
    isplitr; · iapply (ctx_inv m K d (kf 1 c) (csem_kf 1 c)); iexact HC
    isplitl [Hpb]; · rw [pb_view hoS]; iexact Hpb
    isplitl [Hrs Hxc Hr3]
    · isplitl [Hrs]; · rw [rs_view hoD]; iexact Hrs
      isplitl [Hxc] <;> iassumption
    isplitl [HO]; · iexact HO
    isplitl [Ht0]; · iexact Ht0
    isplitl [Hr0]; · iexact Hr0
    isplitl [Ht1] <;> iassumption
  iintro ⟨Hc, HO⟩
  iapply Hk
  isplitl [HO]; · iexists _; iexact HO
  iexact Hc

theorem wp_ag_send (hp : p ≠ c) (hr : r < 3) (hoD : offD = off3 c)
    {sS sR : DmaSem sig} (hsS : sS = fsem 2 p) (hsR : sR = fsem 3 c) {d : Dev nD} (hd : d = p)
    {O O' : CellTallies nD τ sig ℕ} (hO : O' = O + tallyAt (fcell 3 p c) r N)
    {hsc : (slotV xcM offD inbD).view.ref.isScScratch = false}
    {h1 : (rdM).view.WordExact} {h2 : (slotV xcM offD inbD).view.WordExact}
    {h3 : DmaTarget.Typed .vmem (.dma sR) (.remote (Dev.tc d : Thread nD τ) (slotV xcM offD inbD) (.dma sS) hsc)}
    {α : Type} {k : PUnit → Prog (TpuEff nD τ sig (Elt F) Λ₀ .tc) α} {Q : α → sProp 𝕄} :
    iprop(Ctx m K ∗ OW c O' ∗ agNeed m r c p)
      ⊢ iprop((iprop(OW c O ∗ cred (tallyAt (fcell 2 c p) r N)) -∗ WP c (k ⟨⟩) Q)
          -∗ WP c (.op (.enqueueDma rdM (.remote (Dev.tc d : Thread nD τ) (slotV xcM offD inbD) (.dma sS) hsc) (.dma sR) h1 h2 h3) k) Q) := by
  subst hd hsS hsR
  unfold OW agNeed
  iintro ⟨#HC, ⟨%W, HO⟩, Hrd, ⟨%fd, Hxc⟩, Hr3, Hn, Ht2, Ht3, Hr2⟩ Hk
  iapply (Rounds.wp_send_pointsTo_with 𝒱₀ ER (ringRd m) (c : Thread nD τ) none (κ₁ := K (c, kf 2 d)) (κ₂ := K (d, kf 3 c))
      (c' := (d : Thread nD τ)) (src := rdM) (dst := slotV xcM offD inbD)
      (r₁ := r) (r₂ := r) (d₁ := dz) (d₂ := dz) (q := tokShare c d) (fs := RED m r c) (fd := fd)
      (F := if r < 2 then iprop((∃ f, rs c d f) ∗ reached ER (fcell 1 c d) (r + 1)) else iprop(emp))
      (by rw [duties_fam m c 2 hp hr]; exact Finset.mem_singleton_self _)
      (by rw [duties_fam m d 3 hp.symm hr]; exact Finset.mem_singleton_self _)
      r r N (slot_amount xcM offD inbD (fsem 3 c)) (amount_fam m c 2 d r dz) (amount_fam m d 3 c r dz) O hO (W := W)
      (by rw [payload_fam, rd_view]; exact BI.Entails.refl _)
      (by
        rw [payload_fam, xc_view hoD,
          xc_congr (g := XC m r) fun j => (xc_write hoD inbD fd ((rdM).view.read (Elt F) (RED m r c)) j).trans (XC_six m r c j).symm]
        exact BI.Entails.refl _)) $$ [HO Hrd Hxc Hr3 Hn Ht2 Ht3 Hr2]
  · isplitr; · iapply (ctx_inv m K c (kf 2 d) (csem_kf 2 d)); iexact HC
    isplitr; · iapply (ctx_inv m K d (kf 3 c) (csem_kf 3 c)); iexact HC
    isplitl [Hrd]; · rw [rd_view]; iexact Hrd
    isplitl [Hxc Hn]
    · isplitl [Hxc]; · rw [xc_view hoD]; iexact Hxc
      iexact Hn
    isplitl [HO]; · iexact HO
    isplitl [Ht2]; · iexact Ht2
    isplitl [Hr2]; · iexact Hr2
    isplitl [Ht3] <;> iassumption
  iintro ⟨Hc, HO⟩
  iapply Hk
  isplitl [HO]; · iexists _; iexact HO
  iexact Hc

end Sends

end Cert.MlpProof

end
-- ==== Proof.Access.lean ====
module

public import proofs.«01_k».proof.Proof.Moves
public import Idealize.ShloMosaic.Lib.Pipeline.Value

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig ℕ (Elt F) ℕ UU ℕ

variable (m : (ℓ : Loc nD τ sig) → Buf (Elt F) ℓ)

/-! ## Loads and stores

A load hands on what the buffer holds, a store changes it. The whole buffers are read and
written at the origin; the buffers of slots also at one device's slot. -/

omit [FloatOps F] in
theorem hz2 : (![0, 0] : Fin 2 → ℕ) = fun _ => 0 := by decide
omit [FloatOps F] in
theorem hz3 : (![0, 0, 0] : Fin 3 → ℕ) = fun _ => 0 := by decide

section Steps1
variable {c : Dev nD}

/-- A load with what it reads named. -/
theorem wp_loadV {cs : CoreSpace} {s : Shape} {e : EltTy} {M : Memref sig .tc cs s e} {r : LoadRect s} {hl : M.view.LoadsAt r}
    {S : Finset (Idx (M.view.loc (c : Thread nD τ)))} {q : PosShare TreeShare} {f : Buf (Elt F) (M.view.loc (c : Thread nD τ))}
    (hS : M.view.setOn r.set ⊆ S) {v : r.shape.Idx → Elt F e} (hv : M.view.readAt (Elt F) r f = v)
    {α : Type} {k : (r.shape.Idx → Elt F e) → Prog (TpuEff nD τ sig (Elt F) Λ₀ .tc) α} {Q : α → sProp 𝕄} :
    (M.view.loc (c : Thread nD τ) ↦[S]{q} f : sProp 𝕄)
      ⊢ iprop(((M.view.loc (c : Thread nD τ) ↦[S]{q} f) -∗ WP c (k v) Q) -∗ WP c (.op (.load M r hl) k) Q) := by
  subst hv
  exact wp_load 𝒱₀ (c : Thread nD τ) none Set.univ hS

/-- A load whose value is thrown away. -/
theorem wp_loadD {cs : CoreSpace} {s : Shape} {e : EltTy} {M : Memref sig .tc cs s e} {r : LoadRect s} {hl : M.view.LoadsAt r}
    {q : PosShare TreeShare} {f : Buf (Elt F) (M.view.loc (c : Thread nD τ))}
    {α : Type} {k : Prog (TpuEff nD τ sig (Elt F) Λ₀ .tc) α} {Q : α → sProp 𝕄} :
    (M.view.loc (c : Thread nD τ) ↦{q} f : sProp 𝕄)
      ⊢ iprop(((M.view.loc (c : Thread nD τ) ↦{q} f) -∗ WP c k Q) -∗ WP c (.op (.load M r hl) fun _ => k) Q) :=
  wp_load 𝒱₀ (c : Thread nD τ) none Set.univ (k := fun _ => k) (Finset.subset_univ _)

/-- A store with what it leaves named. -/
theorem wp_storeV {cs : CoreSpace} {s : Shape} {e : EltTy} {M : Memref sig .tc cs s e} {r : Rect s} {w : r.shape.Idx → Elt F e} {hx hm}
    {S : Finset (Idx ((M.access r).loc (c : Thread nD τ)))} {f g : Buf (Elt F) ((M.access r).loc (c : Thread nD τ))}
    (hS : (M.access r).setOn Finset.univ ⊆ S) (hg : ∀ i ∈ S, (M.access r).write (Elt F) f w Finset.univ i = g i)
    {α : Type} {k : PUnit → Prog (TpuEff nD τ sig (Elt F) Λ₀ .tc) α} {Q : α → sProp 𝕄} :
    ((M.access r).loc (c : Thread nD τ) ↦[S]{fullShare} f : sProp 𝕄)
      ⊢ iprop((((M.access r).loc (c : Thread nD τ) ↦[S]{fullShare} g) -∗ WP c (k ⟨⟩) Q)
          -∗ WP c (.op (.store M r w Finset.univ hx hm) k) Q) := by
  rw [← pointsTo_congr (ℓ := (M.access r).loc (c : Thread nD τ)) (q := fullShare) hg]
  exact wp_store 𝒱₀ (c : Thread nD τ) none Set.univ hS

/-! The whole buffers, read and written at the origin. -/

/-- A load of the activations, whole. -/
theorem wp_loadW_x {q : PosShare TreeShare} {f : Vec F S64x1024 .f32} {inb : ∀ a, (![0, 0] : Fin S64x1024.rank → ℕ) a + S64x1024.size a ≤ S64x1024.size a} {hl}
    {α : Type} {k : Vec F S64x1024 .f32 → Prog (TpuEff nD τ sig (Elt F) Λ₀ .tc) α} {Q : α → sProp 𝕄} :
    ((((c : Thread nD τ).loc cc0_stg0_0) ↦{q} f) : sProp 𝕄) ⊢ iprop(((((c : Thread nD τ).loc cc0_stg0_0) ↦{q} f) -∗ WP c (k f) Q)
      -∗ WP c (.op (.load xM (Rect.unit (s := S64x1024) ![0, 0] S64x1024.size inb).toLoadRect hl) k) Q) :=
  wp_loadV (M := xM) (r := (Rect.unit (s := S64x1024) ![0, 0] S64x1024.size inb).toLoadRect) (Finset.subset_univ _) (Memref.readAt_unit_zero (Elt F) cc0_stg0_0 hz2 inb f)

/-- A load of the staged input weights, whole. -/
theorem wp_loadW_wi {q : PosShare TreeShare} {f : Vec F S1024x2048 .f32} {inb : ∀ a, (![0, 0] : Fin S1024x2048.rank → ℕ) a + S1024x2048.size a ≤ S1024x2048.size a} {hl}
    {α : Type} {k : Vec F S1024x2048 .f32 → Prog (TpuEff nD τ sig (Elt F) Λ₀ .tc) α} {Q : α → sProp 𝕄} :
    ((((c : Thread nD τ).loc cc0_scratch4) ↦{q} f) : sProp 𝕄) ⊢ iprop(((((c : Thread nD τ).loc cc0_scratch4) ↦{q} f) -∗ WP c (k f) Q)
      -∗ WP c (.op (.load wiM (Rect.unit (s := S1024x2048) ![0, 0] S1024x2048.size inb).toLoadRect hl) k) Q) :=
  wp_loadV (M := wiM) (r := (Rect.unit (s := S1024x2048) ![0, 0] S1024x2048.size inb).toLoadRect) (Finset.subset_univ _) (Memref.readAt_unit_zero (Elt F) cc0_scratch4 hz2 inb f)

/-- A load of the staged output weights, whole. -/
theorem wp_loadW_wo {q : PosShare TreeShare} {f : Vec F S2048x1024 .f32} {inb : ∀ a, (![0, 0] : Fin S2048x1024.rank → ℕ) a + S2048x1024.size a ≤ S2048x1024.size a} {hl}
    {α : Type} {k : Vec F S2048x1024 .f32 → Prog (TpuEff nD τ sig (Elt F) Λ₀ .tc) α} {Q : α → sProp 𝕄} :
    ((((c : Thread nD τ).loc cc0_scratch5) ↦{q} f) : sProp 𝕄) ⊢ iprop(((((c : Thread nD τ).loc cc0_scratch5) ↦{q} f) -∗ WP c (k f) Q)
      -∗ WP c (.op (.load woM (Rect.unit (s := S2048x1024) ![0, 0] S2048x1024.size inb).toLoadRect hl) k) Q) :=
  wp_loadV (M := woM) (r := (Rect.unit (s := S2048x1024) ![0, 0] S2048x1024.size inb).toLoadRect) (Finset.subset_univ _) (Memref.readAt_unit_zero (Elt F) cc0_scratch5 hz2 inb f)

/-- A load of the received partial products, whole. -/
theorem wp_loadW_rs {q : PosShare TreeShare} {f : Vec F S32x2x1024 .bf16} {inb : ∀ a, (![0, 0, 0] : Fin S32x2x1024.rank → ℕ) a + S32x2x1024.size a ≤ S32x2x1024.size a} {hl}
    {α : Type} {k : Vec F S32x2x1024 .bf16 → Prog (TpuEff nD τ sig (Elt F) Λ₀ .tc) α} {Q : α → sProp 𝕄} :
    ((((c : Thread nD τ).loc cc0_scratch1) ↦{q} f) : sProp 𝕄) ⊢ iprop(((((c : Thread nD τ).loc cc0_scratch1) ↦{q} f) -∗ WP c (k f) Q)
      -∗ WP c (.op (.load rsM (Rect.unit (s := S32x2x1024) ![0, 0, 0] S32x2x1024.size inb).toLoadRect hl) k) Q) :=
  wp_loadV (M := rsM) (r := (Rect.unit (s := S32x2x1024) ![0, 0, 0] S32x2x1024.size inb).toLoadRect) (Finset.subset_univ _) (Memref.readAt_unit_zero (Elt F) cc0_scratch1 hz3 inb f)

/-- A load of the reduced slot, whole. -/
theorem wp_loadW_rd {q : PosShare TreeShare} {f : Vec F S2x1024 .bf16} {inb : ∀ a, (![0, 0] : Fin S2x1024.rank → ℕ) a + S2x1024.size a ≤ S2x1024.size a} {hl}
    {α : Type} {k : Vec F S2x1024 .bf16 → Prog (TpuEff nD τ sig (Elt F) Λ₀ .tc) α} {Q : α → sProp 𝕄} :
    ((((c : Thread nD τ).loc cc0_scratch2) ↦{q} f) : sProp 𝕄) ⊢ iprop(((((c : Thread nD τ).loc cc0_scratch2) ↦{q} f) -∗ WP c (k f) Q)
      -∗ WP c (.op (.load rdM (Rect.unit (s := S2x1024) ![0, 0] S2x1024.size inb).toLoadRect hl) k) Q) :=
  wp_loadV (M := rdM) (r := (Rect.unit (s := S2x1024) ![0, 0] S2x1024.size inb).toLoadRect) (Finset.subset_univ _) (Memref.readAt_unit_zero (Elt F) cc0_scratch2 hz2 inb f)

/-- A load of the gathered activations, whole. -/
theorem wp_loadW_xc {q : PosShare TreeShare} {f : Vec F S32x2x1024 .bf16} {inb : ∀ a, (![0, 0, 0] : Fin S32x2x1024.rank → ℕ) a + S32x2x1024.size a ≤ S32x2x1024.size a} {hl}
    {α : Type} {k : Vec F S32x2x1024 .bf16 → Prog (TpuEff nD τ sig (Elt F) Λ₀ .tc) α} {Q : α → sProp 𝕄} :
    ((((c : Thread nD τ).loc cc0_scratch3) ↦{q} f) : sProp 𝕄) ⊢ iprop(((((c : Thread nD τ).loc cc0_scratch3) ↦{q} f) -∗ WP c (k f) Q)
      -∗ WP c (.op (.load xcM (Rect.unit (s := S32x2x1024) ![0, 0, 0] S32x2x1024.size inb).toLoadRect hl) k) Q) :=
  wp_loadV (M := xcM) (r := (Rect.unit (s := S32x2x1024) ![0, 0, 0] S32x2x1024.size inb).toLoadRect) (Finset.subset_univ _) (Memref.readAt_unit_zero (Elt F) cc0_scratch3 hz3 inb f)

/-- A store of the partial products, whole. -/
theorem wp_storeW_pb {f : Vec F S32x2x1024 .bf16} {inb : ∀ a, (![0, 0, 0] : Fin S32x2x1024.rank → ℕ) a + S32x2x1024.size a ≤ S32x2x1024.size a} {w : Vec F S32x2x1024 .bf16} {hx hm}
    {α : Type} {k : PUnit → Prog (TpuEff nD τ sig (Elt F) Λ₀ .tc) α} {Q : α → sProp 𝕄} :
    ((((c : Thread nD τ).loc cc0_scratch0) ↦{fullShare} f) : sProp 𝕄) ⊢ iprop(((((c : Thread nD τ).loc cc0_scratch0) ↦{fullShare} w) -∗ WP c (k ⟨⟩) Q)
      -∗ WP c (.op (.store pbM (Rect.unit (s := S32x2x1024) ![0, 0, 0] S32x2x1024.size inb) w Finset.univ hx hm) k) Q) :=
  wp_storeV (M := pbM) (r := Rect.unit (s := S32x2x1024) ![0, 0, 0] S32x2x1024.size inb) (Finset.subset_univ _) fun i _ => congrFun (Memref.write_access_unit_zero_univ (Elt F) cc0_scratch0 hz3 _ f w) i

/-- A store of the reduced slot, whole. -/
theorem wp_storeW_rd {f : Vec F S2x1024 .bf16} {inb : ∀ a, (![0, 0] : Fin S2x1024.rank → ℕ) a + S2x1024.size a ≤ S2x1024.size a} {w : Vec F S2x1024 .bf16} {hx hm}
    {α : Type} {k : PUnit → Prog (TpuEff nD τ sig (Elt F) Λ₀ .tc) α} {Q : α → sProp 𝕄} :
    ((((c : Thread nD τ).loc cc0_scratch2) ↦{fullShare} f) : sProp 𝕄) ⊢ iprop(((((c : Thread nD τ).loc cc0_scratch2) ↦{fullShare} w) -∗ WP c (k ⟨⟩) Q)
      -∗ WP c (.op (.store rdM (Rect.unit (s := S2x1024) ![0, 0] S2x1024.size inb) w Finset.univ hx hm) k) Q) :=
  wp_storeV (M := rdM) (r := Rect.unit (s := S2x1024) ![0, 0] S2x1024.size inb) (Finset.subset_univ _) fun i _ => congrFun (Memref.write_access_unit_zero_univ (Elt F) cc0_scratch2 hz2 _ f w) i

end Steps1

/-! ### One slot -/

/-- An index of the reduced slot as one of a slot with its leading dimension. -/
def oneUp (j : S2x1024.Idx) : S1x2x1024.Idx := ix3 (n0 := 1) (n1 := 2) (n2 := 1024) ⟨0, Nat.one_pos⟩ (j 0) (j 1)

section Slot
variable {c : Dev nD} {off : Fin 3 → ℕ} {p : Dev nD} (ho : off = ![p.val, 0, 0])
  (inb : ∀ a, off a + S1x2x1024.size a ≤ S32x2x1024.size a)

/-- Slot `p` of a buffer of slots, in the shape a load of it has. -/
def slotVec (f : Vec F S32x2x1024 .bf16) (p : Dev nD) : Vec F S1x2x1024 .bf16 := fun j => f (six p (ix2 (n0 := 2) (n1 := 1024) (j 1) (j 2)))

/-! The elements a slot's load touches are the slot's. -/

include ho in
omit [FloatOps F] in
theorem pb_touch : (pbM).view.setOn (Rect.unit (s := S32x2x1024) off S1x2x1024.size inb).toLoadRect.set = sl p :=
  (View.set_slice (pbM).view (Rect.unit (s := S32x2x1024) off S1x2x1024.size inb)).symm.trans ((View.set_slice_whole _ _).trans (unit_slot_set ho inb))
include ho in
omit [FloatOps F] in
theorem rs_touch : (rsM).view.setOn (Rect.unit (s := S32x2x1024) off S1x2x1024.size inb).toLoadRect.set = sl p :=
  (View.set_slice (rsM).view (Rect.unit (s := S32x2x1024) off S1x2x1024.size inb)).symm.trans ((View.set_slice_whole _ _).trans (unit_slot_set ho inb))
include ho in
omit [FloatOps F] in
theorem xc_touch : (xcM).view.setOn (Rect.unit (s := S32x2x1024) off S1x2x1024.size inb).toLoadRect.set = sl p :=
  (View.set_slice (xcM).view (Rect.unit (s := S32x2x1024) off S1x2x1024.size inb)).symm.trans ((View.set_slice_whole _ _).trans (unit_slot_set ho inb))

include ho in
/-- A load of slot `p` of the partial products. -/
theorem wp_load_pb {f : Vec F S32x2x1024 .bf16} {hl}
    {α : Type} {k : Vec F S1x2x1024 .bf16 → Prog (TpuEff nD τ sig (Elt F) Λ₀ .tc) α} {Q : α → sProp 𝕄} :
    (pb c p f : sProp 𝕄) ⊢ iprop((pb c p f -∗ WP c (k (slotVec f p)) Q)
      -∗ WP c (.op (.load pbM (Rect.unit (s := S32x2x1024) off S1x2x1024.size inb).toLoadRect hl) k) Q) :=
  wp_loadV (M := pbM) (r := (Rect.unit (s := S32x2x1024) off S1x2x1024.size inb).toLoadRect) (S := sl p) (f := f)
    (by exact (pb_touch ho inb).subset) (funext fun j => congrArg f (unit_slot_emb3 ho inb j))

include ho in
/-- A load of slot `p` of the received partial products, its value thrown away. -/
theorem wp_loadD_rs {f : Vec F S32x2x1024 .bf16} {hl}
    {α : Type} {k : Prog (TpuEff nD τ sig (Elt F) Λ₀ .tc) α} {Q : α → sProp 𝕄} :
    (rs c p f : sProp 𝕄) ⊢ iprop((rs c p f -∗ WP c k Q)
      -∗ WP c (.op (.load rsM (Rect.unit (s := S32x2x1024) off S1x2x1024.size inb).toLoadRect hl) fun _ => k) Q) :=
  wp_loadV (M := rsM) (r := (Rect.unit (s := S32x2x1024) off S1x2x1024.size inb).toLoadRect) (hl := hl) (S := sl p) (f := f)
    (by exact (rs_touch ho inb).subset) rfl (k := fun _ => k)

include ho in
/-- A load of slot `p` of the gathered activations, its value thrown away. -/
theorem wp_loadD_xc {f : Vec F S32x2x1024 .bf16} {hl}
    {α : Type} {k : Prog (TpuEff nD τ sig (Elt F) Λ₀ .tc) α} {Q : α → sProp 𝕄} :
    (xc c p f : sProp 𝕄) ⊢ iprop((xc c p f -∗ WP c k Q)
      -∗ WP c (.op (.load xcM (Rect.unit (s := S32x2x1024) off S1x2x1024.size inb).toLoadRect hl) fun _ => k) Q) :=
  wp_loadV (M := xcM) (r := (Rect.unit (s := S32x2x1024) off S1x2x1024.size inb).toLoadRect) (hl := hl) (S := sl p) (f := f)
    (by exact (xc_touch ho inb).subset) rfl (k := fun _ => k)

include ho in
/-- A store of slot `p` of the received partial products. -/
theorem wp_store_rs {f g : Vec F S32x2x1024 .bf16} {w : Vec F S1x2x1024 .bf16} (hw : w = slotVec g p) {hx hm}
    {α : Type} {k : PUnit → Prog (TpuEff nD τ sig (Elt F) Λ₀ .tc) α} {Q : α → sProp 𝕄} :
    (rs c p f : sProp 𝕄) ⊢ iprop((rs c p g -∗ WP c (k ⟨⟩) Q)
      -∗ WP c (.op (.store rsM (Rect.unit (s := S32x2x1024) off S1x2x1024.size inb) w Finset.univ hx hm) k) Q) :=
  wp_storeV (M := rsM) (r := Rect.unit (s := S32x2x1024) off S1x2x1024.size inb) (S := sl p) (f := f) (g := g)
    (by exact ((View.set_slice_whole _ _).trans (unit_slot_set ho inb)).subset)
    (slot_ext fun j => by
      have h1 := View.write_emb_of_mem (v := rsM.access (Rect.unit (s := S32x2x1024) off S1x2x1024.size inb)) f w (Finset.mem_univ (oneUp j))
      rw [show (rsM.access (Rect.unit (s := S32x2x1024) off S1x2x1024.size inb)).emb (oneUp j) = six p j from
        (unit_slot_emb3 ho inb _).trans (congrArg (six p) (eq_ix2 (n0 := 2) (n1 := 1024) j).symm)] at h1
      exact h1.trans (by rw [hw]; exact congrArg g (congrArg (six p) (eq_ix2 (n0 := 2) (n1 := 1024) j).symm)))

include ho in
/-- A store of slot `p` of the gathered activations. -/
theorem wp_store_xc {f g : Vec F S32x2x1024 .bf16} {w : Vec F S1x2x1024 .bf16} (hw : w = slotVec g p) {hx hm}
    {α : Type} {k : PUnit → Prog (TpuEff nD τ sig (Elt F) Λ₀ .tc) α} {Q : α → sProp 𝕄} :
    (xc c p f : sProp 𝕄) ⊢ iprop((xc c p g -∗ WP c (k ⟨⟩) Q)
      -∗ WP c (.op (.store xcM (Rect.unit (s := S32x2x1024) off S1x2x1024.size inb) w Finset.univ hx hm) k) Q) :=
  wp_storeV (M := xcM) (r := Rect.unit (s := S32x2x1024) off S1x2x1024.size inb) (S := sl p) (f := f) (g := g)
    (by exact ((View.set_slice_whole _ _).trans (unit_slot_set ho inb)).subset)
    (slot_ext fun j => by
      have h1 := View.write_emb_of_mem (v := xcM.access (Rect.unit (s := S32x2x1024) off S1x2x1024.size inb)) f w (Finset.mem_univ (oneUp j))
      rw [show (xcM.access (Rect.unit (s := S32x2x1024) off S1x2x1024.size inb)).emb (oneUp j) = six p j from
        (unit_slot_emb3 ho inb _).trans (congrArg (six p) (eq_ix2 (n0 := 2) (n1 := 1024) j).symm)] at h1
      exact h1.trans (by rw [hw]; exact congrArg g (congrArg (six p) (eq_ix2 (n0 := 2) (n1 := 1024) j).symm)))

end Slot

/-! ### What the slot stores store -/

/-- The block a device keeps is stored as it was loaded: slot `c` of device `c`'s partial products is slot `c` of what it receives. -/
theorem keep_slot (r : ℕ) (c : Dev nD) : k0_pay5 (slotVec (PART m r c) c) = slotVec (RSB m r c) c := by
  unfold k0_pay5
  rw [Idealize.ShloMosaic.shapeCast_self]
  funext j
  exact (RSB_six m r c c _).symm

/-- The reduced slot, given the leading dimension of a slot, is device `c`'s slot of what everyone gathers. -/
theorem own_slot (r : ℕ) (c : Dev nD) : k0_pay9 (RED m r c) = slotVec (XC m r) c := by
  unfold k0_pay9
  simp only [Idealize.ShloMosaic.shapeCast_self]
  funext j
  refine (Idealize.ShloMosaic.shapeCast_addUnit_apply ![2, 1024] _ _ _).trans ((congrArg (RED m r c) ?_).trans (XC_six m r c _).symm)
  funext a
  match a with
  | ⟨0, _⟩ => rfl
  | ⟨1, _⟩ => rfl

/-! ### The weights in `bf16` -/

/-- Slot `off` of device `c`'s buffer of input weights holds `w`. -/
def wibAt (c : Dev nD) (off : Fin 3 → ℕ) (inb : ∀ a, off a + S1x1024x2048.size a ≤ S2x1024x2048.size a) (w : Vec F S1x1024x2048 .bf16) : sProp 𝕄 :=
  iprop(∃ f : Vec F S2x1024x2048 .bf16, ⌜(wibM).view.readAt (Elt F) (Rect.unit (s := S2x1024x2048) off S1x1024x2048.size inb).toLoadRect f = w⌝
    ∗ (((c : Thread nD τ).loc cc0_scratch6) ↦{fullShare} f))

/-- Slot `off` of device `c`'s buffer of output weights holds `w`. -/
def wobAt (c : Dev nD) (off : Fin 3 → ℕ) (inb : ∀ a, off a + S1x2048x1024.size a ≤ S2x2048x1024.size a) (w : Vec F S1x2048x1024 .bf16) : sProp 𝕄 :=
  iprop(∃ f : Vec F S2x2048x1024 .bf16, ⌜(wobM).view.readAt (Elt F) (Rect.unit (s := S2x2048x1024) off S1x2048x1024.size inb).toLoadRect f = w⌝
    ∗ (((c : Thread nD τ).loc cc0_scratch7) ↦{fullShare} f))

/-- Either buffer, whatever it holds. -/
def wibAny (c : Dev nD) : sProp 𝕄 := iprop(∃ f : Vec F S2x1024x2048 .bf16, ((c : Thread nD τ).loc cc0_scratch6) ↦{fullShare} f)
def wobAny (c : Dev nD) : sProp 𝕄 := iprop(∃ f : Vec F S2x2048x1024 .bf16, ((c : Thread nD τ).loc cc0_scratch7) ↦{fullShare} f)

section Weights
variable {c : Dev nD} {off : Fin 3 → ℕ}

omit [FloatOps F] in
theorem wib_any {inb w} : (wibAt c off inb w : sProp 𝕄) ⊢ wibAny c := by
  unfold wibAt wibAny; iintro ⟨%f, -, H⟩; iexists f; iexact H
omit [FloatOps F] in
theorem wob_any {inb w} : (wobAt c off inb w : sProp 𝕄) ⊢ wobAny c := by
  unfold wobAt wobAny; iintro ⟨%f, -, H⟩; iexists f; iexact H

/-- A load of a slot of input weights. -/
theorem wp_load_wib {inb : ∀ a, off a + S1x1024x2048.size a ≤ S2x1024x2048.size a} {w : Vec F S1x1024x2048 .bf16} {hl}
    {α : Type} {k : Vec F S1x1024x2048 .bf16 → Prog (TpuEff nD τ sig (Elt F) Λ₀ .tc) α} {Q : α → sProp 𝕄} :
    (wibAt c off inb w : sProp 𝕄) ⊢ iprop((wibAt c off inb w -∗ WP c (k w) Q)
      -∗ WP c (.op (.load wibM (Rect.unit (s := S2x1024x2048) off S1x1024x2048.size inb).toLoadRect hl) k) Q) := by
  unfold wibAt
  iintro ⟨%f, %h, H⟩ Hk
  iapply (wp_loadV (M := wibM) (Finset.subset_univ _) h) $$ H
  iintro H; iapply Hk
  iexists f; isplitr; · ipureintro; exact h
  iexact H
theorem wp_load_wob {inb : ∀ a, off a + S1x2048x1024.size a ≤ S2x2048x1024.size a} {w : Vec F S1x2048x1024 .bf16} {hl}
    {α : Type} {k : Vec F S1x2048x1024 .bf16 → Prog (TpuEff nD τ sig (Elt F) Λ₀ .tc) α} {Q : α → sProp 𝕄} :
    (wobAt c off inb w : sProp 𝕄) ⊢ iprop((wobAt c off inb w -∗ WP c (k w) Q)
      -∗ WP c (.op (.load wobM (Rect.unit (s := S2x2048x1024) off S1x2048x1024.size inb).toLoadRect hl) k) Q) := by
  unfold wobAt
  iintro ⟨%f, %h, H⟩ Hk
  iapply (wp_loadV (M := wobM) (Finset.subset_univ _) h) $$ H
  iintro H; iapply Hk
  iexists f; isplitr; · ipureintro; exact h
  iexact H

/-- A store of a slot of input weights, after the load of it whose value is thrown away. -/
theorem wp_store_wib {inb : ∀ a, off a + S1x1024x2048.size a ≤ S2x1024x2048.size a} {w : Vec F S1x1024x2048 .bf16} {hl hx hm}
    {α : Type} {k : PUnit → Prog (TpuEff nD τ sig (Elt F) Λ₀ .tc) α} {Q : α → sProp 𝕄} :
    (wibAny c : sProp 𝕄) ⊢ iprop((wibAt c off inb w -∗ WP c (k ⟨⟩) Q)
      -∗ WP c (.op (.load wibM (Rect.unit (s := S2x1024x2048) off S1x1024x2048.size inb).toLoadRect hl) fun _ =>
          .op (.store wibM (Rect.unit (s := S2x1024x2048) off S1x1024x2048.size inb) w Finset.univ hx hm) k) Q) := by
  have hv : ∀ f : Vec F S2x1024x2048 .bf16, (wibM).view.readAt (Elt F) (Rect.unit (s := S2x1024x2048) off S1x1024x2048.size inb).toLoadRect
      ((wibM.access (Rect.unit (s := S2x1024x2048) off S1x1024x2048.size inb)).write (Elt F) f w Finset.univ) = w := fun f =>
    (View.readAt_rect (v := (wibM).view) (Rect.unit (s := S2x1024x2048) off S1x1024x2048.size inb) _).trans (View.read_write_univ (v := wibM.access (Rect.unit (s := S2x1024x2048) off S1x1024x2048.size inb)) f w)
  unfold wibAny wibAt
  iintro ⟨%f, H⟩ Hk
  iapply (wp_loadD (M := wibM)) $$ H; iintro H
  iapply (wp_storeV (M := wibM) (r := Rect.unit (s := S2x1024x2048) off S1x1024x2048.size inb) (S := Finset.univ) (f := f)
      (g := (wibM.access (Rect.unit (s := S2x1024x2048) off S1x1024x2048.size inb)).write (Elt F) f w Finset.univ) (Finset.subset_univ _) (fun _ _ => rfl)) $$ [H]; · iexact H
  iintro H
  iapply Hk
  iexists _; isplitr; swap; · iexact H
  ipureintro; exact hv f
theorem wp_store_wob {inb : ∀ a, off a + S1x2048x1024.size a ≤ S2x2048x1024.size a} {w : Vec F S1x2048x1024 .bf16} {hl hx hm}
    {α : Type} {k : PUnit → Prog (TpuEff nD τ sig (Elt F) Λ₀ .tc) α} {Q : α → sProp 𝕄} :
    (wobAny c : sProp 𝕄) ⊢ iprop((wobAt c off inb w -∗ WP c (k ⟨⟩) Q)
      -∗ WP c (.op (.load wobM (Rect.unit (s := S2x2048x1024) off S1x2048x1024.size inb).toLoadRect hl) fun _ =>
          .op (.store wobM (Rect.unit (s := S2x2048x1024) off S1x2048x1024.size inb) w Finset.univ hx hm) k) Q) := by
  have hv : ∀ f : Vec F S2x2048x1024 .bf16, (wobM).view.readAt (Elt F) (Rect.unit (s := S2x2048x1024) off S1x2048x1024.size inb).toLoadRect
      ((wobM.access (Rect.unit (s := S2x2048x1024) off S1x2048x1024.size inb)).write (Elt F) f w Finset.univ) = w := fun f =>
    (View.readAt_rect (v := (wobM).view) (Rect.unit (s := S2x2048x1024) off S1x2048x1024.size inb) _).trans (View.read_write_univ (v := wobM.access (Rect.unit (s := S2x2048x1024) off S1x2048x1024.size inb)) f w)
  unfold wobAny wobAt
  iintro ⟨%f, H⟩ Hk
  iapply (wp_loadD (M := wobM)) $$ H; iintro H
  iapply (wp_storeV (M := wobM) (r := Rect.unit (s := S2x2048x1024) off S1x2048x1024.size inb) (S := Finset.univ) (f := f)
      (g := (wobM.access (Rect.unit (s := S2x2048x1024) off S1x2048x1024.size inb)).write (Elt F) f w Finset.univ) (Finset.subset_univ _) (fun _ _ => rfl)) $$ [H]; · iexact H
  iintro H
  iapply Hk
  iexists _; isplitr; swap; · iexact H
  ipureintro; exact hv f

end Weights

/-! ### Whole buffers and their slots -/

section Wholes
variable (c : Dev nD) (f : Vec F S32x2x1024 .bf16)

omit [FloatOps F] in
theorem sl_cover : (Finset.univ : Finset (Dev nD)).biUnion sl = Finset.univ := by
  ext i; simp only [Finset.mem_biUnion, Finset.mem_univ, true_and, iff_true]
  exact ⟨slotOf i, mem_sl.mpr rfl⟩

/-- The three buffers of slots whole. -/
abbrev pbW (c : Dev nD) (f : Vec F S32x2x1024 .bf16) : sProp 𝕄 := ((c : Thread nD τ).loc cc0_scratch0) ↦{fullShare} f
abbrev rsW (c : Dev nD) (f : Vec F S32x2x1024 .bf16) : sProp 𝕄 := ((c : Thread nD τ).loc cc0_scratch1) ↦{fullShare} f
abbrev xcW (c : Dev nD) (f : Vec F S32x2x1024 .bf16) : sProp 𝕄 := ((c : Thread nD τ).loc cc0_scratch3) ↦{fullShare} f

omit [FloatOps F] in
theorem pbW_eq : (pbW c f : sProp 𝕄) = iprop(pb c c f ∗ bigSep (PE c) fun p => pb c p f) := by
  have h := pointsTo_biUnion (Ix := ℕ) (Val := Elt F) (Name := ℕ) (U := UU) (Lvl := ℕ) (ℓ := (c : Thread nD τ).loc cc0_scratch0) (q := fullShare) (f := f) (Finset.univ : Finset (Dev nD)) sl (fun p _ q _ hpq => sl_disjoint hpq)
  rw [sl_cover] at h
  exact h.trans (bigSep_univ_at _ c)
omit [FloatOps F] in
theorem rsW_eq : (rsW c f : sProp 𝕄) = iprop(rs c c f ∗ bigSep (PE c) fun p => rs c p f) := by
  have h := pointsTo_biUnion (Ix := ℕ) (Val := Elt F) (Name := ℕ) (U := UU) (Lvl := ℕ) (ℓ := (c : Thread nD τ).loc cc0_scratch1) (q := fullShare) (f := f) (Finset.univ : Finset (Dev nD)) sl (fun p _ q _ hpq => sl_disjoint hpq)
  rw [sl_cover] at h
  exact h.trans (bigSep_univ_at _ c)
omit [FloatOps F] in
theorem xcW_eq : (xcW c f : sProp 𝕄) = iprop(xc c c f ∗ bigSep (PE c) fun p => xc c p f) := by
  have h := pointsTo_biUnion (Ix := ℕ) (Val := Elt F) (Name := ℕ) (U := UU) (Lvl := ℕ) (ℓ := (c : Thread nD τ).loc cc0_scratch3) (q := fullShare) (f := f) (Finset.univ : Finset (Dev nD)) sl (fun p _ q _ hpq => sl_disjoint hpq)
  rw [sl_cover] at h
  exact h.trans (bigSep_univ_at _ c)

omit [FloatOps F] in
/-- The reduced slot is what is left after a share for each peer, with the shares. -/
theorem rd_eq (g : Vec F S2x1024 .bf16) :
    (rd c fullShare g : sProp 𝕄) ⊣⊢ iprop(rd c (shareDrop fullShare 31) g ∗ bigSep (PE c) fun p => rd c (tokShare c p) g) := by
  have h := Transfers.pointsTo_toks_range (Ix := ℕ) (Val := Elt F) (Name := ℕ) (U := UU) (Lvl := ℕ) fullShare 31 (ℓ := (c : Thread nD τ).loc cc0_scratch2) (S := Finset.univ) (f := g)
  have e : bigSep (PE c) (fun p => rd c (tokShare c p) g) = bigSep (Finset.range 31) (fun k => ((((c : Thread nD τ).loc cc0_scratch2) ↦{shareTokN fullShare k} g) : sProp 𝕄)) := by
    rw [bigSep_peers]
    exact bigSep_congr fun k hk => by unfold tokShare; rw [trip_pr c (Finset.mem_range.mp hk)]; rfl
  rw [e]
  exact h
end Wholes

end Cert.MlpProof

end
-- ==== Proof.Phases.lean ====
module

public import proofs.«01_k».proof.Proof.Access

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig ℕ (Elt F) ℕ UU ℕ

variable (m : (ℓ : Loc nD τ sig) → Buf (Elt F) ℓ)

/-! ## The phases of a layer

A layer is seven loops over the peers: sends of the partial products, the waits for those received,
sends of the reduced slot, the waits for the partial products to have left, for the reduced slots
received, and for the reduced slot to have left. Each has one rule here, of any layer `r`. -/

/-! ### What is held for all peers at once -/

/-- Device `c` is at round `r` of its cells `a` of all peers. -/
def posF (a : Fin 4) (c : Dev nD) (r : ℕ) : sProp 𝕄 := bigSep (PE c) fun p => at' a c p r
/-- The credit of one round of the cells `a` of all peers. -/
def crF (a : Fin 4) (c : Dev nD) (r : ℕ) : sProp 𝕄 := bigSep (PE c) fun p => cred (tallyAt (fcell a c p) r N)
/-- Slot `c` of every peer's buffer of received partial products, at layer `r`. -/
def AV (c : Dev nD) (r : ℕ) : sProp 𝕄 := bigSep (PE c) fun p => iprop((∃ f, rs p c f) ∗ reached ER (fcell 1 p c) r)
/-- Slot `c` of every peer's buffer of gathered activations, at layer `r`. -/
def GAV (c : Dev nD) (r : ℕ) : sProp 𝕄 := bigSep (PE c) fun p => iprop((∃ f, xc p c f) ∗ reached ER (fcell 3 p c) r)
/-- The peers' slots of `c`'s own buffers. -/
def RAV (c : Dev nD) : sProp 𝕄 := bigSep (PE c) fun p => iprop(∃ f, rs c p f)
def XAV (c : Dev nD) : sProp 𝕄 := bigSep (PE c) fun p => iprop(∃ f, xc c p f)
/-- What goes with the reduced slot to the peers: the slots for the next layer, if there is one. -/
def NX (c : Dev nD) (r : ℕ) : sProp 𝕄 :=
  bigSep (PE c) fun p => if r < 2 then iprop((∃ f, rs c p f) ∗ reached ER (fcell 1 c p) (r + 1)) else iprop(emp)
/-- The right to send once to every peer: a partial product, a reduced slot. -/
def TOKr (c : Dev nD) (r : ℕ) : sProp 𝕄 := bigSep (PE c) fun p => iprop(dutyTok ER (fcell 0 c p) r dz ∗ dutyTok ER (fcell 1 p c) r dz)
def TOKg (c : Dev nD) (r : ℕ) : sProp 𝕄 := bigSep (PE c) fun p => iprop(dutyTok ER (fcell 2 c p) r dz ∗ dutyTok ER (fcell 3 p c) r dz)
/-- The peers' slots of a buffer, and the shares of the reduced slot. -/
def pbP (c : Dev nD) (f : Vec F S32x2x1024 .bf16) : sProp 𝕄 := bigSep (PE c) fun p => pb c p f
def rsP (c : Dev nD) (f : Vec F S32x2x1024 .bf16) : sProp 𝕄 := bigSep (PE c) fun p => rs c p f
def xcP (c : Dev nD) (f : Vec F S32x2x1024 .bf16) : sProp 𝕄 := bigSep (PE c) fun p => xc c p f
def rdP (c : Dev nD) (g : Vec F S2x1024 .bf16) : sProp 𝕄 := bigSep (PE c) fun p => rd c (tokShare c p) g

omit [FloatOps F] in
theorem NX_last (c : Dev nD) : (iprop(emp) : sProp 𝕄) ⊢ NX c 2 := by
  unfold NX
  simp only [show ¬ (2 : ℕ) < 2 from by decide, if_false]
  exact eqv (bigSep_emp_const _).symm

omit [FloatOps F] in
/-- The slots for the next layer go out once this layer's have all been received. -/
theorem NX_next (c : Dev nD) {r : ℕ} (hr : r < 2) : iprop(RAV c ∗ posF 1 c (r + 1) : sProp 𝕄) ⊢ iprop(NX c r ∗ posF 1 c (r + 1)) := by
  unfold RAV posF NX at'
  simp only [hr, if_true, ← bigSep_sep']
  refine each fun p => ?_
  iintro ⟨H, Ha, #Hr⟩
  isplitl [H]
  · isplitl; · iexact H
    iexact Hr
  isplitl; · iexact Ha
  iexact Hr

omit [FloatOps F] in
theorem rsP_any (c : Dev nD) (f : Vec F S32x2x1024 .bf16) : (rsP c f : sProp 𝕄) ⊢ RAV c := by
  unfold rsP RAV; exact each fun p => by iintro H; iexists f; iexact H
omit [FloatOps F] in
theorem xcP_any (c : Dev nD) (f : Vec F S32x2x1024 .bf16) : (xcP c f : sProp 𝕄) ⊢ XAV c := by
  unfold xcP XAV; exact each fun p => by iintro H; iexists f; iexact H

/-! ### Sends -/

section Loops
variable (K : Dev nD × Fin 131 → ℕ) {c : Dev nD} {r : ℕ} {l : Scf.Loop 32}

/-- What the sends of the partial products take, gathered per peer. -/
theorem rsNeed_all : iprop(pbP c (PART m r c) ∗ AV c r ∗ XAV c ∗ TOKr c r ∗ posF 0 c r ∗ posF 3 c r)
    ⊢ iprop((bigSep (PE c) fun p => rsNeed m r c p) ∗ posF 0 c r ∗ posF 3 c r) := by
  unfold pbP AV XAV TOKr posF rsNeed at'
  simp only [← bigSep_sep']
  refine each fun p => ?_
  iintro ⟨Hpb, ⟨Hrs, Hr1⟩, Hxc, ⟨Ht0, Ht1⟩, ⟨Ha0, #Hr0⟩, Ha3, #Hr3⟩
  isplitl [Hpb Hrs Hr1 Hxc Ht0 Ht1]
  · isplitl [Hpb]; · iexact Hpb
    isplitl [Hrs]; · iexact Hrs
    isplitl [Hr1]; · iexact Hr1
    isplitl [Hxc]; · iexact Hxc
    isplitl [Ht0]; · iexact Ht0
    isplitl [Ht1]; · iexact Ht1
    isplitl <;> iassumption
  isplitl [Ha0]
  · isplitl <;> iassumption
  isplitl <;> iassumption

/-- What the sends of the reduced slot take, gathered per peer. -/
theorem agNeed_all : iprop(rdP c (RED m r c) ∗ GAV c r ∗ NX c r ∗ TOKg c r ∗ posF 2 c r)
    ⊢ iprop((bigSep (PE c) fun p => agNeed m r c p) ∗ posF 2 c r) := by
  unfold rdP GAV NX TOKg posF agNeed at'
  simp only [← bigSep_sep']
  refine each fun p => ?_
  iintro ⟨Hrd, ⟨Hxc, Hr3⟩, Hn, ⟨Ht2, Ht3⟩, Ha2, #Hr2⟩
  isplitl [Hrd Hxc Hr3 Hn Ht2 Ht3]
  · isplitl [Hrd]; · iexact Hrd
    isplitl [Hxc]; · iexact Hxc
    isplitl [Hr3]; · iexact Hr3
    isplitl [Hn]; · iexact Hn
    isplitl [Ht2]; · iexact Ht2
    isplitl [Ht3]; · iexact Ht3
    iexact Hr2
  isplitl <;> iassumption

/-- The loop of signals to the peers' barriers. -/
theorem wp_signal_loop (hl : l.trips = 31) {hok : l.OK} {body : Fin l.trips → Unit → Prog (TpuEff nD τ sig (Elt F) Λ₀ .tc) Unit}
    (hbody : ∀ (k : Fin l.trips) {O O' : CellTallies nD τ sig ℕ}, O' = O + tallyAt (barCell (pr c k.val)) 0 1 → pr c k.val ≠ c →
      iprop(Ctx m K ∗ OW c O' ∗ dutyTok ER (barCell (pr c k.val)) 0 c ∗ ∃ f, rs c (pr c k.val) f) ⊢ WP c (body k ()) fun _ => OW c O)
    {α : Type} {kk : Unit → Prog (TpuEff nD τ sig (Elt F) Λ₀ .tc) α} {Q : α → sProp 𝕄} :
    iprop(Ctx m K ∗ OW c (O₀ c) ∗ (bigSep (PE c) fun p => dutyTok ER (barCell p) 0 c) ∗ RAV c)
      ⊢ iprop((OW c (OT c 0) -∗ WP c (kk ()) Q) -∗ WP c (Scf.Loop.for l hok () body >>= kk) Q) := by
  have h := wp_peers (P := Ctx m K) (R := fun k => OW c (OT c 0 + OB c k)) (Φ := fun p => iprop(dutyTok ER (barCell p) 0 c ∗ ∃ f, rs c p f))
    (Ψ := fun _ => iprop(emp)) hl (hok := hok) (body := body)
    (fun k => by
      have hk : k.val < 31 := hl ▸ k.isLt
      refine (hbody k (O := OT c 0 + OB c (k.val + 1)) (by rw [OB_peel c hk, add_assoc]) (pr_ne c hk)).trans (wp_mono _ _ _ fun _ => ?_)
      iintro H; isplitl; · iexact H
      iempintro) (kk := kk) (Q := Q)
  rw [OB_end, add_zero] at h
  iintro ⟨#HC, HO, Ht, Hr⟩ Hk
  iapply h $$ [HO Ht Hr]
  · isplitr; · iexact HC
    isplitl [HO]; · iexact HO
    unfold RAV; rw [bigSep_sep']
    isplitl [Ht] <;> iassumption
  iintro ⟨HO, -⟩
  iapply Hk; iexact HO

/-- The loop of sends of the partial products. -/
theorem wp_rs_loop (hr : r < 3) (hl : l.trips = 31) {hok : l.OK} {body : Fin l.trips → Unit → Prog (TpuEff nD τ sig (Elt F) Λ₀ .tc) Unit}
    (hbody : ∀ (k : Fin l.trips) {O O' : CellTallies nD τ sig ℕ}, O' = O + tallyAt (fcell 1 (pr c k.val) c) r N → pr c k.val ≠ c →
      iprop(Ctx m K ∗ OW c O' ∗ rsNeed m r c (pr c k.val)) ⊢ WP c (body k ()) fun _ => iprop(OW c O ∗ cred (tallyAt (fcell 0 c (pr c k.val)) r N)))
    {α : Type} {kk : Unit → Prog (TpuEff nD τ sig (Elt F) Λ₀ .tc) α} {Q : α → sProp 𝕄} :
    iprop(Ctx m K ∗ OW c (OT c (2 * r)) ∗ pbP c (PART m r c) ∗ AV c r ∗ XAV c ∗ TOKr c r ∗ posF 0 c r ∗ posF 3 c r)
      ⊢ iprop((iprop(OW c (OT c (2 * r + 1)) ∗ crF 0 c r ∗ posF 0 c r ∗ posF 3 c r) -∗ WP c (kk ()) Q)
          -∗ WP c (Scf.Loop.for l hok () body >>= kk) Q) := by
  have e2 : 2 * r / 2 = r := by omega
  have eA : stA (2 * r) = 1 := by unfold stA; rw [if_pos (by omega)]
  have h := wp_peers (P := Ctx m K) (R := fun k => OW c (OT c (2 * r + 1) + OS c (2 * r) k)) (Φ := fun p => rsNeed m r c p)
    (Ψ := fun p => cred (tallyAt (fcell 0 c p) r N)) hl (hok := hok) (body := body)
    (fun k => by
      have hk : k.val < 31 := hl ▸ k.isLt
      exact hbody k (by rw [OS_peel c (2 * r) hk, add_assoc, e2]; unfold stCell; rw [eA]) (pr_ne c hk)) (kk := kk) (Q := Q)
  rw [OS_end, add_zero, ← OT_peel c (by omega : 2 * r < 6)] at h
  iintro ⟨#HC, HO, Hn⟩ Hk
  ihave Hn := (rsNeed_all m (c := c) (r := r)) $$ Hn
  icases Hn with ⟨Hn, H0, H3⟩
  iapply h $$ [HO Hn]
  · isplitr; · iexact HC
    isplitl [HO] <;> iassumption
  iintro ⟨HO, Hc⟩
  iapply Hk
  isplitl [HO]; · iexact HO
  isplitl [Hc]; · unfold crF; iexact Hc
  isplitl [H0] <;> iassumption

/-- The loop of sends of the reduced slot. -/
theorem wp_ag_loop (hr : r < 3) (hl : l.trips = 31) {hok : l.OK} {body : Fin l.trips → Unit → Prog (TpuEff nD τ sig (Elt F) Λ₀ .tc) Unit}
    (hbody : ∀ (k : Fin l.trips) {O O' : CellTallies nD τ sig ℕ}, O' = O + tallyAt (fcell 3 (pr c k.val) c) r N → pr c k.val ≠ c →
      iprop(Ctx m K ∗ OW c O' ∗ agNeed m r c (pr c k.val)) ⊢ WP c (body k ()) fun _ => iprop(OW c O ∗ cred (tallyAt (fcell 2 c (pr c k.val)) r N)))
    {α : Type} {kk : Unit → Prog (TpuEff nD τ sig (Elt F) Λ₀ .tc) α} {Q : α → sProp 𝕄} :
    iprop(Ctx m K ∗ OW c (OT c (2 * r + 1)) ∗ rdP c (RED m r c) ∗ GAV c r ∗ NX c r ∗ TOKg c r ∗ posF 2 c r)
      ⊢ iprop((iprop(OW c (OT c (2 * r + 2)) ∗ crF 2 c r ∗ posF 2 c r) -∗ WP c (kk ()) Q)
          -∗ WP c (Scf.Loop.for l hok () body >>= kk) Q) := by
  have e2 : (2 * r + 1) / 2 = r := by omega
  have eA : stA (2 * r + 1) = 3 := by unfold stA; rw [if_neg (by omega)]
  have h := wp_peers (P := Ctx m K) (R := fun k => OW c (OT c (2 * r + 2) + OS c (2 * r + 1) k)) (Φ := fun p => agNeed m r c p)
    (Ψ := fun p => cred (tallyAt (fcell 2 c p) r N)) hl (hok := hok) (body := body)
    (fun k => by
      have hk : k.val < 31 := hl ▸ k.isLt
      exact hbody k (by rw [OS_peel c (2 * r + 1) hk, add_assoc, e2]; unfold stCell; rw [eA]) (pr_ne c hk)) (kk := kk) (Q := Q)
  rw [OS_end, add_zero, ← OT_peel c (by omega : 2 * r + 1 < 6)] at h
  iintro ⟨#HC, HO, Hn⟩ Hk
  ihave Hn := (agNeed_all m (c := c) (r := r)) $$ Hn
  icases Hn with ⟨Hn, H2⟩
  iapply h $$ [HO Hn]
  · isplitr; · iexact HC
    isplitl [HO] <;> iassumption
  iintro ⟨HO, Hc⟩
  iapply Hk
  isplitl [HO]; · iexact HO
  isplitl [Hc]; · unfold crF; iexact Hc
  iexact H2

/-! ### Waits -/

/-- A loop of waits, one at cell `a` of every peer. -/
theorem wp_wait_loop (a : Fin 4) {s : ℕ} (hl : l.trips = 31) {hok : l.OK} {body : Fin l.trips → Unit → Prog (TpuEff nD τ sig (Elt F) Λ₀ .tc) Unit}
    (hbody : ∀ (k : Fin l.trips), pr c k.val ≠ c →
      iprop(Ctx m K ∗ OW c (OT c s) ∗ cred (tallyAt (fcell a c (pr c k.val)) r N) ∗ at' a c (pr c k.val) r)
        ⊢ WP c (body k ()) fun _ => iprop(OW c (OT c s) ∗ at' a c (pr c k.val) (r + 1) ∗ famPay m a r c (pr c k.val)))
    {α : Type} {kk : Unit → Prog (TpuEff nD τ sig (Elt F) Λ₀ .tc) α} {Q : α → sProp 𝕄} :
    iprop(Ctx m K ∗ OW c (OT c s) ∗ crF a c r ∗ posF a c r)
      ⊢ iprop((iprop(OW c (OT c s) ∗ posF a c (r + 1) ∗ bigSep (PE c) fun p => famPay m a r c p) -∗ WP c (kk ()) Q)
          -∗ WP c (Scf.Loop.for l hok () body >>= kk) Q) := by
  have h := wp_peers (P := Ctx m K) (R := fun _ => OW c (OT c s)) (Φ := fun p => iprop(cred (tallyAt (fcell a c p) r N) ∗ at' a c p r))
    (Ψ := fun p => iprop(at' a c p (r + 1) ∗ famPay m a r c p)) hl (hok := hok) (body := body)
    (fun k => hbody k (pr_ne c (hl ▸ k.isLt))) (kk := kk) (Q := Q)
  rw [bigSep_sep', bigSep_sep'] at h
  iintro ⟨#HC, HO, Hc, Ha⟩ Hk
  iapply h $$ [HO Hc Ha]
  · isplitr; · iexact HC
    isplitl [HO]; · iexact HO
    isplitl [Hc]; · unfold crF; iexact Hc
    unfold posF; iexact Ha
  iintro ⟨HO, Ha, Hp⟩
  iapply Hk
  isplitl [HO]; · iexact HO
  isplitl [Ha]; · unfold posF; iexact Ha
  iexact Hp

end Loops

/-! ### One trip -/

section Trips
variable (K : Dev nD × Fin 131 → ℕ) {c p : Dev nD} {r : ℕ}

theorem trip_signal (hp : p ≠ c) {O O' : CellTallies nD τ sig ℕ} (hO : O' = O + tallyAt (barCell p) 0 1) {d : Dev nD} (hd : d = p) :
    iprop(Ctx m K ∗ OW c O' ∗ dutyTok ER (barCell p) 0 c ∗ ∃ f, rs c p f)
      ⊢ WP c (.op (.semSignal (d : Thread nD τ) barS 1) fun _ => .ret ()) fun _ => OW c O := by
  iintro H
  iapply (wp_signal_bar m K hp hO hd) $$ H
  iintro H; iapply ret_intro; iexact H

theorem trip_wait (a : Fin 4) (hp : p ≠ c) (hr : r < 3) {s : ℕ} (hs : lv (fcell a c p) r < 2 + s)
    {sp sp' : CoreSpace} {sh sh' : Shape} {e e' : EltTy} {src : Memref sig .tc sp sh e} {dst : Memref sig .tc sp' sh' e'} {h1 h2}
    {sem : DmaSem sig} (hsem : sem = fsem a p) (hN : dst.view.dmaCredit = N) :
    iprop(Ctx m K ∗ OW c (OT c s) ∗ cred (tallyAt (fcell a c p) r N) ∗ at' a c p r)
      ⊢ WP c (.op (.waitDma2 sem src dst h1 h2) fun _ => .ret ()) fun _ => iprop(OW c (OT c s) ∗ at' a c p (r + 1) ∗ famPay m a r c p) := by
  iintro H
  iapply (wp_wait_fam m K a hp hr hs hsem hN) $$ H
  iintro H; iapply ret_intro; iexact H

variable {offS offD : Fin 3 → ℕ} {inbS : ∀ a, offS a + S1x2x1024.size a ≤ S32x2x1024.size a} {inbD : ∀ a, offD a + S1x2x1024.size a ≤ S32x2x1024.size a}

theorem trip_rs (hp : p ≠ c) (hr : r < 3) (hoS : offS = off3 p) (hoD : offD = off3 c)
    {sS sR : DmaSem sig} (hsS : sS = fsem 0 p) (hsR : sR = fsem 1 c) {d : Dev nD} (hd : d = p)
    {O O' : CellTallies nD τ sig ℕ} (hO : O' = O + tallyAt (fcell 1 p c) r N)
    {hsc : (slotV rsM offD inbD).view.ref.isScScratch = false}
    {h1 : (slotV pbM offS inbS).view.WordExact} {h2 : (slotV rsM offD inbD).view.WordExact}
    {h3 : DmaTarget.Typed .vmem (.dma sR) (.remote (Dev.tc d : Thread nD τ) (slotV rsM offD inbD) (.dma sS) hsc)} :
    iprop(Ctx m K ∗ OW c O' ∗ rsNeed m r c p)
      ⊢ WP c (.op (.enqueueDma (slotV pbM offS inbS) (.remote (Dev.tc d : Thread nD τ) (slotV rsM offD inbD) (.dma sS) hsc) (.dma sR) h1 h2 h3) fun _ => .ret ())
          fun _ => iprop(OW c O ∗ cred (tallyAt (fcell 0 c p) r N)) := by
  iintro H
  iapply (wp_rs_send m K hp hr hoS hoD hsS hsR hd hO) $$ H
  iintro H; iapply ret_intro; iexact H

theorem trip_ag (hp : p ≠ c) (hr : r < 3) (hoD : offD = off3 c)
    {sS sR : DmaSem sig} (hsS : sS = fsem 2 p) (hsR : sR = fsem 3 c) {d : Dev nD} (hd : d = p)
    {O O' : CellTallies nD τ sig ℕ} (hO : O' = O + tallyAt (fcell 3 p c) r N)
    {hsc : (slotV xcM offD inbD).view.ref.isScScratch = false}
    {h1 : (rdM).view.WordExact} {h2 : (slotV xcM offD inbD).view.WordExact}
    {h3 : DmaTarget.Typed .vmem (.dma sR) (.remote (Dev.tc d : Thread nD τ) (slotV xcM offD inbD) (.dma sS) hsc)} :
    iprop(Ctx m K ∗ OW c O' ∗ agNeed m r c p)
      ⊢ WP c (.op (.enqueueDma rdM (.remote (Dev.tc d : Thread nD τ) (slotV xcM offD inbD) (.dma sS) hsc) (.dma sR) h1 h2 h3) fun _ => .ret ())
          fun _ => iprop(OW c O ∗ cred (tallyAt (fcell 2 c p) r N)) := by
  iintro H
  iapply (wp_ag_send m K hp hr hoD hsS hsR hd hO) $$ H
  iintro H; iapply ret_intro; iexact H

end Trips

end Cert.MlpProof

end
-- ==== Proof.Program.lean ====
module

public import proofs.«01_k».proof.Proof.Phases
public import proofs.«01_k».proof.Proof.Gen.KernelIdeal.Points

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig ℕ (Elt F) ℕ UU ℕ

/-! ## The body's eleven parts, on the buffers the kernel is launched with -/

set_option maxRecDepth 65536

abbrev P1  : Prog (TpuEff nD τ sig (Elt F) Λ₀ .tc) (Σ' (d0 : Dev nD) (v2 : BitVec 32) (v3 : Sems sig S_), FVec F S64x1024 .bf16) :=
  k0_part1 xM (hstage0_0 0) (Memref.whole main_arg1) (Memref.isWhole_whole _) (Memref.whole main_arg2) (Memref.isWhole_whole _) (Memref.whole main_arg3) (Memref.isWhole_whole _)
    (Memref.whole main_arg4) (Memref.isWhole_whole _) (Memref.whole main_arg5) (Memref.isWhole_whole _) (Memref.whole main_arg6) (Memref.isWhole_whole _) oM (hstage0_1 0)
    pbM (Memref.isWhole_whole _) rsM (Memref.isWhole_whole _) rdM (Memref.isWhole_whole _) xcM (Memref.isWhole_whole _) wiM (Memref.isWhole_whole _) woM (Memref.isWhole_whole _)
    wibM (Memref.isWhole_whole _) wobM (Memref.isWhole_whole _) cc0_scratch8 cc0_scratch9 cc0_scratch10 cc0_scratch11 cc0_scratch12

abbrev P2 (d0 : Dev nD) (v2 : BitVec 32) (v3 : Sems sig S_) (v11 : FVec F S64x1024 .bf16) : Prog (TpuEff nD τ sig (Elt F) Λ₀ .tc) (FVec F S1024x2048 .bf16) :=
  k0_part2 xM (hstage0_0 0) (Memref.whole main_arg1) (Memref.isWhole_whole _) (Memref.whole main_arg2) (Memref.isWhole_whole _) (Memref.whole main_arg3) (Memref.isWhole_whole _)
    (Memref.whole main_arg4) (Memref.isWhole_whole _) (Memref.whole main_arg5) (Memref.isWhole_whole _) (Memref.whole main_arg6) (Memref.isWhole_whole _) oM (hstage0_1 0)
    pbM (Memref.isWhole_whole _) rsM (Memref.isWhole_whole _) rdM (Memref.isWhole_whole _) xcM (Memref.isWhole_whole _) wiM (Memref.isWhole_whole _) woM (Memref.isWhole_whole _)
    wibM (Memref.isWhole_whole _) wobM (Memref.isWhole_whole _) cc0_scratch8 cc0_scratch9 cc0_scratch10 cc0_scratch11 cc0_scratch12 d0 v2 v3 v11

abbrev P3 (d0 : Dev nD) (v2 : BitVec 32) (v54 : FVec F S1024x2048 .bf16) : Prog (TpuEff nD τ sig (Elt F) Λ₀ .tc) (Vec F S2048x1024 .f32) :=
  k0_part3 xM (hstage0_0 0) (Memref.whole main_arg1) (Memref.isWhole_whole _) (Memref.whole main_arg2) (Memref.isWhole_whole _) (Memref.whole main_arg3) (Memref.isWhole_whole _)
    (Memref.whole main_arg4) (Memref.isWhole_whole _) (Memref.whole main_arg5) (Memref.isWhole_whole _) (Memref.whole main_arg6) (Memref.isWhole_whole _) oM (hstage0_1 0)
    pbM (Memref.isWhole_whole _) rsM (Memref.isWhole_whole _) rdM (Memref.isWhole_whole _) xcM (Memref.isWhole_whole _) wiM (Memref.isWhole_whole _) woM (Memref.isWhole_whole _)
    wibM (Memref.isWhole_whole _) wobM (Memref.isWhole_whole _) cc0_scratch8 cc0_scratch9 cc0_scratch10 cc0_scratch11 cc0_scratch12 d0 v2 v54

abbrev P4 (d0 : Dev nD) (v2 : BitVec 32) (v78 : Vec F S2048x1024 .f32) : Prog (TpuEff nD τ sig (Elt F) Λ₀ .tc) (Σ' (c1_i32_97 : BitVec 32), BitVec 32) :=
  k0_part4 xM (hstage0_0 0) (Memref.whole main_arg1) (Memref.isWhole_whole _) (Memref.whole main_arg2) (Memref.isWhole_whole _) (Memref.whole main_arg3) (Memref.isWhole_whole _)
    (Memref.whole main_arg4) (Memref.isWhole_whole _) (Memref.whole main_arg5) (Memref.isWhole_whole _) (Memref.whole main_arg6) (Memref.isWhole_whole _) oM (hstage0_1 0)
    pbM (Memref.isWhole_whole _) rsM (Memref.isWhole_whole _) rdM (Memref.isWhole_whole _) xcM (Memref.isWhole_whole _) wiM (Memref.isWhole_whole _) woM (Memref.isWhole_whole _)
    wibM (Memref.isWhole_whole _) wobM (Memref.isWhole_whole _) cc0_scratch8 cc0_scratch9 cc0_scratch10 cc0_scratch11 cc0_scratch12 d0 v2 v78

abbrev P5 (d0 : Dev nD) (v2 : BitVec 32) (c1_i32_97 : BitVec 32) (c1_i32_99 : BitVec 32) : Prog (TpuEff nD τ sig (Elt F) Λ₀ .tc) (BitVec 32) :=
  k0_part5 xM (hstage0_0 0) (Memref.whole main_arg1) (Memref.isWhole_whole _) (Memref.whole main_arg2) (Memref.isWhole_whole _) (Memref.whole main_arg3) (Memref.isWhole_whole _)
    (Memref.whole main_arg4) (Memref.isWhole_whole _) (Memref.whole main_arg5) (Memref.isWhole_whole _) (Memref.whole main_arg6) (Memref.isWhole_whole _) oM (hstage0_1 0)
    pbM (Memref.isWhole_whole _) rsM (Memref.isWhole_whole _) rdM (Memref.isWhole_whole _) xcM (Memref.isWhole_whole _) wiM (Memref.isWhole_whole _) woM (Memref.isWhole_whole _)
    wibM (Memref.isWhole_whole _) wobM (Memref.isWhole_whole _) cc0_scratch8 cc0_scratch9 cc0_scratch10 cc0_scratch11 cc0_scratch12 d0 v2 c1_i32_97 c1_i32_99

abbrev P6 (d0 : Dev nD) (v2 : BitVec 32) (c1_i32_125 : BitVec 32) : Prog (TpuEff nD τ sig (Elt F) Λ₀ .tc) (Σ' (v149 : FVec F S64x2048 .bf16) (v151 : FVec F S2048x1024 .bf16), FVec F S64x1024 .f32) :=
  k0_part6 xM (hstage0_0 0) (Memref.whole main_arg1) (Memref.isWhole_whole _) (Memref.whole main_arg2) (Memref.isWhole_whole _) (Memref.whole main_arg3) (Memref.isWhole_whole _)
    (Memref.whole main_arg4) (Memref.isWhole_whole _) (Memref.whole main_arg5) (Memref.isWhole_whole _) (Memref.whole main_arg6) (Memref.isWhole_whole _) oM (hstage0_1 0)
    pbM (Memref.isWhole_whole _) rsM (Memref.isWhole_whole _) rdM (Memref.isWhole_whole _) xcM (Memref.isWhole_whole _) wiM (Memref.isWhole_whole _) woM (Memref.isWhole_whole _)
    wibM (Memref.isWhole_whole _) wobM (Memref.isWhole_whole _) cc0_scratch8 cc0_scratch9 cc0_scratch10 cc0_scratch11 cc0_scratch12 d0 v2 c1_i32_125

abbrev P7 (d0 : Dev nD) (v2 : BitVec 32) (v149 : FVec F S64x2048 .bf16) (v151 : FVec F S2048x1024 .bf16) (cst_158 : FVec F S64x1024 .f32) : Prog (TpuEff nD τ sig (Elt F) Λ₀ .tc) (Σ' (c1_i32_184 : BitVec 32), BitVec 32) :=
  k0_part7 xM (hstage0_0 0) (Memref.whole main_arg1) (Memref.isWhole_whole _) (Memref.whole main_arg2) (Memref.isWhole_whole _) (Memref.whole main_arg3) (Memref.isWhole_whole _)
    (Memref.whole main_arg4) (Memref.isWhole_whole _) (Memref.whole main_arg5) (Memref.isWhole_whole _) (Memref.whole main_arg6) (Memref.isWhole_whole _) oM (hstage0_1 0)
    pbM (Memref.isWhole_whole _) rsM (Memref.isWhole_whole _) rdM (Memref.isWhole_whole _) xcM (Memref.isWhole_whole _) wiM (Memref.isWhole_whole _) woM (Memref.isWhole_whole _)
    wibM (Memref.isWhole_whole _) wobM (Memref.isWhole_whole _) cc0_scratch8 cc0_scratch9 cc0_scratch10 cc0_scratch11 cc0_scratch12 d0 v2 v149 v151 cst_158

abbrev P8 (d0 : Dev nD) (v2 : BitVec 32) (c1_i32_184 : BitVec 32) (c31_i32_185 : BitVec 32) : Prog (TpuEff nD τ sig (Elt F) Λ₀ .tc) (PUnit) :=
  k0_part8 xM (hstage0_0 0) (Memref.whole main_arg1) (Memref.isWhole_whole _) (Memref.whole main_arg2) (Memref.isWhole_whole _) (Memref.whole main_arg3) (Memref.isWhole_whole _)
    (Memref.whole main_arg4) (Memref.isWhole_whole _) (Memref.whole main_arg5) (Memref.isWhole_whole _) (Memref.whole main_arg6) (Memref.isWhole_whole _) oM (hstage0_1 0)
    pbM (Memref.isWhole_whole _) rsM (Memref.isWhole_whole _) rdM (Memref.isWhole_whole _) xcM (Memref.isWhole_whole _) wiM (Memref.isWhole_whole _) woM (Memref.isWhole_whole _)
    wibM (Memref.isWhole_whole _) wobM (Memref.isWhole_whole _) cc0_scratch8 cc0_scratch9 cc0_scratch10 cc0_scratch11 cc0_scratch12 d0 v2 c1_i32_184 c31_i32_185

abbrev P9 (v2 : BitVec 32) : Prog (TpuEff nD τ sig (Elt F) Λ₀ .tc) (Vec F S8x2x1024 .bf16) :=
  k0_part9 xM (hstage0_0 0) (Memref.whole main_arg1) (Memref.isWhole_whole _) (Memref.whole main_arg2) (Memref.isWhole_whole _) (Memref.whole main_arg3) (Memref.isWhole_whole _)
    (Memref.whole main_arg4) (Memref.isWhole_whole _) (Memref.whole main_arg5) (Memref.isWhole_whole _) (Memref.whole main_arg6) (Memref.isWhole_whole _) oM (hstage0_1 0)
    pbM (Memref.isWhole_whole _) rsM (Memref.isWhole_whole _) rdM (Memref.isWhole_whole _) xcM (Memref.isWhole_whole _) wiM (Memref.isWhole_whole _) woM (Memref.isWhole_whole _)
    wibM (Memref.isWhole_whole _) wobM (Memref.isWhole_whole _) cc0_scratch8 cc0_scratch9 cc0_scratch10 cc0_scratch11 cc0_scratch12 v2

abbrev P10 (v2 : BitVec 32) (v233 : Vec F S8x2x1024 .bf16) : Prog (TpuEff nD τ sig (Elt F) Λ₀ .tc) (FVec F S16x1024 .f32) :=
  k0_part10 xM (hstage0_0 0) (Memref.whole main_arg1) (Memref.isWhole_whole _) (Memref.whole main_arg2) (Memref.isWhole_whole _) (Memref.whole main_arg3) (Memref.isWhole_whole _)
    (Memref.whole main_arg4) (Memref.isWhole_whole _) (Memref.whole main_arg5) (Memref.isWhole_whole _) (Memref.whole main_arg6) (Memref.isWhole_whole _) oM (hstage0_1 0)
    pbM (Memref.isWhole_whole _) rsM (Memref.isWhole_whole _) rdM (Memref.isWhole_whole _) xcM (Memref.isWhole_whole _) wiM (Memref.isWhole_whole _) woM (Memref.isWhole_whole _)
    wibM (Memref.isWhole_whole _) wobM (Memref.isWhole_whole _) cc0_scratch8 cc0_scratch9 cc0_scratch10 cc0_scratch11 cc0_scratch12 v2 v233

abbrev P11 (v2 : BitVec 32) (v263 : FVec F S16x1024 .f32) : Prog (TpuEff nD τ sig (Elt F) Λ₀ .tc) (FVec F S16x1024 .f32) :=
  k0_part11 xM (hstage0_0 0) (Memref.whole main_arg1) (Memref.isWhole_whole _) (Memref.whole main_arg2) (Memref.isWhole_whole _) (Memref.whole main_arg3) (Memref.isWhole_whole _)
    (Memref.whole main_arg4) (Memref.isWhole_whole _) (Memref.whole main_arg5) (Memref.isWhole_whole _) (Memref.whole main_arg6) (Memref.isWhole_whole _) oM (hstage0_1 0)
    pbM (Memref.isWhole_whole _) rsM (Memref.isWhole_whole _) rdM (Memref.isWhole_whole _) xcM (Memref.isWhole_whole _) wiM (Memref.isWhole_whole _) woM (Memref.isWhole_whole _)
    wibM (Memref.isWhole_whole _) wobM (Memref.isWhole_whole _) cc0_scratch8 cc0_scratch9 cc0_scratch10 cc0_scratch11 cc0_scratch12 v2 v263

/-- The word a device computes for its own index. -/
abbrev myW (c : Dev nD) : BitVec 32 := Scalar.remsi (Scalar.divsi (Dev.word c) 1#32) 32#32

/-- The body is its parts in a row, then the last rows of the output and the last waits. -/
theorem body_eq (t : Fin cfg0.N) : bodyAt0 (F := F) t = cc0_body_skel xM (hstage0_0 0) (Memref.whole main_arg1) (Memref.isWhole_whole _) (Memref.whole main_arg2) (Memref.isWhole_whole _) (Memref.whole main_arg3) (Memref.isWhole_whole _)
    (Memref.whole main_arg4) (Memref.isWhole_whole _) (Memref.whole main_arg5) (Memref.isWhole_whole _) (Memref.whole main_arg6) (Memref.isWhole_whole _) oM (hstage0_1 0)
    pbM (Memref.isWhole_whole _) rsM (Memref.isWhole_whole _) rdM (Memref.isWhole_whole _) xcM (Memref.isWhole_whole _) wiM (Memref.isWhole_whole _) woM (Memref.isWhole_whole _)
    wibM (Memref.isWhole_whole _) wobM (Memref.isWhole_whole _) cc0_scratch8 cc0_scratch9 cc0_scratch10 cc0_scratch11 cc0_scratch12 := by
  show cc0_body _ _ _ _ _ _ _ _ _ _ _ _ _ _ _ _ _ _ _ _ _ _ _ _ _ _ _ _ _ _ _ _ _ _ _ _ _ = _
  rw [cc0_body_eq_skeleton]

end Cert.MlpProof

end
-- ==== Proof.Blocks.lean ====
module

public import proofs.«01_k».proof.Proof.Program

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig ℕ (Elt F) ℕ UU ℕ

variable (m : (ℓ : Loc nD τ sig) → Buf (Elt F) ℓ)

/-! ## Runs of steps every layer has -/

/-! ### What a loop of waits brings, gathered -/

section Got
variable {c : Dev nD} {r : ℕ}

theorem got_snd : (bigSep (PE c) fun p => famPay m 0 r c p) ⊢ (pbP c (PART m r c) : sProp 𝕄) := BI.Entails.refl _
theorem got_rcv : (bigSep (PE c) fun p => famPay m 1 r c p) ⊢ (iprop(rsP c (RSB m r c) ∗ GAV c r) : sProp 𝕄) := by
  unfold rsP GAV; rw [← bigSep_sep']; exact BI.Entails.refl _
theorem got_gsnd : (bigSep (PE c) fun p => famPay m 2 r c p) ⊢ (rdP c (RED m r c) : sProp 𝕄) := BI.Entails.refl _
theorem got_grcv (hr : r < 2) : (bigSep (PE c) fun p => famPay m 3 r c p) ⊢ (iprop(xcP c (XC m r) ∗ AV c (r + 1)) : sProp 𝕄) := by
  unfold xcP AV; rw [← bigSep_sep']
  refine each fun p => ?_
  unfold famPay grcvPay
  simp only [hr, if_true]
  exact BI.Entails.refl _

omit [FloatOps F] in
theorem rd_join (g : Vec F S2x1024 .bf16) : iprop(rd c (shareDrop fullShare 31) g ∗ rdP c g) ⊢ (rd c fullShare g : sProp 𝕄) := (rd_eq c g).2
omit [FloatOps F] in
theorem rd_part (g : Vec F S2x1024 .bf16) : (rd c fullShare g : sProp 𝕄) ⊢ iprop(rd c (shareDrop fullShare 31) g ∗ rdP c g) := (rd_eq c g).1
omit [FloatOps F] in
theorem pb_join (f : Vec F S32x2x1024 .bf16) : iprop(pb c c f ∗ pbP c f) ⊢ (pbW c f : sProp 𝕄) := eqv (pbW_eq c f).symm
omit [FloatOps F] in
theorem pb_part (f : Vec F S32x2x1024 .bf16) : (pbW c f : sProp 𝕄) ⊢ iprop(pb c c f ∗ pbP c f) := eqv (pbW_eq c f)
omit [FloatOps F] in
theorem rs_join (f : Vec F S32x2x1024 .bf16) : iprop(rs c c f ∗ rsP c f) ⊢ (rsW c f : sProp 𝕄) := eqv (rsW_eq c f).symm
omit [FloatOps F] in
theorem rs_part (f : Vec F S32x2x1024 .bf16) : (rsW c f : sProp 𝕄) ⊢ iprop(rs c c f ∗ rsP c f) := eqv (rsW_eq c f)
omit [FloatOps F] in
theorem xc_join (f : Vec F S32x2x1024 .bf16) : iprop(xc c c f ∗ xcP c f) ⊢ (xcW c f : sProp 𝕄) := eqv (xcW_eq c f).symm
omit [FloatOps F] in
theorem xc_part (f : Vec F S32x2x1024 .bf16) : (xcW c f : sProp 𝕄) ⊢ iprop(xc c c f ∗ xcP c f) := eqv (xcW_eq c f)
end Got

/-! ### The payloads of later layers are the first's -/

theorem pay7_eq (v : Vec F S1024x2048 .f32) : k0_pay7 (k0_pay6 v) = k0_pay2 v := rfl
theorem pay13_eq : k0_pay13 (F := F) = k0_pay2 := rfl
theorem pay10_eq : k0_pay10 (F := F) = k0_pay3 := rfl
theorem pay16_eq : k0_pay16 (F := F) = k0_pay3 := rfl
theorem pay12_eq : k0_pay12 (F := F) = k0_pay5 := rfl
theorem pay20_eq : k0_pay20 (F := F) = k0_pay5 := rfl
theorem pay14_eq : k0_pay14 (F := F) = k0_pay8 := rfl
theorem pay21_eq : k0_pay21 (F := F) = k0_pay8 := rfl
theorem pay15_eq : k0_pay15 (F := F) = k0_pay9 := rfl
theorem pay22_eq : k0_pay22 (F := F) = k0_pay9 := rfl
theorem pay19_eq (x : Vec F S32x2x1024 .bf16) (a : Vec F S1x1024x2048 .bf16) (b : Vec F S1x2048x1024 .bf16) :
    k0_pay19 (k0_pay17 x a) (k0_pay18 b) (constant S64x1024 .f32 0#32) = k0_pay11 x a b := rfl

section Runs
variable {c : Dev nD} {r : ℕ} {off : Fin 3 → ℕ} (ho : off = off3 c) {inb : ∀ a, off a + S1x2x1024.size a ≤ S32x2x1024.size a}

include ho in
/-- A device's own block is copied where the received ones arrive. -/
theorem wp_keep {inb' : ∀ a, off a + S1x2x1024.size a ≤ S32x2x1024.size a} {hl hl' hx hm}
    {α : Type} {k : PUnit → Prog (TpuEff nD τ sig (Elt F) Λ₀ .tc) α} {Q : α → sProp 𝕄} :
    iprop(pb c c (PART m r c) ∗ ∃ f, rs c c f)
      ⊢ iprop((iprop(pb c c (PART m r c) ∗ rs c c (RSB m r c)) -∗ WP c (k ⟨⟩) Q)
        -∗ WP c (.op (.load pbM (Rect.unit (s := S32x2x1024) off S1x2x1024.size inb).toLoadRect hl) fun v =>
            .op (.load rsM (Rect.unit (s := S32x2x1024) off S1x2x1024.size inb').toLoadRect hl') fun _ =>
            .op (.store rsM (Rect.unit (s := S32x2x1024) off S1x2x1024.size inb') (k0_pay5 v) Finset.univ hx hm) k) Q) := by
  iintro ⟨Hp, %f, Hr⟩ Hk
  iapply (wp_load_pb ho inb) $$ Hp; iintro Hp
  iapply (wp_loadD_rs ho inb') $$ Hr; iintro Hr
  iapply (wp_store_rs ho inb' (g := RSB m r c) (keep_slot m r c)) $$ Hr; iintro Hr
  iapply Hk
  isplitl [Hp] <;> iassumption

include ho in
/-- The received blocks are summed into the reduced slot, which is put in its place among the gathered ones. -/
theorem wp_reduce {i1 : ∀ a, (![0, 0, 0] : Fin S32x2x1024.rank → ℕ) a + S32x2x1024.size a ≤ S32x2x1024.size a}
    {i2 i3 i4 : ∀ a, (![0, 0] : Fin S2x1024.rank → ℕ) a + S2x1024.size a ≤ S2x1024.size a} {inb' : ∀ a, off a + S1x2x1024.size a ≤ S32x2x1024.size a}
    {h1 h2 h3 h4 h5 h6 h7 h8}
    {α : Type} {k : PUnit → Prog (TpuEff nD τ sig (Elt F) Λ₀ .tc) α} {Q : α → sProp 𝕄} :
    iprop(rsW c (RSB m r c) ∗ (∃ g, rd c fullShare g) ∗ ∃ f, xc c c f)
      ⊢ iprop((iprop(rsW c (RSB m r c) ∗ rd c fullShare (RED m r c) ∗ xc c c (XC m r)) -∗ WP c (k ⟨⟩) Q)
        -∗ WP c (.op (.load rsM (Rect.unit (s := S32x2x1024) ![0, 0, 0] S32x2x1024.size i1).toLoadRect h1) fun v =>
            .op (.load rdM (Rect.unit (s := S2x1024) ![0, 0] S2x1024.size i2).toLoadRect h2) fun _ =>
            .op (.store rdM (Rect.unit (s := S2x1024) ![0, 0] S2x1024.size i3) (k0_pay8 v) Finset.univ h3 h4) fun _ =>
            .op (.load rdM (Rect.unit (s := S2x1024) ![0, 0] S2x1024.size i4).toLoadRect h5) fun w =>
            .op (.load xcM (Rect.unit (s := S32x2x1024) off S1x2x1024.size inb).toLoadRect h6) fun _ =>
            .op (.store xcM (Rect.unit (s := S32x2x1024) off S1x2x1024.size inb') (k0_pay9 w) Finset.univ h7 h8) k) Q) := by
  unfold rd
  iintro ⟨Hrs, ⟨%g, Hrd⟩, %f, Hxc⟩ Hk
  iapply wp_loadW_rs $$ Hrs; iintro Hrs
  iapply (wp_loadW_rd (k := fun _ => _)) $$ Hrd; iintro Hrd
  iapply wp_storeW_rd $$ Hrd; iintro Hrd
  iapply wp_loadW_rd $$ Hrd; iintro Hrd
  iapply (wp_loadD_xc ho inb) $$ Hxc; iintro Hxc
  iapply (wp_store_xc ho inb' (g := XC m r) (own_slot m r c)) $$ Hxc; iintro Hxc
  iapply Hk
  isplitl [Hrs]; · iexact Hrs
  isplitl [Hrd]; · iexact Hrd
  iexact Hxc

end Runs

/-! ### The weights staged -/

section Stage
variable (K : Dev nD × Fin 131 → ℕ) {c : Dev nD} {r : ℕ}

/-- The transfer of layer `r`'s input weights into their staging buffer starts. -/
theorem start_in (hr : r < 3) {src : Memref sig .tc .hbm S1024x2048 .f32} {X : Buf (Elt F) (src.view.loc (c : Thread nD τ))}
    (hP : (src.view.loc (c : Thread nD τ) ↦[src.view.set]{fullShare} X : sProp 𝕄) = inArg m r c) (hX : src.view.read (Elt F) X = win m r c)
    {sem : DmaSem sig} (hsem : sem = lsem 0)
    {h1 : src.view.WordExact} {h2 : (wiM).view.WordExact} {h3 : DmaTarget.Typed (nD := nD) (τ := τ) .hbm (.dma sem) (DmaTarget.here (p := Proc.tc) wiM)}
    {α : Type} {k : PUnit → Prog (TpuEff nD τ sig (Elt F) Λ₀ .tc) α} {Q : α → sProp 𝕄} :
    iprop(Ctx m K ∗ (∃ f, wi c f) ∗ inArg m r c ∗ dutyTok ER (lcell 0 c) r dz ∗ atL 0 c r)
      ⊢ iprop((iprop(cred (tallyAt (lcell 0 c) r NI) ∗ atL 0 c r) -∗ WP c (k ⟨⟩) Q)
          -∗ WP c (.op (.enqueueDma src (.here wiM) (.dma sem) h1 h2 h3) k) Q) := by
  unfold atL
  iintro ⟨#HC, Hw, Hi, Ht, Ha, #Hr⟩ Hk
  iapply (wp_ld0 m K hr hP hX hsem) $$ [Hw Hi Ht]
  · isplitr; · iexact HC
    isplitl [Hw]; · iexact Hw
    isplitl [Hi]; · iexact Hi
    isplitl [Ht]; · iexact Ht
    iexact Hr
  iintro Hc; iapply Hk
  isplitl [Hc]; · iexact Hc
  isplitl [Ha]; · iexact Ha
  iexact Hr

/-- The transfer of layer `r`'s output weights into their staging buffer starts. -/
theorem start_out (hr : r < 3) {src : Memref sig .tc .hbm S2048x1024 .f32} {X : Buf (Elt F) (src.view.loc (c : Thread nD τ))}
    (hP : (src.view.loc (c : Thread nD τ) ↦[src.view.set]{fullShare} X : sProp 𝕄) = outArg m r c) (hX : src.view.read (Elt F) X = wout m r c)
    {sem : DmaSem sig} (hsem : sem = lsem 1)
    {h1 : src.view.WordExact} {h2 : (woM).view.WordExact} {h3 : DmaTarget.Typed (nD := nD) (τ := τ) .hbm (.dma sem) (DmaTarget.here (p := Proc.tc) woM)}
    {α : Type} {k : PUnit → Prog (TpuEff nD τ sig (Elt F) Λ₀ .tc) α} {Q : α → sProp 𝕄} :
    iprop(Ctx m K ∗ (∃ f, wo c f) ∗ outArg m r c ∗ dutyTok ER (lcell 1 c) r dz ∗ atL 1 c r)
      ⊢ iprop((iprop(cred (tallyAt (lcell 1 c) r NO) ∗ atL 1 c r) -∗ WP c (k ⟨⟩) Q)
          -∗ WP c (.op (.enqueueDma src (.here woM) (.dma sem) h1 h2 h3) k) Q) := by
  unfold atL
  iintro ⟨#HC, Hw, Hi, Ht, Ha, #Hr⟩ Hk
  iapply (wp_ld1 m K hr hP hX hsem) $$ [Hw Hi Ht]
  · isplitr; · iexact HC
    isplitl [Hw]; · iexact Hw
    isplitl [Hi]; · iexact Hi
    isplitl [Ht]; · iexact Ht
    iexact Hr
  iintro Hc; iapply Hk
  isplitl [Hc]; · iexact Hc
  isplitl [Ha]; · iexact Ha
  iexact Hr

/-- The staged input weights are awaited. -/
theorem end_in (hr : r < 3) {s : ℕ} {src : Memref sig .tc .hbm S1024x2048 .f32} {h1 : src.view.WordExact} {h2 : (wiM).view.WordExact}
    {sem : DmaSem sig} (hsem : sem = lsem 0)
    {α : Type} {k : PUnit → Prog (TpuEff nD τ sig (Elt F) Λ₀ .tc) α} {Q : α → sProp 𝕄} :
    iprop(Ctx m K ∗ OW c (OT c s) ∗ cred (tallyAt (lcell 0 c) r NI) ∗ atL 0 c r)
      ⊢ iprop((iprop(OW c (OT c s) ∗ atL 0 c (r + 1) ∗ wi c (win m r c) ∗ inArg m r c) -∗ WP c (k ⟨⟩) Q)
          -∗ WP c (.op (.waitDma2 sem src wiM h1 h2) k) Q) :=
  wp_wait_ld0 m K hr (mayWait_stage c (.dma (lsem 0)) hr (by show 0 < 2 + s; omega)) hsem rfl

/-- The staged output weights are awaited. -/
theorem end_out (hr : r < 3) {s : ℕ} {src : Memref sig .tc .hbm S2048x1024 .f32} {h1 : src.view.WordExact} {h2 : (woM).view.WordExact}
    {sem : DmaSem sig} (hsem : sem = lsem 1)
    {α : Type} {k : PUnit → Prog (TpuEff nD τ sig (Elt F) Λ₀ .tc) α} {Q : α → sProp 𝕄} :
    iprop(Ctx m K ∗ OW c (OT c s) ∗ cred (tallyAt (lcell 1 c) r NO) ∗ atL 1 c r)
      ⊢ iprop((iprop(OW c (OT c s) ∗ atL 1 c (r + 1) ∗ wo c (wout m r c) ∗ outArg m r c) -∗ WP c (k ⟨⟩) Q)
          -∗ WP c (.op (.waitDma2 sem src woM h1 h2) k) Q) :=
  wp_wait_ld1 m K hr (mayWait_stage c (.dma (lsem 1)) hr (by show 0 < 2 + s; omega)) hsem rfl

omit [FloatOps F] in
theorem in_held0 : (((Memref.whole main_arg1).view.loc (c : Thread nD τ)) ↦[(Memref.whole main_arg1).view.set]{fullShare} m ((c : Thread nD τ).loc main_arg1) : sProp 𝕄) = inArg m 0 c :=
  congrArg (fun S => (((c : Thread nD τ).loc main_arg1) ↦[S]{fullShare} m ((c : Thread nD τ).loc main_arg1) : sProp 𝕄)) (View.set_whole _)
omit [FloatOps F] in
theorem in_held1 : (((Memref.whole main_arg3).view.loc (c : Thread nD τ)) ↦[(Memref.whole main_arg3).view.set]{fullShare} m ((c : Thread nD τ).loc main_arg3) : sProp 𝕄) = inArg m 1 c :=
  congrArg (fun S => (((c : Thread nD τ).loc main_arg3) ↦[S]{fullShare} m ((c : Thread nD τ).loc main_arg3) : sProp 𝕄)) (View.set_whole _)
omit [FloatOps F] in
theorem in_held2 : (((Memref.whole main_arg5).view.loc (c : Thread nD τ)) ↦[(Memref.whole main_arg5).view.set]{fullShare} m ((c : Thread nD τ).loc main_arg5) : sProp 𝕄) = inArg m 2 c :=
  congrArg (fun S => (((c : Thread nD τ).loc main_arg5) ↦[S]{fullShare} m ((c : Thread nD τ).loc main_arg5) : sProp 𝕄)) (View.set_whole _)
omit [FloatOps F] in
theorem out_held0 : (((Memref.whole main_arg2).view.loc (c : Thread nD τ)) ↦[(Memref.whole main_arg2).view.set]{fullShare} m ((c : Thread nD τ).loc main_arg2) : sProp 𝕄) = outArg m 0 c :=
  congrArg (fun S => (((c : Thread nD τ).loc main_arg2) ↦[S]{fullShare} m ((c : Thread nD τ).loc main_arg2) : sProp 𝕄)) (View.set_whole _)
omit [FloatOps F] in
theorem out_held1 : (((Memref.whole main_arg4).view.loc (c : Thread nD τ)) ↦[(Memref.whole main_arg4).view.set]{fullShare} m ((c : Thread nD τ).loc main_arg4) : sProp 𝕄) = outArg m 1 c :=
  congrArg (fun S => (((c : Thread nD τ).loc main_arg4) ↦[S]{fullShare} m ((c : Thread nD τ).loc main_arg4) : sProp 𝕄)) (View.set_whole _)
omit [FloatOps F] in
theorem out_held2 : (((Memref.whole main_arg6).view.loc (c : Thread nD τ)) ↦[(Memref.whole main_arg6).view.set]{fullShare} m ((c : Thread nD τ).loc main_arg6) : sProp 𝕄) = outArg m 2 c :=
  congrArg (fun S => (((c : Thread nD τ).loc main_arg6) ↦[S]{fullShare} m ((c : Thread nD τ).loc main_arg6) : sProp 𝕄)) (View.set_whole _)

/-- The two staging semaphores. -/
theorem ld_sem0 {inb : ∀ a, (![0] : Fin 1 → ℕ) a + S1.size a ≤ S2.size a} : ((cc0_scratch8.slice (Rect.unit (s := S2) ![0] S1.size inb)).squeeze S_ squeezes_S1_S_).sem = lsem 0 :=
  sem8 (p := 0) rfl inb
theorem ld_sem1 {inb : ∀ a, (![1] : Fin 1 → ℕ) a + S1.size a ≤ S2.size a} : ((cc0_scratch8.slice (Rect.unit (s := S2) ![1] S1.size inb)).squeeze S_ squeezes_S1_S_).sem = lsem 1 :=
  sem8 (p := 1) rfl inb
end Stage

end Cert.MlpProof

end
-- ==== Proof.First.lean ====
module

public import proofs.«01_k».proof.Proof.Blocks

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig ℕ (Elt F) ℕ UU ℕ

variable (m : (ℓ : Loc nD τ sig) → Buf (Elt F) ℓ)

/-! ## The first layer -/

set_option maxRecDepth 65536

variable (K : Dev nD × Fin 131 → ℕ) {c : Dev nD}

/-- Part 1: the peers are told this device is ready; the first layer's weights are staged and rounded. -/
theorem part1_ok {Q : (Σ' (d0 : Dev nD) (v2 : BitVec 32) (v3 : Sems sig S_), FVec F S64x1024 .bf16) → sProp 𝕄} :
    iprop(Ctx m K ∗ OW c (O₀ c) ∗ (bigSep (PE c) fun p => dutyTok ER (barCell p) 0 c) ∗ RAV c
        ∗ (∃ f, wi c f) ∗ (∃ f, wo c f) ∗ inArg m 0 c ∗ inArg m 1 c ∗ outArg m 0 c
        ∗ dutyTok ER (lcell 0 c) 0 dz ∗ dutyTok ER (lcell 0 c) 1 dz ∗ dutyTok ER (lcell 1 c) 0 dz ∗ atL 0 c 0 ∗ atL 1 c 0
        ∗ (((c : Thread nD τ).loc cc0_stg0_0) ↦{fullShare} xstg m c) ∗ wibAny c ∗ wobAny c)
      ⊢ iprop((iprop(OW c (OT c 0) ∗ cred (tallyAt (lcell 0 c) 1 NI) ∗ atL 0 c 1 ∗ atL 1 c 1 ∗ (∃ f, wo c f) ∗ inArg m 0 c ∗ outArg m 0 c
          ∗ wibAt c ![0, 0, 0] inb_S2x1024x2048_S1x1024x2048_0_0_0 (wbin m 0 c) ∗ wobAt c ![0, 0, 0] inb_S2x2048x1024_S1x2048x1024_0_0_0 (wbout m 0 c)
          ∗ (((c : Thread nD τ).loc cc0_stg0_0) ↦{fullShare} xstg m c))
            -∗ Q ⟨c, myW c, SemArray.scalar (sig.barrier 0 rfl), k0_pay1 (xstg m c)⟩) -∗ WP c P1 Q) := by
  unfold P1
  rw [k0_part1_eq_skeleton]; unfold k0_part1_skel
  simp only [semSignalWord, semWaitWord, Prog.lift, Prog.bind_op, Prog.bind_ret, Prog.pure_eq_ret, wp_deviceId]
  iintro ⟨#HC, HO, Ht, Hrs, Hwi, Hwo, Hi0, Hi1, Ho0, Ht0, Ht1, Ht2, Ha0, Ha1, Hx, Hwib, Hwob⟩ Hk
  iapply (wp_signal_loop m K (l := k0_t1_loop) trips31 fun k O O' hO hp => by
    unfold k0_t1_body
    simp only [semSignalWord, semWaitWord, Prog.lift, Prog.bind_op, Prog.bind_ret, Prog.pure_eq_ret]
    exact trip_signal m K hp hO (Fin.ext (dev_word c (trips31 ▸ k.isLt)))) $$ [HO Ht Hrs]
  · isplitr; · iexact HC
    isplitl [HO]; · iexact HO
    isplitl [Ht] <;> iassumption
  iintro HO
  iapply (start_in m K (r := 0) (by decide) (in_held0 m) rfl ld_sem0) $$ [Hwi Hi0 Ht0 Ha0]
  · isplitr; · iexact HC
    isplitl [Hwi]; · iexact Hwi
    isplitl [Hi0]; · iexact Hi0
    isplitl [Ht0] <;> iassumption
  iintro ⟨Hc0, Ha0⟩
  iapply (start_out m K (r := 0) (by decide) (out_held0 m) rfl ld_sem1) $$ [Hwo Ho0 Ht2 Ha1]
  · isplitr; · iexact HC
    isplitl [Hwo]; · iexact Hwo
    isplitl [Ho0]; · iexact Ho0
    isplitl [Ht2] <;> iassumption
  iintro ⟨Hc1, Ha1⟩
  iapply wp_loadW_x $$ Hx; iintro Hx
  iapply (end_in m K (r := 0) (by decide) ld_sem0) $$ [HO Hc0 Ha0]
  · isplitr; · iexact HC
    isplitl [HO]; · iexact HO
    isplitl [Hc0] <;> iassumption
  iintro ⟨HO, Ha0, Hwi, Hi0⟩
  unfold wi
  iapply wp_loadW_wi $$ Hwi; iintro Hwi
  iapply wp_store_wib $$ Hwib; iintro Hwib
  iapply (start_in m K (r := 1) (by decide) (in_held1 m) rfl ld_sem0) $$ [Hwi Hi1 Ht1 Ha0]
  · isplitr; · iexact HC
    isplitl [Hwi]; · iexists _; unfold wi; iexact Hwi
    isplitl [Hi1]; · iexact Hi1
    isplitl [Ht1] <;> iassumption
  iintro ⟨Hc0, Ha0⟩
  iapply (end_out m K (r := 0) (by decide) ld_sem1) $$ [HO Hc1 Ha1]
  · isplitr; · iexact HC
    isplitl [HO]; · iexact HO
    isplitl [Hc1] <;> iassumption
  iintro ⟨HO, Ha1, Hwo, Ho0⟩
  unfold wo
  iapply wp_loadW_wo $$ Hwo; iintro Hwo
  iapply wp_store_wob $$ Hwob; iintro Hwob
  iapply ret_intro
  iapply Hk
  isplitl [HO]; · iexact HO
  isplitl [Hc0]; · iexact Hc0
  isplitl [Ha0]; · iexact Ha0
  isplitl [Ha1]; · iexact Ha1
  isplitl [Hwo]; · iexists _; iexact Hwo
  isplitl [Hi0]; · iexact Hi0
  isplitl [Ho0]; · iexact Ho0
  isplitl [Hwib]; · unfold wbin; iexact Hwib
  isplitl [Hwob]; · unfold wbout; iexact Hwob
  iexact Hx

/-- What comes with the signals is what the first sends need of the peers. -/
theorem bar_first : iprop(Ctx m K ∗ bigSep (PE c) fun p => barPay c p) ⊢ (AV c 0 : sProp 𝕄) := by
  have h : ∀ p : Dev nD, iprop(Ctx m K ∗ barPay c p) ⊢ (iprop((∃ f, rs p c f) ∗ reached ER (fcell 1 p c) 0) : sProp 𝕄) := fun p => by
    unfold barPay
    iintro ⟨#HC, H⟩
    isplitl; · iexact H
    iapply (ctx_reached m K p (kf 1 c) (csem_kf 1 c)); iexact HC
  unfold AV
  iintro ⟨#HC, H⟩
  iapply (each h)
  rw [bigSep_sep']
  isplitr
  · iapply (bigSep_of_persistent (PE c) (Ctx m K)); iexact HC
  iexact H

/-- Part 2: the first layer's partial product, sent to the peers; the second layer's first weights arrive. -/
theorem part2_ok {Q : FVec F S1024x2048 .bf16 → sProp 𝕄} :
    iprop(Ctx m K ∗ OW c (OT c 0) ∗ cred (tallyAt (lcell 0 c) 1 NI) ∗ atL 0 c 1 ∗ (∃ f, wo c f) ∗ outArg m 1 c ∗ dutyTok ER (lcell 1 c) 1 dz ∗ atL 1 c 1
        ∗ wibAt c ![0, 0, 0] inb_S2x1024x2048_S1x1024x2048_0_0_0 (wbin m 0 c) ∗ wobAt c ![0, 0, 0] inb_S2x2048x1024_S1x2048x1024_0_0_0 (wbout m 0 c)
        ∗ (∃ f, pbW c f) ∗ cred (tallyAt (barCell c) 0 31) ∗ atPos ER (barCell c) 0 ∅ 0 ∗ XAV c ∗ (∃ f, rs c c f) ∗ TOKr c 0 ∗ posF 0 c 0 ∗ posF 3 c 0)
      ⊢ iprop((iprop(OW c (OT c 1) ∗ atL 0 c 2 ∗ wi c (win m 1 c) ∗ inArg m 1 c ∗ cred (tallyAt (lcell 1 c) 1 NO) ∗ atL 1 c 1
          ∗ wibAt c ![0, 0, 0] inb_S2x1024x2048_S1x1024x2048_0_0_0 (wbin m 0 c) ∗ wobAt c ![0, 0, 0] inb_S2x2048x1024_S1x2048x1024_0_0_0 (wbout m 0 c)
          ∗ pb c c (PART m 0 c) ∗ crF 0 c 0 ∗ atPos ER (barCell c) 1 ∅ 0 ∗ rs c c (RSB m 0 c) ∗ posF 0 c 0 ∗ posF 3 c 0)
            -∗ Q (k0_pay6 (win m 1 c))) -∗ WP c (P2 c (myW c) (SemArray.scalar (sig.barrier 0 rfl)) (k0_pay1 (xstg m c))) Q) := by
  unfold P2
  rw [k0_part2_eq_skeleton]; unfold k0_part2_skel
  simp only [semSignalWord, semWaitWord, Prog.lift, Prog.bind_op, Prog.bind_ret, Prog.pure_eq_ret, wp_deviceId]
  iintro ⟨#HC, HO, Hc0, Ha0, Hwo, Ho1, Ht, Ha1, Hwib, Hwob, ⟨%f, Hpb⟩, Hcb, Hab, Hxa, Hrs, Htk, Hp0, Hp3⟩ Hk
  iapply (start_out m K (r := 1) (by decide) (out_held1 m) rfl ld_sem1) $$ [Hwo Ho1 Ht Ha1]
  · isplitr; · iexact HC
    isplitl [Hwo]; · iexact Hwo
    isplitl [Ho1]; · iexact Ho1
    isplitl [Ht] <;> iassumption
  iintro ⟨Hc1, Ha1⟩
  iapply wp_load_wib $$ Hwib; iintro Hwib
  iapply wp_load_wob $$ Hwob; iintro Hwob
  iapply (wp_loadD (M := pbM)) $$ Hpb; iintro Hpb
  iapply wp_storeW_pb $$ Hpb; iintro Hpb
  iapply (wp_wait_bar m K) $$ [HO Hcb Hab]
  · isplitr; · iexact HC
    isplitl [HO]; · iexact HO
    isplitl [Hcb] <;> iassumption
  iintro ⟨HO, Hab, Hav⟩
  ihave Hav := (bar_first m K) $$ [Hav]
  · isplitr; · iexact HC
    iexact Hav
  ihave Hpb := (pb_part (PART m 0 c)) $$ [Hpb]; · iexact Hpb
  icases Hpb with ⟨Hpb, Hpp⟩
  iapply (wp_rs_loop m K (r := 0) (by decide) (l := k0_t2_loop) trips31 fun k O O' hO hp => by
    unfold k0_t2_body
    simp only [Prog.lift, Prog.bind_op, Prog.bind_ret, Prog.pure_eq_ret]
    exact trip_rs m K hp (by decide) (peer_off3 c (trips31 ▸ k.isLt)) (my_off3 c) (sem9 (peer_off1 c (trips31 ▸ k.isLt)) _) (sem10 (my_off1 c) _)
      (Fin.ext (dev_word c (trips31 ▸ k.isLt))) hO) $$ [HO Hpp Hav Hxa Htk Hp0 Hp3]
  · isplitr; · iexact HC
    isplitl [HO]; · iexact HO
    isplitl [Hpp]; · iexact Hpp
    isplitl [Hav]; · iexact Hav
    isplitl [Hxa]; · iexact Hxa
    isplitl [Htk]; · iexact Htk
    isplitl [Hp0] <;> iassumption
  iintro ⟨HO, Hc2, Hp0, Hp3⟩
  iapply (wp_keep m (my_off3 c)) $$ [Hpb Hrs]
  · isplitl [Hpb] <;> iassumption
  iintro ⟨Hpb, Hrs⟩
  iapply (end_in m K (r := 1) (by decide) ld_sem0) $$ [HO Hc0 Ha0]
  · isplitr; · iexact HC
    isplitl [HO]; · iexact HO
    isplitl [Hc0] <;> iassumption
  iintro ⟨HO, Ha0, Hwi, Hi1⟩
  unfold wi
  iapply wp_loadW_wi $$ Hwi; iintro Hwi
  iapply ret_intro
  iapply Hk
  isplitl [HO]; · iexact HO
  isplitl [Ha0]; · iexact Ha0
  isplitl [Hwi]; · iexact Hwi
  isplitl [Hi1]; · iexact Hi1
  isplitl [Hc1]; · iexact Hc1
  isplitl [Ha1]; · iexact Ha1
  isplitl [Hwib]; · iexact Hwib
  isplitl [Hwob]; · iexact Hwob
  isplitl [Hpb]; · iexact Hpb
  isplitl [Hc2]; · iexact Hc2
  isplitl [Hab]; · iexact Hab
  isplitl [Hrs]; · iexact Hrs
  isplitl [Hp0] <;> iassumption

/-- Part 3: the first layer's blocks arrive and are summed, and the sum is sent to the peers. -/
theorem part3_ok {Q : Vec F S2048x1024 .f32 → sProp 𝕄} :
    iprop(Ctx m K ∗ OW c (OT c 1) ∗ wibAny c ∗ (∃ f, wi c f) ∗ inArg m 2 c ∗ dutyTok ER (lcell 0 c) 2 dz ∗ atL 0 c 2
        ∗ crF 1 c 0 ∗ posF 1 c 0 ∗ rs c c (RSB m 0 c) ∗ (∃ g, rd c fullShare g) ∗ (∃ f, xc c c f) ∗ TOKg c 0 ∗ posF 2 c 0
        ∗ crF 0 c 0 ∗ posF 0 c 0 ∗ cred (tallyAt (lcell 1 c) 1 NO) ∗ atL 1 c 1)
      ⊢ iprop((iprop(OW c (OT c 2) ∗ wibAt c ![1, 0, 0] inb_S2x1024x2048_S1x1024x2048_1_0_0 (wbin m 1 c) ∗ cred (tallyAt (lcell 0 c) 2 NI) ∗ atL 0 c 2
          ∗ posF 1 c 1 ∗ rs c c (RSB m 0 c) ∗ rd c (shareDrop fullShare 31) (RED m 0 c) ∗ xc c c (XC m 0) ∗ crF 2 c 0 ∗ posF 2 c 0
          ∗ posF 0 c 1 ∗ pbP c (PART m 0 c) ∗ atL 1 c 2 ∗ wo c (wout m 1 c) ∗ outArg m 1 c)
            -∗ Q (wout m 1 c)) -∗ WP c (P3 c (myW c) (k0_pay6 (win m 1 c))) Q) := by
  unfold P3
  rw [k0_part3_eq_skeleton]; unfold k0_part3_skel
  simp only [semSignalWord, semWaitWord, Prog.lift, Prog.bind_op, Prog.bind_ret, Prog.pure_eq_ret, wp_deviceId, pay7_eq]
  iintro ⟨#HC, HO, Hwib, Hwi, Hi2, Ht, Ha0, Hc1, Hp1, Hrs, Hrd, Hxc, Htk, Hp2, Hc0, Hp0, Hcl, Ha1⟩ Hk
  iapply wp_store_wib $$ Hwib; iintro Hwib
  iapply (start_in m K (r := 2) (by decide) (in_held2 m) rfl ld_sem0) $$ [Hwi Hi2 Ht Ha0]
  · isplitr; · iexact HC
    isplitl [Hwi]; · iexact Hwi
    isplitl [Hi2]; · iexact Hi2
    isplitl [Ht] <;> iassumption
  iintro ⟨Hcl0, Ha0⟩
  iapply (wp_wait_loop m K (r := 0) 1 (s := 1) (l := k0_t3_loop) trips31 fun k hp => by
    unfold k0_t3_body
    simp only [Prog.lift, Prog.bind_op, Prog.bind_ret, Prog.pure_eq_ret]
    exact trip_wait m K 1 hp (by decide) (by rw [lv_fam]; decide) (sem10 (peer_off1 c (trips31 ▸ k.isLt)) _) rfl) $$ [HO Hc1 Hp1]
  · isplitr; · iexact HC
    isplitl [HO]; · iexact HO
    isplitl [Hc1] <;> iassumption
  iintro ⟨HO, Hp1, Hg⟩
  ihave Hg := (got_rcv m) $$ Hg
  icases Hg with ⟨Hrp, Hga⟩
  ihave Hrs := (rs_join (RSB m 0 c)) $$ [Hrs Hrp]
  · isplitl [Hrs] <;> iassumption
  iapply (wp_reduce m (r := 0) (my_off3 c)) $$ [Hrs Hrd Hxc]
  · isplitl [Hrs]; · iexact Hrs
    isplitl [Hrd] <;> iassumption
  iintro ⟨Hrs, Hrd, Hxc⟩
  ihave Hrs := (rs_part (RSB m 0 c)) $$ Hrs
  icases Hrs with ⟨Hrs, Hrp⟩
  ihave Hra := (rsP_any c (RSB m 0 c)) $$ Hrp
  ihave Hn := (NX_next c (r := 0) (by decide)) $$ [Hra Hp1]
  · isplitl [Hra] <;> iassumption
  icases Hn with ⟨Hn, Hp1⟩
  ihave Hrd := (rd_part (RED m 0 c)) $$ Hrd
  icases Hrd with ⟨Hrd, Hrdp⟩
  iapply (wp_ag_loop m K (r := 0) (by decide) (l := k0_t4_loop) trips31 fun k O O' hO hp => by
    unfold k0_t4_body
    simp only [Prog.lift, Prog.bind_op, Prog.bind_ret, Prog.pure_eq_ret]
    exact trip_ag m K hp (by decide) (my_off3 c) (sem11 (peer_off1 c (trips31 ▸ k.isLt)) _) (sem12 (my_off1 c) _)
      (Fin.ext (dev_word c (trips31 ▸ k.isLt))) hO) $$ [HO Hrdp Hga Hn Htk Hp2]
  · isplitr; · iexact HC
    isplitl [HO]; · iexact HO
    isplitl [Hrdp]; · iexact Hrdp
    isplitl [Hga]; · iexact Hga
    isplitl [Hn]; · iexact Hn
    isplitl [Htk] <;> iassumption
  iintro ⟨HO, Hc2, Hp2⟩
  iapply (wp_wait_loop m K (r := 0) 0 (s := 2) (l := k0_t5_loop) trips31 fun k hp => by
    unfold k0_t5_body
    simp only [Prog.lift, Prog.bind_op, Prog.bind_ret, Prog.pure_eq_ret]
    exact trip_wait m K 0 hp (by decide) (by rw [lv_fam]; decide) (sem9 (peer_off1 c (trips31 ▸ k.isLt)) _) rfl) $$ [HO Hc0 Hp0]
  · isplitr; · iexact HC
    isplitl [HO]; · iexact HO
    isplitl [Hc0] <;> iassumption
  iintro ⟨HO, Hp0, Hg⟩
  ihave Hpb := (got_snd m) $$ Hg
  iapply (end_out m K (r := 1) (by decide) ld_sem1) $$ [HO Hcl Ha1]
  · isplitr; · iexact HC
    isplitl [HO]; · iexact HO
    isplitl [Hcl] <;> iassumption
  iintro ⟨HO, Ha1, Hwo, Ho1⟩
  unfold wo
  iapply wp_loadW_wo $$ Hwo; iintro Hwo
  iapply ret_intro
  iapply Hk
  isplitl [HO]; · iexact HO
  isplitl [Hwib]; · iexact Hwib
  isplitl [Hcl0]; · iexact Hcl0
  isplitl [Ha0]; · iexact Ha0
  isplitl [Hp1]; · iexact Hp1
  isplitl [Hrs]; · iexact Hrs
  isplitl [Hrd]; · iexact Hrd
  isplitl [Hxc]; · iexact Hxc
  isplitl [Hc2]; · iexact Hc2
  isplitl [Hp2]; · iexact Hp2
  isplitl [Hp0]; · iexact Hp0
  isplitl [Hpb]; · iexact Hpb
  isplitl [Ha1]; · iexact Ha1
  isplitl [Hwo] <;> iassumption

end Cert.MlpProof

end
-- ==== Proof.Middle.lean ====
module

public import proofs.«01_k».proof.Proof.First

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig ℕ (Elt F) ℕ UU ℕ

variable (m : (ℓ : Loc nD τ sig) → Buf (Elt F) ℓ)

/-! ## The second layer, and the third up to its sums -/

set_option maxRecDepth 65536

variable (K : Dev nD × Fin 131 → ℕ) {c : Dev nD}

/-- Part 4: the first layer's sums arrive; the second layer's partial product. -/
theorem part4_ok {Q : (Σ' (c1_i32_97 : BitVec 32), BitVec 32) → sProp 𝕄} :
    iprop(Ctx m K ∗ OW c (OT c 2) ∗ wobAny c ∗ (∃ f, wo c f) ∗ outArg m 2 c ∗ dutyTok ER (lcell 1 c) 2 dz ∗ atL 1 c 2 ∗ crF 3 c 0 ∗ posF 3 c 0 ∗ crF 2 c 0
        ∗ posF 2 c 0 ∗ rd c (shareDrop fullShare 31) (RED m 0 c) ∗ xc c c (XC m 0) ∗ wibAt c ![1, 0, 0] inb_S2x1024x2048_S1x1024x2048_1_0_0 (wbin m 1 c) ∗ (∃ f, pbW c f))
      ⊢ iprop((iprop(OW c (OT c 2) ∗ cred (tallyAt (lcell 1 c) 2 NO) ∗ atL 1 c 2 ∗ posF 3 c 1 ∗ posF 2 c 1 ∗ rd c fullShare (RED m 0 c) ∗ xcW c (XC m 0) ∗ AV c 1
        ∗ wibAt c ![1, 0, 0] inb_S2x1024x2048_S1x1024x2048_1_0_0 (wbin m 1 c) ∗ wobAt c ![1, 0, 0] inb_S2x2048x1024_S1x2048x1024_1_0_0 (wbout m 1 c) ∗ pbW c (PART m 1 c))
            -∗ Q ⟨1#32, 1#32⟩) -∗ WP c (P4 c (myW c) (wout m 1 c)) Q) := by
  unfold P4
  rw [k0_part4_eq_skeleton]; unfold k0_part4_skel
  simp only [semSignalWord, semWaitWord, Prog.lift, Prog.bind_op, Prog.bind_ret, Prog.pure_eq_ret, wp_deviceId, pay10_eq]
  iintro ⟨#HC, HO, Hwob, Hwo, Ho2, Ht, Ha1, Hc3, Hp3, Hc2, Hp2, Hrd, Hxc, Hwib, ⟨%f, Hpb⟩⟩ Hk
  iapply wp_store_wob $$ Hwob; iintro Hwob
  iapply (start_out m K (r := 2) (by decide) (out_held2 m) rfl ld_sem1) $$ [Hwo Ho2 Ht Ha1]
  · isplitr; · iexact HC
    isplitl [Hwo]; · iexact Hwo
    isplitl [Ho2]; · iexact Ho2
    isplitl [Ht]; · iexact Ht
    iexact Ha1
  iintro ⟨Hcl, Ha1⟩
  iapply (wp_wait_loop m K (r := 0) 3 (s := 2) (l := k0_t6_loop) trips31 fun k hp => by
    unfold k0_t6_body
    simp only [Prog.lift, Prog.bind_op, Prog.bind_ret, Prog.pure_eq_ret]
    exact trip_wait m K 3 hp (by decide) (by rw [lv_fam]; decide) (sem12 (peer_off1 c (trips31 ▸ k.isLt)) _) rfl) $$ [HO Hc3 Hp3]
  · isplitr; · iexact HC
    isplitl [HO]; · iexact HO
    isplitl [Hc3]; · iexact Hc3
    iexact Hp3
  iintro ⟨HO, Hp3, Hg⟩
  ihave Hg := (got_grcv m (r := 0) (by decide)) $$ Hg
  icases Hg with ⟨Hxp, Hav⟩
  ihave Hxc := (xc_join (XC m 0)) $$ [Hxc Hxp]
  · isplitl [Hxc]; · iexact Hxc
    iexact Hxp
  iapply (wp_wait_loop m K (r := 0) 2 (s := 2) (l := k0_t7_loop) trips31 fun k hp => by
    unfold k0_t7_body
    simp only [Prog.lift, Prog.bind_op, Prog.bind_ret, Prog.pure_eq_ret]
    exact trip_wait m K 2 hp (by decide) (by rw [lv_fam]; decide) (sem11 (peer_off1 c (trips31 ▸ k.isLt)) _) rfl) $$ [HO Hc2 Hp2]
  · isplitr; · iexact HC
    isplitl [HO]; · iexact HO
    isplitl [Hc2]; · iexact Hc2
    iexact Hp2
  iintro ⟨HO, Hp2, Hg⟩
  ihave Hg := (got_gsnd m) $$ Hg
  ihave Hrd := (rd_join (RED m 0 c)) $$ [Hrd Hg]
  · isplitl [Hrd]; · iexact Hrd
    iexact Hg
  iapply wp_loadW_xc $$ Hxc; iintro Hxc
  iapply wp_load_wib $$ Hwib; iintro Hwib
  iapply wp_load_wob $$ Hwob; iintro Hwob
  iapply (wp_loadD (M := pbM)) $$ Hpb; iintro Hpb
  iapply wp_storeW_pb $$ Hpb; iintro Hpb
  iapply ret_intro
  iapply Hk
  isplitl [HO]; · iexact HO
  isplitl [Hcl]; · iexact Hcl
  isplitl [Ha1]; · iexact Ha1
  isplitl [Hp3]; · iexact Hp3
  isplitl [Hp2]; · iexact Hp2
  isplitl [Hrd]; · iexact Hrd
  isplitl [Hxc]; · iexact Hxc
  isplitl [Hav]; · iexact Hav
  isplitl [Hwib]; · iexact Hwib
  isplitl [Hwob]; · iexact Hwob
  iexact Hpb

/-- Part 5: the second layer's partial product is sent, the peers' blocks arrive and are summed. -/
theorem part5_ok {Q : BitVec 32 → sProp 𝕄} :
    iprop(Ctx m K ∗ OW c (OT c 2) ∗ pbW c (PART m 1 c) ∗ AV c 1 ∗ xcW c (XC m 0) ∗ TOKr c 1 ∗ posF 0 c 1 ∗ posF 3 c 1 ∗ (∃ f, rs c c f)
        ∗ cred (tallyAt (lcell 0 c) 2 NI) ∗ atL 0 c 2 ∗ wibAny c ∗ crF 1 c 1 ∗ posF 1 c 1 ∗ (∃ g, rd c fullShare g))
      ⊢ iprop((iprop(OW c (OT c 3) ∗ pb c c (PART m 1 c) ∗ crF 0 c 1 ∗ posF 0 c 1 ∗ posF 3 c 1 ∗ inArg m 2 c ∗ wi c (win m 2 c) ∗ atL 0 c 3
        ∗ wibAt c ![0, 0, 0] inb_S2x1024x2048_S1x1024x2048_0_0_0 (wbin m 2 c) ∗ rsW c (RSB m 1 c) ∗ GAV c 1 ∗ posF 1 c 2 ∗ rd c fullShare (RED m 1 c) ∗ xc c c (XC m 1))
            -∗ Q 1#32) -∗ WP c (P5 c (myW c) 1#32 1#32) Q) := by
  unfold P5
  rw [k0_part5_eq_skeleton]; unfold k0_part5_skel
  simp only [semSignalWord, semWaitWord, Prog.lift, Prog.bind_op, Prog.bind_ret, Prog.pure_eq_ret, wp_deviceId, pay12_eq, pay13_eq, pay14_eq, pay15_eq]
  iintro ⟨#HC, HO, Hpb, Hav, Hxc, Htk, Hp0, Hp3, Hrs, Hcl, Ha0, Hwib, Hc1, Hp1, Hrd⟩ Hk
  ihave Hpb := (pb_part (PART m 1 c)) $$ Hpb
  icases Hpb with ⟨Hpb, Hpp⟩
  ihave Hxc := (xc_part (XC m 0)) $$ Hxc
  icases Hxc with ⟨Hxc, Hxp⟩
  ihave Hxa := (xcP_any c (XC m 0)) $$ Hxp
  iapply (wp_rs_loop m K (r := 1) (by decide) (l := k0_t8_loop) trips31 fun k O O' hO hp => by
    unfold k0_t8_body
    simp only [Prog.lift, Prog.bind_op, Prog.bind_ret, Prog.pure_eq_ret]
    exact trip_rs m K hp (by decide) (peer_off3 c (trips31 ▸ k.isLt)) (my_off3 c) (sem9 (peer_off1 c (trips31 ▸ k.isLt)) _) (sem10 (my_off1 c) _)
      (Fin.ext (dev_word c (trips31 ▸ k.isLt))) hO) $$ [HO Hpp Hav Hxa Htk Hp0 Hp3]
  · isplitr; · iexact HC
    isplitl [HO]; · iexact HO
    isplitl [Hpp]; · iexact Hpp
    isplitl [Hav]; · iexact Hav
    isplitl [Hxa]; · iexact Hxa
    isplitl [Htk]; · iexact Htk
    isplitl [Hp0]; · iexact Hp0
    iexact Hp3
  iintro ⟨HO, Hc0, Hp0, Hp3⟩
  iapply (wp_keep m (my_off3 c)) $$ [Hpb Hrs]
  · isplitl [Hpb]; · iexact Hpb
    iexact Hrs
  iintro ⟨Hpb, Hrs⟩
  iapply (end_in m K (r := 2) (by decide) ld_sem0) $$ [HO Hcl Ha0]
  · isplitr; · iexact HC
    isplitl [HO]; · iexact HO
    isplitl [Hcl]; · iexact Hcl
    iexact Ha0
  iintro ⟨HO, Ha0, Hwi, Hi2⟩
  unfold wi
  iapply wp_loadW_wi $$ Hwi; iintro Hwi
  iapply wp_store_wib $$ Hwib; iintro Hwib
  iapply (wp_wait_loop m K (r := 1) 1 (s := 3) (l := k0_t9_loop) trips31 fun k hp => by
    unfold k0_t9_body
    simp only [Prog.lift, Prog.bind_op, Prog.bind_ret, Prog.pure_eq_ret]
    exact trip_wait m K 1 hp (by decide) (by rw [lv_fam]; decide) (sem10 (peer_off1 c (trips31 ▸ k.isLt)) _) rfl) $$ [HO Hc1 Hp1]
  · isplitr; · iexact HC
    isplitl [HO]; · iexact HO
    isplitl [Hc1]; · iexact Hc1
    iexact Hp1
  iintro ⟨HO, Hp1, Hg⟩
  ihave Hg := (got_rcv m) $$ Hg
  icases Hg with ⟨Hrp, Hga⟩
  ihave Hrs := (rs_join (RSB m 1 c)) $$ [Hrs Hrp]
  · isplitl [Hrs]; · iexact Hrs
    iexact Hrp
  iapply (wp_reduce m (r := 1) (my_off3 c)) $$ [Hrs Hrd Hxc]
  · isplitl [Hrs]; · iexact Hrs
    isplitl [Hrd]; · iexact Hrd
    iexists _; iexact Hxc
  iintro ⟨Hrs, Hrd, Hxc⟩
  iapply ret_intro
  iapply Hk
  isplitl [HO]; · iexact HO
  isplitl [Hpb]; · iexact Hpb
  isplitl [Hc0]; · iexact Hc0
  isplitl [Hp0]; · iexact Hp0
  isplitl [Hp3]; · iexact Hp3
  isplitl [Hi2]; · iexact Hi2
  isplitl [Hwi]; · iexact Hwi
  isplitl [Ha0]; · iexact Ha0
  isplitl [Hwib]; · iexact Hwib
  isplitl [Hrs]; · iexact Hrs
  isplitl [Hga]; · iexact Hga
  isplitl [Hp1]; · iexact Hp1
  isplitl [Hrd]; · iexact Hrd
  iexact Hxc

/-- Part 6: the second layer's sums are sent and arrive, with the third layer's weights. -/
theorem part6_ok {Q : (Σ' (v149 : FVec F S64x2048 .bf16) (v151 : FVec F S2048x1024 .bf16), FVec F S64x1024 .f32) → sProp 𝕄} :
    iprop(Ctx m K ∗ OW c (OT c 3) ∗ pb c c (PART m 1 c) ∗ crF 0 c 1 ∗ posF 0 c 1 ∗ crF 3 c 1 ∗ posF 3 c 1
        ∗ wibAt c ![0, 0, 0] inb_S2x1024x2048_S1x1024x2048_0_0_0 (wbin m 2 c) ∗ rsW c (RSB m 1 c) ∗ GAV c 1 ∗ posF 1 c 2 ∗ rd c fullShare (RED m 1 c)
        ∗ xc c c (XC m 1) ∗ TOKg c 1 ∗ posF 2 c 1 ∗ cred (tallyAt (lcell 1 c) 2 NO) ∗ atL 1 c 2 ∗ wobAny c)
      ⊢ iprop((iprop(OW c (OT c 4) ∗ pbW c (PART m 1 c) ∗ posF 0 c 2 ∗ posF 1 c 2 ∗ posF 2 c 2 ∗ posF 3 c 2
        ∗ wibAt c ![0, 0, 0] inb_S2x1024x2048_S1x1024x2048_0_0_0 (wbin m 2 c) ∗ wobAt c ![0, 0, 0] inb_S2x2048x1024_S1x2048x1024_0_0_0 (wbout m 2 c)
        ∗ rs c c (RSB m 1 c) ∗ rd c fullShare (RED m 1 c) ∗ xcW c (XC m 1) ∗ AV c 2 ∗ atL 1 c 3 ∗ wo c (wout m 2 c) ∗ outArg m 2 c)
            -∗ Q ⟨k0_pay17 (XC m 1) (wbin m 2 c), k0_pay18 (wbout m 2 c), constant S64x1024 .f32 0#32⟩) -∗ WP c (P6 c (myW c) 1#32) Q) := by
  unfold P6
  rw [k0_part6_eq_skeleton]; unfold k0_part6_skel
  simp only [semSignalWord, semWaitWord, Prog.lift, Prog.bind_op, Prog.bind_ret, Prog.pure_eq_ret, wp_deviceId, pay16_eq]
  iintro ⟨#HC, HO, Hpb, Hc0, Hp0, Hc3, Hp3, Hwib, Hrs, Hga, Hp1, Hrd, Hxc, Htk, Hp2, Hcl, Ha1, Hwob⟩ Hk
  ihave Hrs := (rs_part (RSB m 1 c)) $$ Hrs
  icases Hrs with ⟨Hrs, Hrp⟩
  ihave Hra := (rsP_any c (RSB m 1 c)) $$ Hrp
  ihave Hn := (NX_next c (r := 1) (by decide)) $$ [Hra Hp1]
  · isplitl [Hra]; · iexact Hra
    iexact Hp1
  icases Hn with ⟨Hn, Hp1⟩
  ihave Hrd := (rd_part (RED m 1 c)) $$ Hrd
  icases Hrd with ⟨Hrd, Hrdp⟩
  iapply (wp_ag_loop m K (r := 1) (by decide) (l := k0_t10_loop) trips31 fun k O O' hO hp => by
    unfold k0_t10_body
    simp only [Prog.lift, Prog.bind_op, Prog.bind_ret, Prog.pure_eq_ret]
    exact trip_ag m K hp (by decide) (my_off3 c) (sem11 (peer_off1 c (trips31 ▸ k.isLt)) _) (sem12 (my_off1 c) _)
      (Fin.ext (dev_word c (trips31 ▸ k.isLt))) hO) $$ [HO Hrdp Hga Hn Htk Hp2]
  · isplitr; · iexact HC
    isplitl [HO]; · iexact HO
    isplitl [Hrdp]; · iexact Hrdp
    isplitl [Hga]; · iexact Hga
    isplitl [Hn]; · iexact Hn
    isplitl [Htk]; · iexact Htk
    iexact Hp2
  iintro ⟨HO, Hc2, Hp2⟩
  iapply (wp_wait_loop m K (r := 1) 0 (s := 4) (l := k0_t11_loop) trips31 fun k hp => by
    unfold k0_t11_body
    simp only [Prog.lift, Prog.bind_op, Prog.bind_ret, Prog.pure_eq_ret]
    exact trip_wait m K 0 hp (by decide) (by rw [lv_fam]; decide) (sem9 (peer_off1 c (trips31 ▸ k.isLt)) _) rfl) $$ [HO Hc0 Hp0]
  · isplitr; · iexact HC
    isplitl [HO]; · iexact HO
    isplitl [Hc0]; · iexact Hc0
    iexact Hp0
  iintro ⟨HO, Hp0, Hg⟩
  ihave Hg := (got_snd m) $$ Hg
  ihave Hpb := (pb_join (PART m 1 c)) $$ [Hpb Hg]
  · isplitl [Hpb]; · iexact Hpb
    iexact Hg
  iapply (end_out m K (r := 2) (by decide) ld_sem1) $$ [HO Hcl Ha1]
  · isplitr; · iexact HC
    isplitl [HO]; · iexact HO
    isplitl [Hcl]; · iexact Hcl
    iexact Ha1
  iintro ⟨HO, Ha1, Hwo, Ho2⟩
  unfold wo
  iapply wp_loadW_wo $$ Hwo; iintro Hwo
  rw [show k0_pay3 (wout m 2 c) = wbout m 2 c from rfl]
  iapply wp_store_wob $$ Hwob; iintro Hwob
  iapply (wp_wait_loop m K (r := 1) 3 (s := 4) (l := k0_t12_loop) trips31 fun k hp => by
    unfold k0_t12_body
    simp only [Prog.lift, Prog.bind_op, Prog.bind_ret, Prog.pure_eq_ret]
    exact trip_wait m K 3 hp (by decide) (by rw [lv_fam]; decide) (sem12 (peer_off1 c (trips31 ▸ k.isLt)) _) rfl) $$ [HO Hc3 Hp3]
  · isplitr; · iexact HC
    isplitl [HO]; · iexact HO
    isplitl [Hc3]; · iexact Hc3
    iexact Hp3
  iintro ⟨HO, Hp3, Hg⟩
  ihave Hg := (got_grcv m (r := 1) (by decide)) $$ Hg
  icases Hg with ⟨Hxp, Hav⟩
  ihave Hxc := (xc_join (XC m 1)) $$ [Hxc Hxp]
  · isplitl [Hxc]; · iexact Hxc
    iexact Hxp
  iapply (wp_wait_loop m K (r := 1) 2 (s := 4) (l := k0_t13_loop) trips31 fun k hp => by
    unfold k0_t13_body
    simp only [Prog.lift, Prog.bind_op, Prog.bind_ret, Prog.pure_eq_ret]
    exact trip_wait m K 2 hp (by decide) (by rw [lv_fam]; decide) (sem11 (peer_off1 c (trips31 ▸ k.isLt)) _) rfl) $$ [HO Hc2 Hp2]
  · isplitr; · iexact HC
    isplitl [HO]; · iexact HO
    isplitl [Hc2]; · iexact Hc2
    iexact Hp2
  iintro ⟨HO, Hp2, Hg⟩
  ihave Hg := (got_gsnd m) $$ Hg
  ihave Hrd := (rd_join (RED m 1 c)) $$ [Hrd Hg]
  · isplitl [Hrd]; · iexact Hrd
    iexact Hg
  iapply wp_loadW_xc $$ Hxc; iintro Hxc
  iapply wp_load_wib $$ Hwib; iintro Hwib
  iapply wp_load_wob $$ Hwob; iintro Hwob
  iapply ret_intro
  iapply Hk
  isplitl [HO]; · iexact HO
  isplitl [Hpb]; · iexact Hpb
  isplitl [Hp0]; · iexact Hp0
  isplitl [Hp1]; · iexact Hp1
  isplitl [Hp2]; · iexact Hp2
  isplitl [Hp3]; · iexact Hp3
  isplitl [Hwib]; · iexact Hwib
  isplitl [Hwob]; · iexact Hwob
  isplitl [Hrs]; · iexact Hrs
  isplitl [Hrd]; · iexact Hrd
  isplitl [Hxc]; · iexact Hxc
  isplitl [Hav]; · iexact Hav
  isplitl [Ha1]; · iexact Ha1
  isplitl [Hwo]; · iexact Hwo
  iexact Ho2

/-- Part 7: the third layer's partial product is sent, the peers' blocks arrive and are summed. -/
theorem part7_ok {Q : (Σ' (c1_i32_184 : BitVec 32), BitVec 32) → sProp 𝕄} :
    iprop(Ctx m K ∗ OW c (OT c 4) ∗ (∃ f, pbW c f) ∗ AV c 2 ∗ xcW c (XC m 1) ∗ TOKr c 2 ∗ posF 0 c 2 ∗ posF 3 c 2 ∗ (∃ f, rs c c f) ∗ crF 1 c 2 ∗ posF 1 c 2
        ∗ (∃ g, rd c fullShare g))
      ⊢ iprop((iprop(OW c (OT c 5) ∗ pb c c (PART m 2 c) ∗ crF 0 c 2 ∗ posF 0 c 2 ∗ posF 3 c 2 ∗ rsW c (RSB m 2 c) ∗ GAV c 2 ∗ posF 1 c 3
        ∗ rd c fullShare (RED m 2 c) ∗ xc c c (XC m 2))
            -∗ Q ⟨1#32, 31#32⟩) -∗ WP c (P7 c (myW c) (k0_pay17 (XC m 1) (wbin m 2 c)) (k0_pay18 (wbout m 2 c)) (constant S64x1024 .f32 0#32)) Q) := by
  unfold P7
  rw [k0_part7_eq_skeleton]; unfold k0_part7_skel
  simp only [semSignalWord, semWaitWord, Prog.lift, Prog.bind_op, Prog.bind_ret, Prog.pure_eq_ret, wp_deviceId, pay19_eq, pay20_eq, pay21_eq, pay22_eq]
  iintro ⟨#HC, HO, ⟨%f, Hpb⟩, Hav, Hxc, Htk, Hp0, Hp3, Hrs, Hc1, Hp1, Hrd⟩ Hk
  iapply (wp_loadD (M := pbM)) $$ Hpb; iintro Hpb
  iapply wp_storeW_pb $$ Hpb; iintro Hpb
  ihave Hpb := (pb_part (PART m 2 c)) $$ [Hpb]; · iexact Hpb
  icases Hpb with ⟨Hpb, Hpp⟩
  ihave Hxc := (xc_part (XC m 1)) $$ Hxc
  icases Hxc with ⟨Hxc, Hxp⟩
  ihave Hxa := (xcP_any c (XC m 1)) $$ Hxp
  iapply (wp_rs_loop m K (r := 2) (by decide) (l := k0_t14_loop) trips31 fun k O O' hO hp => by
    unfold k0_t14_body
    simp only [Prog.lift, Prog.bind_op, Prog.bind_ret, Prog.pure_eq_ret]
    exact trip_rs m K hp (by decide) (peer_off3 c (trips31 ▸ k.isLt)) (my_off3 c) (sem9 (peer_off1 c (trips31 ▸ k.isLt)) _) (sem10 (my_off1 c) _)
      (Fin.ext (dev_word c (trips31 ▸ k.isLt))) hO) $$ [HO Hpp Hav Hxa Htk Hp0 Hp3]
  · isplitr; · iexact HC
    isplitl [HO]; · iexact HO
    isplitl [Hpp]; · iexact Hpp
    isplitl [Hav]; · iexact Hav
    isplitl [Hxa]; · iexact Hxa
    isplitl [Htk]; · iexact Htk
    isplitl [Hp0]; · iexact Hp0
    iexact Hp3
  iintro ⟨HO, Hc0, Hp0, Hp3⟩
  iapply (wp_keep m (my_off3 c)) $$ [Hpb Hrs]
  · isplitl [Hpb]; · iexact Hpb
    iexact Hrs
  iintro ⟨Hpb, Hrs⟩
  iapply (wp_wait_loop m K (r := 2) 1 (s := 5) (l := k0_t15_loop) trips31 fun k hp => by
    unfold k0_t15_body
    simp only [Prog.lift, Prog.bind_op, Prog.bind_ret, Prog.pure_eq_ret]
    exact trip_wait m K 1 hp (by decide) (by rw [lv_fam]; decide) (sem10 (peer_off1 c (trips31 ▸ k.isLt)) _) rfl) $$ [HO Hc1 Hp1]
  · isplitr; · iexact HC
    isplitl [HO]; · iexact HO
    isplitl [Hc1]; · iexact Hc1
    iexact Hp1
  iintro ⟨HO, Hp1, Hg⟩
  ihave Hg := (got_rcv m) $$ Hg
  icases Hg with ⟨Hrp, Hga⟩
  ihave Hrs := (rs_join (RSB m 2 c)) $$ [Hrs Hrp]
  · isplitl [Hrs]; · iexact Hrs
    iexact Hrp
  iapply (wp_reduce m (r := 2) (my_off3 c)) $$ [Hrs Hrd Hxc]
  · isplitl [Hrs]; · iexact Hrs
    isplitl [Hrd]; · iexact Hrd
    iexists _; iexact Hxc
  iintro ⟨Hrs, Hrd, Hxc⟩
  iapply ret_intro
  iapply Hk
  isplitl [HO]; · iexact HO
  isplitl [Hpb]; · iexact Hpb
  isplitl [Hc0]; · iexact Hc0
  isplitl [Hp0]; · iexact Hp0
  isplitl [Hp3]; · iexact Hp3
  isplitl [Hrs]; · iexact Hrs
  isplitl [Hga]; · iexact Hga
  isplitl [Hp1]; · iexact Hp1
  isplitl [Hrd]; · iexact Hrd
  iexact Hxc

end Cert.MlpProof

end
-- ==== Proof.Gather.lean ====
module

public import proofs.«01_k».proof.Proof.Middle

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig ℕ (Elt F) ℕ UU ℕ

variable (m : (ℓ : Loc nD τ sig) → Buf (Elt F) ℓ)

/-! ## The last layer's sums as they arrive

The last layer's sums are awaited one by one, eight between two stores of the output. -/

set_option maxRecDepth 65536

/-- The kernel's result: the last activations, two rows from each device, widened. -/
def OUT : Vec F S64x1024 .f32 := extf .f32 (shapeCast S64x1024 (XC m 2) shapeCasts_S32x2x1024_S64x1024) bitsLt_bf16_f32

/-- Eight slots of a buffer, as a load of them reads them. -/
def eight (f : Vec F S32x2x1024 .bf16) (n : ℕ) (inb : ∀ a, (![n, 0, 0] : Fin 3 → ℕ) a + S8x2x1024.size a ≤ S32x2x1024.size a) : Vec F S8x2x1024 .bf16 :=
  (xcM).view.readAt (Elt F) (Rect.unit (s := S32x2x1024) ![n, 0, 0] S8x2x1024.size inb).toLoadRect f

/-- Eight slots, flattened and widened, are sixteen rows of the result. -/
theorem eight_out {n : ℕ} (inb : ∀ a, (![n, 0, 0] : Fin 3 → ℕ) a + S8x2x1024.size a ≤ S32x2x1024.size a) (j : S16x1024.Idx) (i : S64x1024.Idx)
    (h0 : (i 0).val = 2 * n + (j 0).val) (h1 : (i 1).val = (j 1).val) : k0_pay23 (eight (XC m 2) n inb) j = OUT m i := by
  have hj0 : (j 0).val < 16 := (j 0).isLt
  have hi0 : (i 0).val < 64 := (i 0).isLt
  have e1 : shapeCast S16x1024 (eight (XC m 2) n inb) shapeCasts_S8x2x1024_S16x1024 j
      = eight (XC m 2) n inb (ix3 (n0 := 8) (n1 := 2) (n2 := 1024) ⟨(j 0).val / 2, by omega⟩ ⟨(j 0).val % 2, by omega⟩ (j 1)) :=
    Idealize.ShloMosaic.shapeCast_apply _ _ _ _ (by
      rw [Shape.rowMajor_val_two, Shape.rowMajor_val_three]
      show ((j 0).val / 2 * 2 + (j 0).val % 2) * 1024 + (j 1).val = (j 0).val * 1024 + (j 1).val
      omega)
  have e2 : shapeCast S64x1024 (XC m 2) shapeCasts_S32x2x1024_S64x1024 i
      = XC m 2 (ix3 (n0 := 32) (n1 := 2) (n2 := 1024) ⟨(i 0).val / 2, by omega⟩ ⟨(i 0).val % 2, by omega⟩ (i 1)) :=
    Idealize.ShloMosaic.shapeCast_apply _ _ _ _ (by
      rw [Shape.rowMajor_val_two, Shape.rowMajor_val_three]
      show ((i 0).val / 2 * 2 + (i 0).val % 2) * 1024 + (i 1).val = (i 0).val * 1024 + (i 1).val
      omega)
  have e3 : eight (XC m 2) n inb (ix3 (n0 := 8) (n1 := 2) (n2 := 1024) ⟨(j 0).val / 2, by omega⟩ ⟨(j 0).val % 2, by omega⟩ (j 1))
      = XC m 2 (ix3 (n0 := 32) (n1 := 2) (n2 := 1024) ⟨(i 0).val / 2, by omega⟩ ⟨(i 0).val % 2, by omega⟩ (i 1)) :=
    congrArg (XC m 2) (funext fun a => by
      match a with
      | ⟨0, _⟩ => exact Fin.ext (show n + 1 * ((j 0).val / 2) = (i 0).val / 2 by omega)
      | ⟨1, _⟩ => exact Fin.ext (show 0 + 1 * ((j 0).val % 2) = (i 0).val % 2 by omega)
      | ⟨2, _⟩ => exact Fin.ext (show 0 + 1 * (j 1).val = (i 1).val by omega))
  show FloatOps.extf .f32 bitsLt_bf16_f32 (shapeCast S16x1024 (eight (XC m 2) n inb) shapeCasts_S8x2x1024_S16x1024 j)
    = FloatOps.extf .f32 bitsLt_bf16_f32 (shapeCast S64x1024 (XC m 2) shapeCasts_S32x2x1024_S64x1024 i)
  rw [e1, e2, e3]

theorem pay24_eq : k0_pay24 (F := F) = k0_pay23 := rfl
theorem pay25_eq : k0_pay25 (F := F) = k0_pay23 := rfl
theorem pay26_eq : k0_pay26 (F := F) = k0_pay23 := rfl

variable (K : Dev nD × Fin 131 → ℕ)

/-- The first `n` rows of device `c`'s output are the result's. -/
def outHeld (c : Dev nD) (n : ℕ) : sProp 𝕄 :=
  iprop(∃ f : Vec F S64x1024 .f32, ⌜∀ i : S64x1024.Idx, (i 0).val < n → f i = OUT m i⌝ ∗ (((c : Thread nD τ).loc cc0_stg1_0) ↦{fullShare} f))

theorem outHeld_start (c : Dev nD) : iprop(∃ f : Vec F S64x1024 .f32, ((c : Thread nD τ).loc cc0_stg1_0) ↦{fullShare} f) ⊢ outHeld m c 0 := by
  unfold outHeld
  iintro ⟨%f, H⟩
  iexists f; isplitr; · ipureintro; intro i hi; exact absurd hi (Nat.not_lt_zero _)
  iexact H

theorem outHeld_end (c : Dev nD) : outHeld m c 64 ⊢ (((c : Thread nD τ).loc cc0_stg1_0) ↦{fullShare} OUT m : sProp 𝕄) := by
  unfold outHeld
  iintro ⟨%f, %h, H⟩
  have e : f = OUT m := funext fun i => h i (i 0).isLt
  subst e
  iexact H

/-- A store of sixteen rows of the output, after the load of them whose value is thrown away. -/
theorem wp_store_o {c : Dev nD} {n n' : ℕ} (hn' : n + 16 = n') {inb : ∀ a, (![n, 0] : Fin 2 → ℕ) a + S16x1024.size a ≤ S64x1024.size a} {w : Vec F S16x1024 .f32}
    (hw : ∀ (j : S16x1024.Idx) (i : S64x1024.Idx), (i 0).val = n + (j 0).val → (i 1).val = (j 1).val → w j = OUT m i) {hl hx hm}
    {α : Type} {k : PUnit → Prog (TpuEff nD τ sig (Elt F) Λ₀ .tc) α} {Q : α → sProp 𝕄} :
    outHeld m c n ⊢ iprop((outHeld m c n' -∗ WP c (k ⟨⟩) Q)
      -∗ WP c (.op (.load oM (Rect.unit (s := S64x1024) ![n, 0] S16x1024.size inb).toLoadRect hl) fun _ =>
          .op (.store oM (Rect.unit (s := S64x1024) ![n, 0] S16x1024.size inb) w Finset.univ hx hm) k) Q) := by
  subst hn'
  unfold outHeld
  iintro ⟨%f, %hf, H⟩ Hk
  iapply (wp_loadD (M := oM)) $$ H; iintro H
  iapply (wp_storeV (M := oM) (r := Rect.unit (s := S64x1024) ![n, 0] S16x1024.size inb) (S := Finset.univ) (f := f)
      (g := (oM.access (Rect.unit (s := S64x1024) ![n, 0] S16x1024.size inb)).write (Elt F) f w Finset.univ) (Finset.subset_univ _) (fun _ _ => rfl)) $$ [H]; · iexact H
  iintro H
  iapply Hk
  iexists _; isplitr; swap; · iexact H
  ipureintro
  intro i hi
  by_cases h : (i 0).val < n
  · refine (View.write_of_not_mem (v := oM.access (Rect.unit (s := S64x1024) ![n, 0] S16x1024.size inb)) f w Finset.univ ?_).trans (hf i h)
    intro hm
    have hm' : i ∈ (Rect.unit (s := S64x1024) ![n, 0] S16x1024.size inb).set := by
      rw [← View.set_slice_whole (cc0_stg1_0 : Ref sig .tc)]; exact hm
    have h0 := (Rect.mem_set_unit.mp hm' 0).1
    have e0 : (![n, 0] : Fin 2 → ℕ) 0 = n := rfl
    rw [e0] at h0
    omega
  · have hi1 : (i 1).val < 1024 := (i 1).isLt
    have hi1 : (i 0).val < 64 := (i 0).isLt
    let j : S16x1024.Idx := ix2 (n0 := 16) (n1 := 1024) ⟨(i 0).val - n, by omega⟩ (i 1)
    have h1 := View.write_emb_of_mem (v := oM.access (Rect.unit (s := S64x1024) ![n, 0] S16x1024.size inb)) f w (Finset.mem_univ j)
    have e : (oM.access (Rect.unit (s := S64x1024) ![n, 0] S16x1024.size inb)).emb j = i := by
      funext a
      match a with
      | ⟨0, _⟩ => exact Fin.ext (show n + 1 * ((i 0).val - n) = (i 0).val by omega)
      | ⟨1, _⟩ => exact Fin.ext (show 0 + 1 * (i 1).val = (i 1).val by omega)
    rw [e] at h1
    exact h1.trans (hw j i (show (i 0).val = n + ((i 0).val - n) by omega) rfl)

/-! ### The waits -/

/-- The slots device `c` holds of the last activations: its own and those of the first `n` devices. -/
def GX (c : Dev nD) (n : ℕ) : sProp 𝕄 := bigSep (Finset.univ.filter fun p : Dev nD => p.val < n ∨ p = c) fun p => xc c p (XC m 2)
/-- Which of the peers' last sums have been awaited. -/
def GC (c : Dev nD) (n : ℕ) : sProp 𝕄 :=
  bigSep (PE c) fun p => if p.val < n then at' 3 c p 3 else iprop(cred (tallyAt (fcell 3 c p) 2 N) ∗ at' 3 c p 2)
/-- The state between two of these waits. -/
def GS (c : Dev nD) (n : ℕ) : sProp 𝕄 := iprop(Ctx m K ∗ OW c (OT c 6) ∗ GX m c n ∗ GC c n)

theorem GX_zero (c : Dev nD) : xc c c (XC m 2) ⊢ GX m c 0 := by
  unfold GX
  rw [show (Finset.univ.filter fun p : Dev nD => p.val < 0 ∨ p = c) = {c} from by ext p; simp]
  exact eqv bigSep_singleton.symm
theorem GX_all (c : Dev nD) : GX m c 32 ⊢ xcW c (XC m 2) := by
  unfold GX
  rw [show (Finset.univ.filter fun p : Dev nD => p.val < 32 ∨ p = c) = Finset.univ from by
    ext p; simp only [Finset.mem_filter, Finset.mem_univ, true_and, iff_true]; exact Or.inl p.isLt]
  exact (eqv (bigSep_univ_at _ c)).trans (eqv (xcW_eq c (XC m 2)).symm)
omit [FloatOps F] in
theorem GC_zero (c : Dev nD) : iprop(crF 3 c 2 ∗ posF 3 c 2 : sProp 𝕄) ⊢ GC c 0 := by
  unfold GC crF posF
  simp only [Nat.not_lt_zero, if_false]
  exact eqv (bigSep_sep' ..).symm
omit [FloatOps F] in
theorem GC_all (c : Dev nD) : (GC c 32 : sProp 𝕄) ⊢ posF 3 c 3 := by
  unfold GC posF
  refine each fun p => ?_
  rw [if_pos p.isLt]

theorem GX_next {c p : Dev nD} (hp : p ≠ c) : iprop(xc c p (XC m 2) ∗ GX m c p.val) ⊢ GX m c (p.val + 1) := by
  unfold GX
  have e : (Finset.univ.filter fun q : Dev nD => q.val < p.val + 1 ∨ q = c) = insert p (Finset.univ.filter fun q : Dev nD => q.val < p.val ∨ q = c) := by
    ext q
    simp only [Finset.mem_filter, Finset.mem_univ, true_and, Finset.mem_insert, Fin.ext_iff]
    omega
  have hn : p ∉ Finset.univ.filter fun q : Dev nD => q.val < p.val ∨ q = c :=
    fun h => Or.elim (Finset.mem_filter.mp h).2 (lt_irrefl _) hp
  rw [e, bigSep_insert hn]
  exact eqv rfl
theorem GX_own (c : Dev nD) : GX m c c.val ⊢ GX m c (c.val + 1) := by
  unfold GX
  rw [show (Finset.univ.filter fun q : Dev nD => q.val < c.val + 1 ∨ q = c) = (Finset.univ.filter fun q : Dev nD => q.val < c.val ∨ q = c) from by
    ext q
    simp only [Finset.mem_filter, Finset.mem_univ, true_and, Fin.ext_iff]
    omega]

omit [FloatOps F] in
theorem GC_own (c : Dev nD) : (GC c c.val : sProp 𝕄) ⊢ GC c (c.val + 1) := by
  unfold GC
  refine eqv (bigSep_congr fun q hq => ?_)
  have h : q.val ≠ c.val := fun h => (Finset.mem_erase.mp hq).1 (Fin.ext h)
  by_cases h1 : q.val < c.val
  · rw [if_pos h1, if_pos (by omega)]
  · rw [if_neg h1, if_neg (by omega)]

omit [FloatOps F] in
/-- The cells with one peer's taken out, before and after its wait. -/
theorem GC_at {c p : Dev nD} (hp : p ≠ c) : ∃ R : sProp 𝕄,
    (GC c p.val : sProp 𝕄) = iprop(iprop(cred (tallyAt (fcell 3 c p) 2 N) ∗ at' 3 c p 2) ∗ R) ∧ (GC c (p.val + 1) : sProp 𝕄) = iprop(at' 3 c p 3 ∗ R) := by
  have e : PE c = insert p ((PE c).erase p) := (Finset.insert_erase (Finset.mem_erase.mpr ⟨hp, Finset.mem_univ _⟩)).symm
  refine ⟨bigSep ((PE c).erase p) fun q => if q.val < p.val then at' 3 c q 3 else iprop(cred (tallyAt (fcell 3 c q) 2 N) ∗ at' 3 c q 2), ?_, ?_⟩
  · unfold GC
    rw [e]
    refine (bigSep_insert (Finset.notMem_erase _ _)).trans ?_
    rw [if_neg (lt_irrefl _), ← e]
    rfl
  · unfold GC
    rw [e]
    refine (bigSep_insert (Finset.notMem_erase _ _)).trans ?_
    rw [if_pos (Nat.lt_succ_self _), ← e]
    refine congrArg (fun R => iprop(at' 3 c p 3 ∗ R)) (bigSep_congr fun q hq => ?_)
    have h : q.val ≠ p.val := fun h => (Finset.mem_erase.mp hq).1 (Fin.ext h)
    by_cases h1 : q.val < p.val
    · rw [if_pos h1, if_pos (by omega)]
    · rw [if_neg h1, if_neg (by omega)]

/-- What the program tests before each of these waits: that the peer is not the device itself. -/
theorem other_iff : ∀ c p : Dev nD, Scalar.cmpi .ne (Scalar.extui (Scalar.cmpi .ne (myW c) (BitVec.ofNat 32 p.val)) : BitVec 32) 0#32 = 1#1 ↔ p ≠ c := by
  decide +kernel

/-- One of these waits, skipped for the device's own slot. -/
theorem wp_group {c : Dev nD} (p : Dev nD) {n n' : ℕ} (hn : p.val = n) (hn' : p.val + 1 = n') {w : BitVec 32} (hw : w = BitVec.ofNat 32 p.val) {sem : DmaSem sig} (hsem : sem = fsem 3 p)
    {off : Fin 3 → ℕ} {inb : ∀ a, off a + S1x2x1024.size a ≤ S32x2x1024.size a} {h1 : (rdM).view.WordExact} {h2 : (slotV xcM off inb).view.WordExact}
    {α : Type} {k : Prog (TpuEff nD τ sig (Elt F) Λ₀ .tc) α} {Q : α → sProp 𝕄} :
    GS m K c n ⊢ iprop((GS m K c n' -∗ WP c k Q)
      -∗ WP c ((if h : Scalar.cmpi .ne (Scalar.extui (Scalar.cmpi .ne (myW c) w) : BitVec 32) 0#32 = 1#1 then
          .op (.waitDma2 sem rdM (slotV xcM off inb) h1 h2) fun _ => k else k)) Q) := by
  subst hw hn hn'
  unfold GS
  by_cases hp : p = c
  · subst hp
    rw [dif_neg (fun h => (other_iff p p).mp h rfl)]
    iintro ⟨#HC, HO, HX, HG⟩ Hk
    iapply Hk
    isplitr; · iexact HC
    isplitl [HO]; · iexact HO
    isplitl [HX]
    · iapply (GX_own m p); iexact HX
    iapply (GC_own p); iexact HG
  · rw [dif_pos ((other_iff c p).mpr hp)]
    obtain ⟨R, e1, e2⟩ := GC_at (F := F) hp
    rw [e1, e2]
    iintro ⟨#HC, HO, HX, ⟨Hc, Ha⟩, HR⟩ Hk
    have hN : (slotV xcM off inb).view.dmaCredit = N := rfl
    have hs : lv (fcell 3 c p) 2 < 2 + 6 := by rw [lv_fam]; decide
    iapply (wp_wait_fam m K 3 hp (r := 2) (by decide) (s := 6) hs hsem hN) $$ [HO Hc Ha]
    · isplitr; · iexact HC
      isplitl [HO]; · iexact HO
      isplitl [Hc] <;> iassumption
    iintro ⟨HO, Ha, Hp⟩
    iapply Hk
    isplitr; · iexact HC
    isplitl [HO]; · iexact HO
    isplitl [HX Hp]
    · iapply (GX_next m hp)
      isplitl [Hp]
      · unfold famPay grcvPay
        icases Hp with ⟨Hp, -⟩
        iexact Hp
      iexact HX
    isplitl [Ha] <;> iassumption

/-- A load of eight slots that have arrived. -/
theorem wp_eight {c : Dev nD} {n k : ℕ} (hk : k + 8 ≤ n) {inb : ∀ a, (![k, 0, 0] : Fin 3 → ℕ) a + S8x2x1024.size a ≤ S32x2x1024.size a} {hl}
    {α : Type} {kk : Vec F S8x2x1024 .bf16 → Prog (TpuEff nD τ sig (Elt F) Λ₀ .tc) α} {Q : α → sProp 𝕄} :
    GS m K c n ⊢ iprop((GS m K c n -∗ WP c (kk (eight (XC m 2) k inb)) Q)
      -∗ WP c (.op (.load xcM (Rect.unit (s := S32x2x1024) ![k, 0, 0] S8x2x1024.size inb).toLoadRect hl) kk) Q) := by
  have e := pointsTo_biUnion (Ix := ℕ) (Val := Elt F) (Name := ℕ) (U := UU) (Lvl := ℕ) (ℓ := (c : Thread nD τ).loc cc0_scratch3) (q := fullShare) (f := XC m 2)
    (Finset.univ.filter fun p : Dev nD => p.val < n ∨ p = c) sl (fun p _ q _ hpq => sl_disjoint hpq)
  have hS : (xcM).view.setOn (Rect.unit (s := S32x2x1024) ![k, 0, 0] S8x2x1024.size inb).toLoadRect.set
      ⊆ (Finset.univ.filter fun p : Dev nD => p.val < n ∨ p = c).biUnion sl := by
    intro i hi
    have hi' : i ∈ (Rect.unit (s := S32x2x1024) ![k, 0, 0] S8x2x1024.size inb).set := by
      rw [← View.set_slice_whole (cc0_scratch3 : Ref sig .tc), View.set_slice]; exact hi
    have h0 := (Rect.mem_set_unit.mp hi' 0).2
    have e0 : (![k, 0, 0] : Fin 3 → ℕ) 0 = k := rfl
    have e1 : S8x2x1024.size 0 = 8 := rfl
    rw [e0, e1] at h0
    refine Finset.mem_biUnion.mpr ⟨slotOf i, Finset.mem_filter.mpr ⟨Finset.mem_univ _, Or.inl ?_⟩, mem_sl.mpr rfl⟩
    show (i 0).val < n
    omega
  unfold GS GX xc
  rw [← e]
  iintro ⟨#HC, HO, HX, HG⟩ Hk
  iapply (wp_loadV (M := xcM) (r := (Rect.unit (s := S32x2x1024) ![k, 0, 0] S8x2x1024.size inb).toLoadRect) (v := eight (XC m 2) k inb) hS rfl) $$ [HX]
  · iexact HX
  iintro HX
  iapply Hk
  isplitr; · iexact HC
  isplitl [HO]; · iexact HO
  isplitl [HX] <;> iassumption

end Cert.MlpProof

end
-- ==== Proof.Last.lean ====
module

public import proofs.«01_k».proof.Proof.Gather

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig ℕ (Elt F) ℕ UU ℕ

variable (m : (ℓ : Loc nD τ sig) → Buf (Elt F) ℓ)

/-! ## The last layer's sums, and the result -/

set_option maxRecDepth 65536

variable (K : Dev nD × Fin 131 → ℕ) {c : Dev nD}

/-- Part 8: the last layer's sums sent out, and the first eight devices' received. -/
theorem part8_ok {Q : PUnit → sProp 𝕄} :
    iprop(Ctx m K ∗ OW c (OT c 5) ∗ pb c c (PART m 2 c) ∗ crF 0 c 2 ∗ posF 0 c 2 ∗ GAV c 2 ∗ rd c fullShare (RED m 2 c) ∗ xc c c (XC m 2) ∗ TOKg c 2 ∗ posF 2 c 2
        ∗ crF 3 c 2 ∗ posF 3 c 2)
      ⊢ iprop((iprop(GS m K c 8 ∗ pbW c (PART m 2 c) ∗ posF 0 c 3 ∗ rd c (shareDrop fullShare 31) (RED m 2 c) ∗ crF 2 c 2 ∗ posF 2 c 2)
            -∗ Q ⟨⟩) -∗ WP c (P8 c (myW c) 1#32 31#32) Q) := by
  unfold P8
  rw [k0_part8_eq_skeleton]; unfold k0_part8_skel
  simp only [semSignalWord, semWaitWord, Prog.lift, Prog.bind_op, Prog.bind_ret, Prog.pure_eq_ret, wp_deviceId]
  iintro ⟨#HC, HO, Hpb, Hc0, Hp0, Hga, Hrd, Hxc, Htk, Hp2, Hc3, Hp3⟩ Hk
  ihave Hn := (NX_last c) $$ []; · iempintro
  ihave Hrd := (rd_part (RED m 2 c)) $$ Hrd
  icases Hrd with ⟨Hrd, Hrdp⟩
  iapply (wp_ag_loop m K (r := 2) (by decide) (l := k0_t16_loop) trips31 fun k O O' hO hp => by
    unfold k0_t16_body
    simp only [Prog.lift, Prog.bind_op, Prog.bind_ret, Prog.pure_eq_ret]
    exact trip_ag m K hp (by decide) (my_off3 c) (sem11 (peer_off1 c (trips31 ▸ k.isLt)) _) (sem12 (my_off1 c) _)
      (Fin.ext (dev_word c (trips31 ▸ k.isLt))) hO) $$ [HO Hrdp Hga Hn Htk Hp2]
  · isplitr; · iexact HC
    isplitl [HO]; · iexact HO
    isplitl [Hrdp]; · iexact Hrdp
    isplitl [Hga]; · iexact Hga
    isplitl [Hn]; · iexact Hn
    isplitl [Htk]; · iexact Htk
    iexact Hp2
  iintro ⟨HO, Hc2, Hp2⟩
  iapply (wp_wait_loop m K (r := 2) 0 (s := 6) (l := k0_t17_loop) trips31 fun k hp => by
    unfold k0_t17_body
    simp only [Prog.lift, Prog.bind_op, Prog.bind_ret, Prog.pure_eq_ret]
    exact trip_wait m K 0 hp (by decide) (by rw [lv_fam]; decide) (sem9 (peer_off1 c (trips31 ▸ k.isLt)) _) rfl) $$ [HO Hc0 Hp0]
  · isplitr; · iexact HC
    isplitl [HO]; · iexact HO
    isplitl [Hc0]; · iexact Hc0
    iexact Hp0
  iintro ⟨HO, Hp0, Hg⟩
  ihave Hg := (got_snd m) $$ Hg
  ihave Hpb := (pb_join (PART m 2 c)) $$ [Hpb Hg]
  · isplitl [Hpb]; · iexact Hpb
    iexact Hg
  ihave HX := (GX_zero m c) $$ Hxc
  ihave HC3 := (GC_zero c) $$ [Hc3 Hp3]
  · isplitl [Hc3]; · iexact Hc3
    iexact Hp3
  ihave HG : GS m K c 0 $$ [HO HX HC3]
  · unfold GS
    isplitr; · iexact HC
    isplitl [HO]; · iexact HO
    isplitl [HX] <;> iassumption
  iapply (wp_group m K (p := 0) (n := 0) (n' := 1) rfl rfl rfl (sem12 (p := 0) rfl _)) $$ HG; iintro HG
  iapply (wp_group m K (p := 1) (n := 1) (n' := 2) rfl rfl rfl (sem12 (p := 1) rfl _)) $$ HG; iintro HG
  iapply (wp_group m K (p := 2) (n := 2) (n' := 3) rfl rfl rfl (sem12 (p := 2) rfl _)) $$ HG; iintro HG
  iapply (wp_group m K (p := 3) (n := 3) (n' := 4) rfl rfl rfl (sem12 (p := 3) rfl _)) $$ HG; iintro HG
  iapply (wp_group m K (p := 4) (n := 4) (n' := 5) rfl rfl rfl (sem12 (p := 4) rfl _)) $$ HG; iintro HG
  iapply (wp_group m K (p := 5) (n := 5) (n' := 6) rfl rfl rfl (sem12 (p := 5) rfl _)) $$ HG; iintro HG
  iapply (wp_group m K (p := 6) (n := 6) (n' := 7) rfl rfl rfl (sem12 (p := 6) rfl _)) $$ HG; iintro HG
  iapply (wp_group m K (p := 7) (n := 7) (n' := 8) rfl rfl rfl (sem12 (p := 7) rfl _)) $$ HG; iintro HG
  iapply ret_intro
  iapply Hk
  isplitl [HG]; · iexact HG
  isplitl [Hpb]; · iexact Hpb
  isplitl [Hp0]; · iexact Hp0
  isplitl [Hrd]; · iexact Hrd
  isplitl [Hc2]; · iexact Hc2
  iexact Hp2

/-- Part 9: the first sixteen rows of the output, and the next eight devices' sums. -/
theorem part9_ok {Q : Vec F S8x2x1024 .bf16 → sProp 𝕄} :
    iprop(GS m K c 8 ∗ outHeld m c 0)
      ⊢ iprop((iprop(GS m K c 16 ∗ outHeld m c 16)
            -∗ Q (eight (XC m 2) 8 inb_S32x2x1024_S8x2x1024_8_0_0)) -∗ WP c (P9 (myW c)) Q) := by
  unfold P9
  rw [k0_part9_eq_skeleton]; unfold k0_part9_skel
  simp only [semSignalWord, semWaitWord, Prog.lift, Prog.bind_op, Prog.bind_ret, Prog.pure_eq_ret, wp_deviceId]
  iintro ⟨HG, Ho⟩ Hk
  iapply (wp_eight m K (k := 0) (n := 8) (by decide)) $$ HG; iintro HG
  iapply (wp_store_o m (n := 0) (n' := 16) rfl fun j i h0 h1 => eight_out m (n := 0) inb_S32x2x1024_S8x2x1024_0_0_0 j i (by omega) h1) $$ Ho; iintro Ho
  iapply (wp_group m K (p := 8) (n := 8) (n' := 9) rfl rfl rfl (sem12 (p := 8) rfl _)) $$ HG; iintro HG
  iapply (wp_group m K (p := 9) (n := 9) (n' := 10) rfl rfl rfl (sem12 (p := 9) rfl _)) $$ HG; iintro HG
  iapply (wp_group m K (p := 10) (n := 10) (n' := 11) rfl rfl rfl (sem12 (p := 10) rfl _)) $$ HG; iintro HG
  iapply (wp_group m K (p := 11) (n := 11) (n' := 12) rfl rfl rfl (sem12 (p := 11) rfl _)) $$ HG; iintro HG
  iapply (wp_group m K (p := 12) (n := 12) (n' := 13) rfl rfl rfl (sem12 (p := 12) rfl _)) $$ HG; iintro HG
  iapply (wp_group m K (p := 13) (n := 13) (n' := 14) rfl rfl rfl (sem12 (p := 13) rfl _)) $$ HG; iintro HG
  iapply (wp_group m K (p := 14) (n := 14) (n' := 15) rfl rfl rfl (sem12 (p := 14) rfl _)) $$ HG; iintro HG
  iapply (wp_group m K (p := 15) (n := 15) (n' := 16) rfl rfl rfl (sem12 (p := 15) rfl _)) $$ HG; iintro HG
  iapply (wp_eight m K (k := 8) (n := 16) (by decide)) $$ HG; iintro HG
  iapply ret_intro
  iapply Hk
  isplitl [HG]; · iexact HG
  iexact Ho

/-- Part 10: sixteen more rows, and eight more devices. -/
theorem part10_ok {Q : FVec F S16x1024 .f32 → sProp 𝕄} :
    iprop(GS m K c 16 ∗ outHeld m c 16)
      ⊢ iprop((iprop(GS m K c 24 ∗ outHeld m c 32)
            -∗ Q (k0_pay23 (eight (XC m 2) 16 inb_S32x2x1024_S8x2x1024_16_0_0))) -∗ WP c (P10 (myW c) (eight (XC m 2) 8 inb_S32x2x1024_S8x2x1024_8_0_0)) Q) := by
  unfold P10
  rw [k0_part10_eq_skeleton]; unfold k0_part10_skel
  simp only [semSignalWord, semWaitWord, Prog.lift, Prog.bind_op, Prog.bind_ret, Prog.pure_eq_ret, wp_deviceId, pay24_eq, pay25_eq]
  iintro ⟨HG, Ho⟩ Hk
  iapply (wp_store_o m (n := 16) (n' := 32) rfl fun j i h0 h1 => eight_out m (n := 8) inb_S32x2x1024_S8x2x1024_8_0_0 j i (by omega) h1) $$ Ho; iintro Ho
  iapply (wp_group m K (p := 16) (n := 16) (n' := 17) rfl rfl rfl (sem12 (p := 16) rfl _)) $$ HG; iintro HG
  iapply (wp_group m K (p := 17) (n := 17) (n' := 18) rfl rfl rfl (sem12 (p := 17) rfl _)) $$ HG; iintro HG
  iapply (wp_group m K (p := 18) (n := 18) (n' := 19) rfl rfl rfl (sem12 (p := 18) rfl _)) $$ HG; iintro HG
  iapply (wp_group m K (p := 19) (n := 19) (n' := 20) rfl rfl rfl (sem12 (p := 19) rfl _)) $$ HG; iintro HG
  iapply (wp_group m K (p := 20) (n := 20) (n' := 21) rfl rfl rfl (sem12 (p := 20) rfl _)) $$ HG; iintro HG
  iapply (wp_group m K (p := 21) (n := 21) (n' := 22) rfl rfl rfl (sem12 (p := 21) rfl _)) $$ HG; iintro HG
  iapply (wp_group m K (p := 22) (n := 22) (n' := 23) rfl rfl rfl (sem12 (p := 22) rfl _)) $$ HG; iintro HG
  iapply (wp_group m K (p := 23) (n := 23) (n' := 24) rfl rfl rfl (sem12 (p := 23) rfl _)) $$ HG; iintro HG
  iapply (wp_eight m K (k := 16) (n := 24) (by decide)) $$ HG; iintro HG
  iapply ret_intro
  iapply Hk
  isplitl [HG]; · iexact HG
  iexact Ho

/-- Part 11: sixteen more rows, and the last eight devices. -/
theorem part11_ok {Q : FVec F S16x1024 .f32 → sProp 𝕄} :
    iprop(GS m K c 24 ∗ outHeld m c 32)
      ⊢ iprop((iprop(GS m K c 32 ∗ outHeld m c 48)
            -∗ Q (k0_pay23 (eight (XC m 2) 24 inb_S32x2x1024_S8x2x1024_24_0_0))) -∗ WP c (P11 (myW c) (k0_pay23 (eight (XC m 2) 16 inb_S32x2x1024_S8x2x1024_16_0_0))) Q) := by
  unfold P11
  rw [k0_part11_eq_skeleton]; unfold k0_part11_skel
  simp only [semSignalWord, semWaitWord, Prog.lift, Prog.bind_op, Prog.bind_ret, Prog.pure_eq_ret, wp_deviceId, pay26_eq]
  iintro ⟨HG, Ho⟩ Hk
  iapply (wp_store_o m (n := 32) (n' := 48) rfl fun j i h0 h1 => eight_out m (n := 16) inb_S32x2x1024_S8x2x1024_16_0_0 j i (by omega) h1) $$ Ho; iintro Ho
  iapply (wp_group m K (p := 24) (n := 24) (n' := 25) rfl rfl rfl (sem12 (p := 24) rfl _)) $$ HG; iintro HG
  iapply (wp_group m K (p := 25) (n := 25) (n' := 26) rfl rfl rfl (sem12 (p := 25) rfl _)) $$ HG; iintro HG
  iapply (wp_group m K (p := 26) (n := 26) (n' := 27) rfl rfl rfl (sem12 (p := 26) rfl _)) $$ HG; iintro HG
  iapply (wp_group m K (p := 27) (n := 27) (n' := 28) rfl rfl rfl (sem12 (p := 27) rfl _)) $$ HG; iintro HG
  iapply (wp_group m K (p := 28) (n := 28) (n' := 29) rfl rfl rfl (sem12 (p := 28) rfl _)) $$ HG; iintro HG
  iapply (wp_group m K (p := 29) (n := 29) (n' := 30) rfl rfl rfl (sem12 (p := 29) rfl _)) $$ HG; iintro HG
  iapply (wp_group m K (p := 30) (n := 30) (n' := 31) rfl rfl rfl (sem12 (p := 30) rfl _)) $$ HG; iintro HG
  iapply (wp_group m K (p := 31) (n := 31) (n' := 32) rfl rfl rfl (sem12 (p := 31) rfl _)) $$ HG; iintro HG
  iapply (wp_eight m K (k := 24) (n := 32) (by decide)) $$ HG; iintro HG
  iapply ret_intro
  iapply Hk
  isplitl [HG]; · iexact HG
  iexact Ho

end Cert.MlpProof

end
-- ==== Proof.Body.lean ====
module

public import proofs.«01_k».proof.Proof.Last

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig ℕ (Elt F) ℕ UU ℕ

variable (m : (ℓ : Loc nD τ sig) → Buf (Elt F) ℓ)

/-! ## The whole body

What a device holds when its body starts, and what it holds at the end. -/

set_option maxRecDepth 65536

variable (K : Dev nD × Fin 131 → ℕ) {c : Dev nD}

/-- The rights to perform the duties that are device `c`'s. -/
def toks (c : Dev nD) : sProp 𝕄 :=
  iprop((bigSep (PE c) fun p => dutyTok ER (barCell p) 0 c) ∗ TOKr c 0 ∗ TOKr c 1 ∗ TOKr c 2 ∗ TOKg c 0 ∗ TOKg c 1 ∗ TOKg c 2
    ∗ dutyTok ER (lcell 0 c) 0 dz ∗ dutyTok ER (lcell 0 c) 1 dz ∗ dutyTok ER (lcell 0 c) 2 dz
    ∗ dutyTok ER (lcell 1 c) 0 dz ∗ dutyTok ER (lcell 1 c) 1 dz ∗ dutyTok ER (lcell 1 c) 2 dz)
/-- Device `c`'s rounds: `b` of its barrier's cell, `r` of every other. -/
def poss (c : Dev nD) (b r : ℕ) : sProp 𝕄 :=
  iprop(atPos ER (barCell c) b ∅ 0 ∗ atL 0 c r ∗ atL 1 c r ∗ posF 0 c r ∗ posF 1 c r ∗ posF 2 c r ∗ posF 3 c r)
/-- What device `c` is owed: its peers' signals and transfers. -/
def creds (c : Dev nD) : sProp 𝕄 :=
  iprop(cred (tallyAt (barCell c) 0 31) ∗ crF 1 c 0 ∗ crF 1 c 1 ∗ crF 1 c 2 ∗ crF 3 c 0 ∗ crF 3 c 1 ∗ crF 3 c 2)
/-- Device `c`'s own buffers, whatever they hold. -/
def bufs (c : Dev nD) : sProp 𝕄 :=
  iprop((∃ f, pbW c f) ∗ (∃ f, rsW c f) ∗ (∃ g, rd c fullShare g) ∗ (∃ f, xcW c f) ∗ (∃ f, wi c f) ∗ (∃ f, wo c f) ∗ wibAny c ∗ wobAny c)
/-- Device `c`'s blocks of the weights. -/
def args (c : Dev nD) : sProp 𝕄 :=
  iprop(inArg m 0 c ∗ inArg m 1 c ∗ inArg m 2 c ∗ outArg m 0 c ∗ outArg m 1 c ∗ outArg m 2 c)

/-- A part of the program followed by the rest. -/
theorem wp_part {c : Dev nD} {β α : Type} {p : Prog (TpuEff nD τ sig (Elt F) Λ₀ .tc) β} {k : β → Prog (TpuEff nD τ sig (Elt F) Λ₀ .tc) α} {r : β} {Q : α → sProp 𝕄}
    {Pre Post : sProp 𝕄} (h : ∀ Q' : β → sProp 𝕄, Pre ⊢ iprop((Post -∗ Q' r) -∗ WP c p Q')) :
    Pre ⊢ iprop((Post -∗ WP c (k r) Q) -∗ WP c (p >>= k) Q) := by
  have e : WP c (p >>= k) Q = WP c p fun a => WP c (k a) Q := wp_bind _ _ _ p k Q
  rw [e]
  exact h fun a => WP c (k a) Q

/-- The body, run by device `c`: the result is in its output's staging buffer, and everything else is as it was. -/
theorem body_ok (t : Fin cfg0.N) :
    iprop(Ctx m K ∗ OW c (O₀ c) ∗ toks c ∗ poss c 0 0 ∗ creds c ∗ bufs c ∗ args m c
        ∗ (((c : Thread nD τ).loc cc0_stg0_0) ↦{fullShare} xstg m c) ∗ (∃ f : Vec F S64x1024 .f32, ((c : Thread nD τ).loc cc0_stg1_0) ↦{fullShare} f))
      ⊢ WP c (bodyAt0 t) fun _ => iprop(OW c (OT c 6) ∗ poss c 1 3 ∗ bufs c ∗ args m c
        ∗ (((c : Thread nD τ).loc cc0_stg0_0) ↦{fullShare} xstg m c) ∗ (((c : Thread nD τ).loc cc0_stg1_0) ↦{fullShare} OUT m)) := by
  rw [body_eq]
  unfold cc0_body_skel toks poss creds bufs args
  iintro ⟨#HC, HO, ⟨Htb, Hr0, Hr1, Hr2, Hg0, Hg1, Hg2, Ht0, Ht1, Ht2, Hu0, Hu1, Hu2⟩, ⟨Hab, Ha0, Ha1, Hp0, Hp1, Hp2, Hp3⟩, ⟨Hcb, Hc10, Hc11, Hc12, Hc30, Hc31, Hc32⟩, ⟨Hpb, ⟨%frs, Hrs⟩, Hrd, ⟨%fxc, Hxc⟩, Hwi, Hwo, Hwib, Hwob⟩, ⟨Hi0, Hi1, Hi2, Ho0, Ho1, Ho2⟩, Hx, Hout⟩
  ihave Hrs := (rs_part frs) $$ Hrs
  icases Hrs with ⟨Hrs, Hrp⟩
  ihave Hra := (rsP_any c frs) $$ Hrp
  ihave Hxc := (xc_part fxc) $$ Hxc
  icases Hxc with ⟨Hxc, Hxp⟩
  ihave Hxa := (xcP_any c fxc) $$ Hxp
  iapply (wp_part fun Q' => part1_ok m K) $$ [HO Htb Hra Hwi Hwo Hi0 Hi1 Ho0 Ht0 Ht1 Hu0 Ha0 Ha1 Hx Hwib Hwob]
  · isplitr; · iexact HC
    isplitl [HO]; · iexact HO
    isplitl [Htb]; · iexact Htb
    isplitl [Hra]; · iexact Hra
    isplitl [Hwi]; · iexact Hwi
    isplitl [Hwo]; · iexact Hwo
    isplitl [Hi0]; · iexact Hi0
    isplitl [Hi1]; · iexact Hi1
    isplitl [Ho0]; · iexact Ho0
    isplitl [Ht0]; · iexact Ht0
    isplitl [Ht1]; · iexact Ht1
    isplitl [Hu0]; · iexact Hu0
    isplitl [Ha0]; · iexact Ha0
    isplitl [Ha1]; · iexact Ha1
    isplitl [Hx]; · iexact Hx
    isplitl [Hwib]; · iexact Hwib
    iexact Hwob
  iintro ⟨HO, Hcl0, Ha0, Ha1, Hwo, Hi0, Ho0, Hwib, Hwob, Hx⟩
  dsimp only
  iapply (wp_part fun Q' => part2_ok m K) $$ [HO Hcl0 Ha0 Hwo Ho1 Hu1 Ha1 Hwib Hwob Hpb Hcb Hab Hxa Hrs Hr0 Hp0 Hp3]
  · isplitr; · iexact HC
    isplitl [HO]; · iexact HO
    isplitl [Hcl0]; · iexact Hcl0
    isplitl [Ha0]; · iexact Ha0
    isplitl [Hwo]; · iexact Hwo
    isplitl [Ho1]; · iexact Ho1
    isplitl [Hu1]; · iexact Hu1
    isplitl [Ha1]; · iexact Ha1
    isplitl [Hwib]; · iexact Hwib
    isplitl [Hwob]; · iexact Hwob
    isplitl [Hpb]; · iexact Hpb
    isplitl [Hcb]; · iexact Hcb
    isplitl [Hab]; · iexact Hab
    isplitl [Hxa]; · iexact Hxa
    isplitl [Hrs]; · iexists _; iexact Hrs
    isplitl [Hr0]; · iexact Hr0
    isplitl [Hp0]; · iexact Hp0
    iexact Hp3
  iintro ⟨HO, Ha0, Hwi, Hi1, Hcl1, Ha1, Hwib, Hwob, Hpb, Hc00, Hab, Hrs, Hp0, Hp3⟩
  ihave Hwib := (wib_any) $$ Hwib
  iapply (wp_part fun Q' => part3_ok m K) $$ [HO Hwib Hwi Hi2 Ht2 Ha0 Hc10 Hp1 Hrs Hrd Hxc Hg0 Hp2 Hc00 Hp0 Hcl1 Ha1]
  · isplitr; · iexact HC
    isplitl [HO]; · iexact HO
    isplitl [Hwib]; · iexact Hwib
    isplitl [Hwi]; · iexists _; iexact Hwi
    isplitl [Hi2]; · iexact Hi2
    isplitl [Ht2]; · iexact Ht2
    isplitl [Ha0]; · iexact Ha0
    isplitl [Hc10]; · iexact Hc10
    isplitl [Hp1]; · iexact Hp1
    isplitl [Hrs]; · iexact Hrs
    isplitl [Hrd]; · iexact Hrd
    isplitl [Hxc]; · iexists _; iexact Hxc
    isplitl [Hg0]; · iexact Hg0
    isplitl [Hp2]; · iexact Hp2
    isplitl [Hc00]; · iexact Hc00
    isplitl [Hp0]; · iexact Hp0
    isplitl [Hcl1]; · iexact Hcl1
    iexact Ha1
  iintro ⟨HO, Hwib, Hcl0, Ha0, Hp1, Hrs, Hrd, Hxc, Hc20, Hp2, Hp0, Hpp, Ha1, Hwo, Ho1⟩
  ihave Hwob := (wob_any) $$ Hwob
  ihave Hpb := (pb_join (PART m 0 c)) $$ [Hpb Hpp]
  · isplitl [Hpb]; · iexact Hpb
    iexact Hpp
  iapply (wp_part fun Q' => part4_ok m K) $$ [HO Hwob Hwo Ho2 Hu2 Ha1 Hc30 Hp3 Hc20 Hp2 Hrd Hxc Hwib Hpb]
  · isplitr; · iexact HC
    isplitl [HO]; · iexact HO
    isplitl [Hwob]; · iexact Hwob
    isplitl [Hwo]; · iexists _; iexact Hwo
    isplitl [Ho2]; · iexact Ho2
    isplitl [Hu2]; · iexact Hu2
    isplitl [Ha1]; · iexact Ha1
    isplitl [Hc30]; · iexact Hc30
    isplitl [Hp3]; · iexact Hp3
    isplitl [Hc20]; · iexact Hc20
    isplitl [Hp2]; · iexact Hp2
    isplitl [Hrd]; · iexact Hrd
    isplitl [Hxc]; · iexact Hxc
    isplitl [Hwib]; · iexact Hwib
    iexists _; iexact Hpb
  iintro ⟨HO, Hcl1, Ha1, Hp3, Hp2, Hrd, Hxc, Hav, Hwib, Hwob, Hpb⟩
  dsimp only
  ihave Hwib := (wib_any) $$ Hwib
  iapply (wp_part fun Q' => part5_ok m K) $$ [HO Hpb Hav Hxc Hr1 Hp0 Hp3 Hrs Hcl0 Ha0 Hwib Hc11 Hp1 Hrd]
  · isplitr; · iexact HC
    isplitl [HO]; · iexact HO
    isplitl [Hpb]; · iexact Hpb
    isplitl [Hav]; · iexact Hav
    isplitl [Hxc]; · iexact Hxc
    isplitl [Hr1]; · iexact Hr1
    isplitl [Hp0]; · iexact Hp0
    isplitl [Hp3]; · iexact Hp3
    isplitl [Hrs]; · iexists _; iexact Hrs
    isplitl [Hcl0]; · iexact Hcl0
    isplitl [Ha0]; · iexact Ha0
    isplitl [Hwib]; · iexact Hwib
    isplitl [Hc11]; · iexact Hc11
    isplitl [Hp1]; · iexact Hp1
    iexists _; iexact Hrd
  iintro ⟨HO, Hpb, Hc01, Hp0, Hp3, Hi2, Hwi, Ha0, Hwib, Hrs, Hga, Hp1, Hrd, Hxc⟩
  ihave Hwob := (wob_any) $$ Hwob
  iapply (wp_part fun Q' => part6_ok m K) $$ [HO Hpb Hc01 Hp0 Hc31 Hp3 Hwib Hrs Hga Hp1 Hrd Hxc Hg1 Hp2 Hcl1 Ha1 Hwob]
  · isplitr; · iexact HC
    isplitl [HO]; · iexact HO
    isplitl [Hpb]; · iexact Hpb
    isplitl [Hc01]; · iexact Hc01
    isplitl [Hp0]; · iexact Hp0
    isplitl [Hc31]; · iexact Hc31
    isplitl [Hp3]; · iexact Hp3
    isplitl [Hwib]; · iexact Hwib
    isplitl [Hrs]; · iexact Hrs
    isplitl [Hga]; · iexact Hga
    isplitl [Hp1]; · iexact Hp1
    isplitl [Hrd]; · iexact Hrd
    isplitl [Hxc]; · iexact Hxc
    isplitl [Hg1]; · iexact Hg1
    isplitl [Hp2]; · iexact Hp2
    isplitl [Hcl1]; · iexact Hcl1
    isplitl [Ha1]; · iexact Ha1
    iexact Hwob
  iintro ⟨HO, Hpb, Hp0, Hp1, Hp2, Hp3, Hwib, Hwob, Hrs, Hrd, Hxc, Hav, Ha1, Hwo, Ho2⟩
  dsimp only
  iapply (wp_part fun Q' => part7_ok m K) $$ [HO Hpb Hav Hxc Hr2 Hp0 Hp3 Hrs Hc12 Hp1 Hrd]
  · isplitr; · iexact HC
    isplitl [HO]; · iexact HO
    isplitl [Hpb]; · iexists _; iexact Hpb
    isplitl [Hav]; · iexact Hav
    isplitl [Hxc]; · iexact Hxc
    isplitl [Hr2]; · iexact Hr2
    isplitl [Hp0]; · iexact Hp0
    isplitl [Hp3]; · iexact Hp3
    isplitl [Hrs]; · iexists _; iexact Hrs
    isplitl [Hc12]; · iexact Hc12
    isplitl [Hp1]; · iexact Hp1
    iexists _; iexact Hrd
  iintro ⟨HO, Hpb, Hc02, Hp0, Hp3, Hrs, Hga, Hp1, Hrd, Hxc⟩
  dsimp only
  iapply (wp_part fun Q' => part8_ok m K) $$ [HO Hpb Hc02 Hp0 Hga Hrd Hxc Hg2 Hp2 Hc32 Hp3]
  · isplitr; · iexact HC
    isplitl [HO]; · iexact HO
    isplitl [Hpb]; · iexact Hpb
    isplitl [Hc02]; · iexact Hc02
    isplitl [Hp0]; · iexact Hp0
    isplitl [Hga]; · iexact Hga
    isplitl [Hrd]; · iexact Hrd
    isplitl [Hxc]; · iexact Hxc
    isplitl [Hg2]; · iexact Hg2
    isplitl [Hp2]; · iexact Hp2
    isplitl [Hc32]; · iexact Hc32
    iexact Hp3
  iintro ⟨HG, Hpb, Hp0, Hrd, Hc22, Hp2⟩
  ihave Hout := (outHeld_start m c) $$ Hout
  iapply (wp_part fun Q' => part9_ok m K) $$ [HG Hout]
  · isplitl [HG]; · iexact HG
    iexact Hout
  iintro ⟨HG, Hout⟩
  iapply (wp_part fun Q' => part10_ok m K) $$ [HG Hout]
  · isplitl [HG]; · iexact HG
    iexact Hout
  iintro ⟨HG, Hout⟩
  iapply (wp_part fun Q' => part11_ok m K) $$ [HG Hout]
  · isplitl [HG]; · iexact HG
    iexact Hout
  iintro ⟨HG, Hout⟩
  simp only [Prog.lift, Prog.bind_op, Prog.bind_ret, Prog.pure_eq_ret]
  iapply (wp_store_o m (n := 48) (n' := 64) rfl fun j i h0 h1 => eight_out m (n := 24) inb_S32x2x1024_S8x2x1024_24_0_0 j i (by omega) h1) $$ Hout; iintro Hout
  ihave Hout := (outHeld_end m c) $$ Hout
  unfold GS
  icases HG with ⟨-, HO, HX, HG⟩
  ihave Hxc := (GX_all m c) $$ HX
  ihave Hp3 := (GC_all c) $$ HG
  iapply (wp_wait_loop m K (r := 2) 2 (s := 6) (l := k0_t18_loop) trips31 fun k hp => by
    unfold k0_t18_body
    simp only [Prog.lift, Prog.bind_op, Prog.bind_ret, Prog.pure_eq_ret]
    exact trip_wait m K 2 hp (by decide) (by rw [lv_fam]; decide) (sem11 (peer_off1 c (trips31 ▸ k.isLt)) _) rfl) $$ [HO Hc22 Hp2]
  · isplitr; · iexact HC
    isplitl [HO]; · iexact HO
    isplitl [Hc22]; · iexact Hc22
    iexact Hp2
  iintro ⟨HO, Hp2, Hg⟩
  ihave Hg := (got_gsnd m) $$ Hg
  ihave Hrd := (rd_join (RED m 2 c)) $$ [Hrd Hg]
  · isplitl [Hrd]; · iexact Hrd
    iexact Hg
  ihave Hwib := (wib_any) $$ Hwib
  ihave Hwob := (wob_any) $$ Hwob
  iapply ret_intro
  isplitl [HO]; · iexact HO
  isplitl [Hab Ha0 Ha1 Hp0 Hp1 Hp2 Hp3]
  · isplitl [Hab]; · iexact Hab
    isplitl [Ha0]; · iexact Ha0
    isplitl [Ha1]; · iexact Ha1
    isplitl [Hp0]; · iexact Hp0
    isplitl [Hp1]; · iexact Hp1
    isplitl [Hp2]; · iexact Hp2
    iexact Hp3
  isplitl [Hpb Hrs Hrd Hxc Hwi Hwo Hwib Hwob]
  · isplitl [Hpb]; · iexists _; iexact Hpb
    isplitl [Hrs]; · iexists _; iexact Hrs
    isplitl [Hrd]; · iexists _; iexact Hrd
    isplitl [Hxc]; · iexists _; iexact Hxc
    isplitl [Hwi]; · iexists _; iexact Hwi
    isplitl [Hwo]; · iexists _; iexact Hwo
    isplitl [Hwib]; · iexact Hwib
    iexact Hwob
  isplitl [Hi0 Hi1 Hi2 Ho0 Ho1 Ho2]
  · isplitl [Hi0]; · iexact Hi0
    isplitl [Hi1]; · iexact Hi1
    isplitl [Hi2]; · iexact Hi2
    isplitl [Ho0]; · iexact Ho0
    isplitl [Ho1]; · iexact Ho1
    iexact Ho2
  isplitl [Hx] <;> iassumption

end Cert.MlpProof

end
-- ==== Proof.Cells.lean ====
module

public import proofs.«01_k».proof.Proof.Body

public import Idealize.ShloMosaic.Lib.Pipeline.Launch
public import Idealize.ShloMosaic.Lib.Pipeline.CollectiveSegs
public import Idealize.ShloMosaic.Lib.Rounds.Family

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig ℕ (Elt F) ℕ UU ℕ

variable (m : (ℓ : Loc nD τ sig) → Buf (Elt F) ℓ)

/-! ## The cells of a device -/

theorem fsem_inj {a a' : Fin 4} {p p' : Dev nD} (h : fsem a p = fsem a' p') : a = a' ∧ p = p' :=
  ⟨by rw [← decA_fsem a p, h, decA_fsem], by rw [← decP_fsem a p, h, decP_fsem]⟩

theorem csem_inj : Function.Injective csem := by
  intro k k' h
  by_cases h0 : k.val = 0
  · by_cases h1 : k'.val = 0
    · exact Fin.ext (h0.trans h1.symm)
    · unfold csem at h; rw [if_pos h0, if_neg h1] at h; exact absurd h (by simp)
  · by_cases h1 : k'.val = 0
    · unfold csem at h; rw [if_neg h0, if_pos h1] at h; exact absurd h (by simp)
    · unfold csem at h; rw [if_neg h0, if_neg h1] at h
      have h := congrArg Fin.val (SemLoc.dma.inj h)
      exact Fin.ext (by simpa using h)

theorem kcell_inj : Function.Injective (kcell : Dev nD × Fin 131 → GSem nD τ sig) := by
  rintro ⟨c, k⟩ ⟨c', k'⟩ h
  have h1 : (c : Thread nD τ) = (c' : Thread nD τ) := congrArg Prod.fst h
  have h2 : csem k = csem k' := congrArg Prod.snd h
  have h3 : c = c' := congrArg Prod.fst h1
  rw [h3, csem_inj h2]

/-- The cells in a row, as the first three and the four arrays. -/
def cellIdx : Fin 3 ⊕ (Fin 4 × Dev nD) → Fin 131
  | .inl j => ⟨j.val, by have := j.isLt; omega⟩
  | .inr (a, p) => kf a p

theorem cellIdx_inj : Function.Injective cellIdx := by
  rintro (j | ⟨a, p⟩) (j' | ⟨a', p'⟩) h
  · have h := congrArg Fin.val h; simp only [cellIdx] at h; exact congrArg Sum.inl (Fin.ext h)
  · have h := congrArg Fin.val h; have := j.isLt; simp only [cellIdx, kf] at h; omega
  · have h := congrArg Fin.val h; have := j'.isLt; simp only [cellIdx, kf] at h; omega
  · have h := congrArg Fin.val h; have := dev_lt p; have := dev_lt p'; simp only [cellIdx, kf] at h
    have e1 : a = a' := Fin.ext (by omega)
    subst e1
    have e2 : p = p' := Fin.ext (by omega)
    rw [e2]

def cellEquiv : Fin 3 ⊕ (Fin 4 × Dev nD) ≃ Fin 131 :=
  Equiv.ofBijective cellIdx ((Fintype.bijective_iff_injective_and_card _).mpr ⟨cellIdx_inj, rfl⟩)

/-- A family over a device's cells: the barrier's, the two loads', the four arrays'. -/
theorem cells131 {M : Type} [URA M] (Φ : Fin 131 → sProp M) :
    bigSep Finset.univ Φ = iprop(Φ 0 ∗ Φ (kl 0) ∗ Φ (kl 1) ∗ bigSep Finset.univ fun a : Fin 4 => bigSep Finset.univ fun p : Dev nD => Φ (kf a p)) := by
  rw [bigSep_univ_equiv cellEquiv, bigSep_univ_sum, bigSep_univ_prod, bigSep_univ_eq_bigSepL [0, 1, 2] (by decide) (by decide)]
  show iprop((Φ 0 ∗ Φ (kl 0) ∗ Φ (kl 1)) ∗ bigSep Finset.univ fun a : Fin 4 => bigSep Finset.univ fun p : Dev nD => Φ (kf a p)) = _
  have assoc (P Q R : sProp M) : iprop((P ∗ Q) ∗ R) = iprop(P ∗ Q ∗ R) := BI.equiv_iff.mp ⟨BI.sep_assoc, BI.sep_assoc'⟩
  rw [assoc, assoc]

/-- A family over the four arrays. -/
theorem fams {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-- A family over the devices: a device's own and its peers'. -/
theorem devs {M : Type} [URA M] (c : Dev nD) (Φ : Dev nD → sProp M) :
    bigSep Finset.univ Φ = iprop(Φ c ∗ bigSep (PE c) Φ) := bigSep_univ_at Φ c

/-- Some of a family; one of it. -/
theorem some_of {M : Type} [URA M] {I : Type} [DecidableEq I] {s t : Finset I} (h : t ⊆ s) (Φ : I → sProp M) : bigSep s Φ ⊢ bigSep t Φ :=
  bigSep_subset h
theorem one_of {M : Type} [URA M] {I : Type} [DecidableEq I] {s : Finset I} {i : I} (h : i ∈ s) (Φ : I → sProp M) : bigSep s Φ ⊢ Φ i :=
  bigSep_elim h

/-! ## The launch credit -/

/-- A sum over the trips is one over the peers. -/
theorem sum_peers {A : Type} [AddCommMonoid A] (c : Dev nD) (f : Dev nD → A) :
    ∑ j ∈ Finset.Ico 0 31, f (pr c j) = ∑ q ∈ PE c, f q := by
  rw [← image_pr c, Finset.sum_image (fun a ha b hb h =>
    pr_injOn c (Finset.mem_range.mp (Finset.mem_coe.mp ha)) (Finset.mem_range.mp (Finset.mem_coe.mp hb)) h), Finset.range_eq_Ico]

theorem fcell_inj {a a' : Fin 4} {c c' p p' : Dev nD} (h : fcell a c p = fcell a' c' p') : a = a' ∧ c = c' ∧ p = p' := by
  have h1 : c = c' := congrArg (fun g : GSem nD τ sig => g.1.1) h
  have h2 : fsem a p = fsem a' p' := SemLoc.dma.inj (congrArg Prod.snd h)
  exact ⟨(fsem_inj h2).1, h1, (fsem_inj h2).2⟩

/-- What all devices' transfers of one stage credit one cell: one transfer, if the cell is of the stage's array. -/
theorem stage_credit (a a' : Fin 4) {c p : Dev nD} (hp : p ≠ c) (u : ℕ) :
    ∑ d : Dev nD, ∑ q ∈ PE d, (tallyAt (fcell a' q d) u N : CellTallies nD τ sig ℕ) (fcell a c p) = if a' = a then Finsupp.single u N else 0 := by
  by_cases h : a' = a
  · subst h
    rw [if_pos rfl, Finset.sum_eq_single p, Finset.sum_eq_single c]
    · exact Pi.single_eq_same _ _
    · intro q hq hn
      exact Pi.single_eq_of_ne (fun e => hn (fcell_inj e).2.1.symm) _
    · intro hn; exact absurd (Finset.mem_erase.mpr ⟨hp.symm, Finset.mem_univ c⟩) hn
    · intro d _ hd
      exact Finset.sum_eq_zero fun q _ => Pi.single_eq_of_ne (fun e => hd (fcell_inj e).2.2.symm) _
    · intro hn; exact absurd (Finset.mem_univ p) hn
  · rw [if_neg h]
    exact Finset.sum_eq_zero fun d _ => Finset.sum_eq_zero fun q _ => Pi.single_eq_of_ne (fun e => h (fcell_inj e).1.symm) _

theorem O₀_at (g : GSem nD τ sig) (d : Dev nD) : O₀ d g
    = (∑ t ∈ Finset.Ico 0 6, ∑ q ∈ PE d, (tallyAt (stCell t d q) (t / 2) N : CellTallies nD τ sig ℕ) g)
      + ∑ q ∈ PE d, (tallyAt (barCell q) 0 1 : CellTallies nD τ sig ℕ) g := by
  show (OT d 0 + OB d 0) g = _
  rw [Pi.add_apply]
  unfold OT OS OB
  rw [Finset.sum_apply, Finset.sum_apply, sum_peers d fun q => (tallyAt (barCell q) 0 1 : CellTallies nD τ sig ℕ) g]
  congr 1
  refine Finset.sum_congr rfl fun t _ => ?_
  rw [Finset.sum_apply, sum_peers d fun q => (tallyAt (stCell t d q) (t / 2) N : CellTallies nD τ sig ℕ) g]

theorem launchCredit_at (g : GSem nD τ sig) : launchCredit (Pipeline.owing O₀) 0 g = ∑ d : Dev nD, O₀ d g :=
  Finsupp.ext fun i => by rw [Pipeline.launchCredit_owing, Finsupp.finset_sum_apply]

theorem launchCredit_fam (a : Fin 4) {c p : Dev nD} (hp : p ≠ c) :
    launchCredit (Pipeline.owing O₀) 0 (fcell a c p) = ∑ t ∈ Finset.Ico 0 6, if stA t = a then Finsupp.single (t / 2) N else 0 := by
  rw [launchCredit_at, Finset.sum_congr rfl fun d _ => O₀_at (fcell a c p) d, Finset.sum_add_distrib, Finset.sum_comm,
    Finset.sum_congr rfl fun t _ => stage_credit a (stA t) hp (t / 2),
    Finset.sum_eq_zero (s := Finset.univ) (f := fun d : Dev nD => ∑ q ∈ PE d, (tallyAt (barCell q) 0 1 : CellTallies nD τ sig ℕ) (fcell a c p))
      fun d _ => Finset.sum_eq_zero fun q _ => Pi.single_eq_of_ne (fun e => by have := congrArg Prod.snd e; simp at this) _, add_zero]

theorem launchCredit_bar (c : Dev nD) : launchCredit (Pipeline.owing O₀) 0 (barCell c) = Finsupp.single 0 31 := by
  have hb (d : Dev nD) : (∑ q ∈ PE d, (tallyAt (barCell q) 0 1 : CellTallies nD τ sig ℕ) (barCell c)) = if d ≠ c then Finsupp.single 0 1 else 0 := by
    by_cases h : d ≠ c
    · rw [if_pos h, Finset.sum_eq_single c]
      · exact Pi.single_eq_same _ _
      · intro q hq hn
        exact Pi.single_eq_of_ne (fun e => hn (congrArg (fun g : GSem nD τ sig => g.1.1) e).symm) _
      · intro hn; exact absurd (Finset.mem_erase.mpr ⟨Ne.symm h, Finset.mem_univ c⟩) hn
    · rw [if_neg h]
      exact Finset.sum_eq_zero fun q hq => Pi.single_eq_of_ne (fun e => h (by
        have e : c = q := congrArg (fun g : GSem nD τ sig => g.1.1) e
        rw [e]; exact (Finset.mem_erase.mp hq).1.symm)) _
  rw [launchCredit_at, Finset.sum_congr rfl fun d _ => O₀_at (barCell c) d, Finset.sum_add_distrib,
    Finset.sum_eq_zero (s := Finset.univ) (f := fun d : Dev nD => ∑ t ∈ Finset.Ico 0 6, ∑ q ∈ PE d, (tallyAt (stCell t d q) (t / 2) N : CellTallies nD τ sig ℕ) (barCell c))
      fun d _ => Finset.sum_eq_zero fun t _ => Finset.sum_eq_zero fun q _ =>
        Pi.single_eq_of_ne (fun e => by have := congrArg Prod.snd e; simp at this) _, zero_add,
    Finset.sum_congr rfl fun d _ => hb d, ← Finset.sum_filter, Finset.sum_const, Finset.filter_ne' , card_PE c]
  rw [Finsupp.smul_single]
  rfl

/-- A cell's launch credit by layers. -/
theorem fam_cred (a : Fin 4) (ha : a = 1 ∨ a = 3) {c p : Dev nD} (hp : p ≠ c) :
    (cred (tallyOn (fcell a c p) (launchCredit (Pipeline.owing O₀) 0 (fcell a c p))) : sProp 𝕄)
      ⊢ iprop(cred (tallyAt (fcell a c p) 0 N) ∗ cred (tallyAt (fcell a c p) 1 N) ∗ cred (tallyAt (fcell a c p) 2 N)) := by
  have e : tallyOn (fcell a c p) (launchCredit (Pipeline.owing O₀) 0 (fcell a c p))
      = tallyAt (fcell a c p) 0 N + (tallyAt (fcell a c p) 1 N + tallyAt (fcell a c p) 2 N : CellTallies nD τ sig ℕ) := by
    rw [launchCredit_fam a hp]
    rcases ha with rfl | rfl <;>
    · simp only [Finset.sum_Ico_succ_top (show (0 : ℕ) ≤ 5 by omega), Finset.sum_Ico_succ_top (show (0 : ℕ) ≤ 4 by omega), Finset.sum_Ico_succ_top (show (0 : ℕ) ≤ 3 by omega),
        Finset.sum_Ico_succ_top (show (0 : ℕ) ≤ 2 by omega), Finset.sum_Ico_succ_top (show (0 : ℕ) ≤ 1 by omega), Finset.sum_Ico_succ_top (show (0 : ℕ) ≤ 0 by omega), Finset.Ico_self, Finset.sum_empty]
      simp only [stA]
      norm_num only
      simp only [Nat.reduceEqDiff, Fin.isValue, Fin.reduceEq, if_true, if_false, ite_true, ite_false, reduceIte, zero_add, add_zero, Nat.zero_div, Nat.reduceDiv]
      unfold tallyAt tallyOn
      rw [Pi.single_add, Pi.single_add, add_assoc]
  rw [e]
  exact (cred_add _ _).1.trans (sep_mono_right (cred_add _ _).1)

theorem bar_cred (c : Dev nD) : (cred (tallyOn (barCell c) (launchCredit (Pipeline.owing O₀) 0 (barCell c))) : sProp 𝕄) ⊢ cred (tallyAt (barCell c) 0 31) := by
  rw [launchCredit_bar]; exact .rfl

/-- From a family over all semaphores, the barrier's and the four arrays'. -/
theorem of_sems (Φ : SemLoc sig → sProp 𝕄) : bigSep Finset.univ Φ
    ⊢ iprop(Φ (.reg barS) ∗ bigSep Finset.univ fun a : Fin 4 => bigSep Finset.univ fun p : Dev nD => Φ (.dma (fsem a p))) := by
  have h : bigSep (Finset.univ.map ⟨csem, csem_inj⟩) Φ = iprop(Φ (csem 0) ∗ Φ (csem (kl 0)) ∗ Φ (csem (kl 1))
      ∗ bigSep Finset.univ fun a : Fin 4 => bigSep Finset.univ fun p : Dev nD => Φ (csem (kf a p))) := by
    rw [bigSep_map]; exact cells131 fun k => Φ (csem k)
  simp only [csem_kf, csem_bar] at h
  iintro H
  ihave H := (some_of (t := Finset.univ.map ⟨csem, csem_inj⟩) (Finset.subset_univ _) Φ) $$ H
  ihave H := (eqv h) $$ H
  icases H with ⟨Hb, -, -, H⟩
  isplitl [Hb] <;> iassumption

/-- The launch credit of a device, by cell and layer. -/
theorem creds_intro (c : Dev nD) : (Pipeline.launchCred O₀ c : sProp 𝕄) ⊢ creds c := by
  unfold Pipeline.launchCred
  have hf (a : Fin 4) (ha : a = 1 ∨ a = 3) : (bigSep Finset.univ fun p : Dev nD => (cred (tallyOn ((c : Thread nD τ), SemLoc.dma (fsem a p)) (launchCredit (Pipeline.owing O₀) 0 (fcell a c p))) : sProp 𝕄))
      ⊢ iprop(crF a c 0 ∗ crF a c 1 ∗ crF a c 2) := by
    refine (bigSep_subset (t := PE c) (Finset.subset_univ _)).trans ?_
    unfold crF
    rw [← bigSep_sep', ← bigSep_sep']
    refine bigSep_mono fun p hp => ?_
    exact fam_cred a ha (Finset.mem_erase.mp hp).1
  iintro H
  ihave H := (of_sems _) $$ H
  icases H with ⟨Hb, H⟩
  ihave H := (eqv (fams _)) $$ H
  icases H with ⟨-, H1, -, H3⟩
  ihave Hb := (bar_cred c) $$ Hb
  ihave H1 := (hf 1 (Or.inl rfl)) $$ H1
  ihave H3 := (hf 3 (Or.inr rfl)) $$ H3
  icases H1 with ⟨H10, H11, H12⟩
  icases H3 with ⟨H30, H31, H32⟩
  unfold creds
  isplitl [Hb]; · iexact Hb
  isplitl [H10]; · iexact H10
  isplitl [H11]; · iexact H11
  isplitl [H12]; · iexact H12
  isplitl [H30]; · iexact H30
  isplitl [H31]; · iexact H31
  iexact H32

/-! ## The tokens a device deals itself -/

/-- Token `k`, `r` of device `c` towards `p`: its sends to `p` (0, 2) and their receipts there (1, 3) at layer `r`, its two
    loads (4, 5), its barrier signal to `p` (6). -/
def tokOf : Dev nD × Dev nD × Fin 7 × Fin 3 → GSem nD τ sig × ℕ × Dev nD
  | (c, p, k, r) => match k with
    | 0 => (fcell 0 c p, r.val, dz)
    | 1 => (fcell 1 p c, r.val, dz)
    | 2 => (fcell 2 c p, r.val, dz)
    | 3 => (fcell 3 p c, r.val, dz)
    | 4 => (lcell 0 c, r.val, p)
    | 5 => (lcell 1 c, r.val, p)
    | 6 => (barCell p, r.val, c)

/-- Whose token it is, towards which device, which. -/
def tokDec (g : GSem nD τ sig) (d : Dev nD) : Dev nD × Dev nD × ℕ :=
  match g.2 with
  | .reg _ => (d, g.1.1, 6)
  | .dma n => if n.val < 4 then (g.1.1, d, n.val + 2)
    else if (decA n).val % 2 = 0 then (g.1.1, decP n, (decA n).val) else (decP n, g.1.1, (decA n).val)

theorem tokDec_fam (a : Fin 4) (c p d : Dev nD) : tokDec (fcell a c p) d = if a.val % 2 = 0 then (c, p, a.val) else (p, c, a.val) := by
  show (if (fsem a p).val < 4 then _ else if (decA (fsem a p)).val % 2 = 0 then _ else _) = _
  rw [if_neg (by have := fsem_ge a p; omega), decA_fsem, decP_fsem]

theorem tokDec_tokOf (c p : Dev nD) (k : Fin 7) (r : Fin 3) :
    tokDec (tokOf (c, p, k, r)).1 (tokOf (c, p, k, r)).2.2 = (c, p, k.val) ∧ (tokOf (c, p, k, r)).2.1 = r.val := by
  match k with
  | 0 => exact ⟨tokDec_fam 0 c p dz, rfl⟩
  | 1 => exact ⟨tokDec_fam 1 p c dz, rfl⟩
  | 2 => exact ⟨tokDec_fam 2 c p dz, rfl⟩
  | 3 => exact ⟨tokDec_fam 3 p c dz, rfl⟩
  | 4 => exact ⟨rfl, rfl⟩
  | 5 => exact ⟨rfl, rfl⟩
  | 6 => exact ⟨rfl, rfl⟩

theorem tokOf_inj : Function.Injective tokOf := by
  rintro ⟨c, p, k, r⟩ ⟨c', p', k', r'⟩ h
  obtain ⟨h1, h2⟩ := tokDec_tokOf c p k r
  obtain ⟨h1', h2'⟩ := tokDec_tokOf c' p' k' r'
  rw [h] at h1 h2
  have e := h1.symm.trans h1'
  have e1 : c = c' := congrArg Prod.fst e
  have e2 : p = p' := congrArg (fun x => x.2.1) e
  have e3 : k = k' := Fin.ext (congrArg (fun x => x.2.2) e)
  have e4 : r = r' := Fin.ext (h2.symm.trans h2')
  rw [e1, e2, e3, e4]

theorem deal (c : Dev nD) : (bigSep Finset.univ fun p : Dev nD => bigSep Finset.univ fun k : Fin 7 => bigSep Finset.univ fun r : Fin 3 =>
      (dutyTok ER (tokOf (c, p, k, r)).1 (tokOf (c, p, k, r)).2.1 (tokOf (c, p, k, r)).2.2 : sProp 𝕄)) ⊢ toks c := by
  have e (p : Dev nD) : (bigSep Finset.univ fun k : Fin 7 => bigSep Finset.univ fun r : Fin 3 =>
      (dutyTok ER (tokOf (c, p, k, r)).1 (tokOf (c, p, k, r)).2.1 (tokOf (c, p, k, r)).2.2 : sProp 𝕄))
      ⊢ iprop((dutyTok ER (barCell p) 0 c
          ∗ (dutyTok ER (fcell 0 c p) 0 dz ∗ dutyTok ER (fcell 1 p c) 0 dz) ∗ (dutyTok ER (fcell 0 c p) 1 dz ∗ dutyTok ER (fcell 1 p c) 1 dz)
          ∗ (dutyTok ER (fcell 0 c p) 2 dz ∗ dutyTok ER (fcell 1 p c) 2 dz)
          ∗ (dutyTok ER (fcell 2 c p) 0 dz ∗ dutyTok ER (fcell 3 p c) 0 dz) ∗ (dutyTok ER (fcell 2 c p) 1 dz ∗ dutyTok ER (fcell 3 p c) 1 dz)
          ∗ (dutyTok ER (fcell 2 c p) 2 dz ∗ dutyTok ER (fcell 3 p c) 2 dz))
        ∗ (dutyTok ER (lcell 0 c) 0 p ∗ dutyTok ER (lcell 0 c) 1 p ∗ dutyTok ER (lcell 0 c) 2 p
          ∗ dutyTok ER (lcell 1 c) 0 p ∗ dutyTok ER (lcell 1 c) 1 p ∗ dutyTok ER (lcell 1 c) 2 p)) := by
    rw [bigSep_univ_eq_bigSepL [0, 1, 2, 3, 4, 5, 6] (by decide) (by decide)]
    have three (k : Fin 7) := bigSep_univ_eq_bigSepL (Φ := fun r : Fin 3 => (dutyTok ER (tokOf (c, p, k, r)).1 (tokOf (c, p, k, r)).2.1 (tokOf (c, p, k, r)).2.2 : sProp 𝕄)) [0, 1, 2] (by decide) (by decide)
    simp only [three]
    show iprop((dutyTok ER (fcell 0 c p) 0 dz ∗ dutyTok ER (fcell 0 c p) 1 dz ∗ dutyTok ER (fcell 0 c p) 2 dz)
      ∗ (dutyTok ER (fcell 1 p c) 0 dz ∗ dutyTok ER (fcell 1 p c) 1 dz ∗ dutyTok ER (fcell 1 p c) 2 dz)
      ∗ (dutyTok ER (fcell 2 c p) 0 dz ∗ dutyTok ER (fcell 2 c p) 1 dz ∗ dutyTok ER (fcell 2 c p) 2 dz)
      ∗ (dutyTok ER (fcell 3 p c) 0 dz ∗ dutyTok ER (fcell 3 p c) 1 dz ∗ dutyTok ER (fcell 3 p c) 2 dz)
      ∗ (dutyTok ER (lcell 0 c) 0 p ∗ dutyTok ER (lcell 0 c) 1 p ∗ dutyTok ER (lcell 0 c) 2 p)
      ∗ (dutyTok ER (lcell 1 c) 0 p ∗ dutyTok ER (lcell 1 c) 1 p ∗ dutyTok ER (lcell 1 c) 2 p)
      ∗ (dutyTok ER (barCell p) 0 c ∗ dutyTok ER (barCell p) 1 c ∗ dutyTok ER (barCell p) 2 c)) ⊢ _
    iintro ⟨⟨A0, A1, A2⟩, ⟨B0, B1, B2⟩, ⟨C0, C1, C2⟩, ⟨D0, D1, D2⟩, ⟨L0, L1, L2⟩, ⟨M0, M1, M2⟩, ⟨H, -, -⟩⟩
    isplitl [A0 A1 A2 B0 B1 B2 C0 C1 C2 D0 D1 D2 H]
    · isplitl [H]; · iexact H
      isplitl [A0 B0]; · (isplitl [A0] <;> iassumption)
      isplitl [A1 B1]; · (isplitl [A1] <;> iassumption)
      isplitl [A2 B2]; · (isplitl [A2] <;> iassumption)
      isplitl [C0 D0]; · (isplitl [C0] <;> iassumption)
      isplitl [C1 D1]; · (isplitl [C1] <;> iassumption)
      isplitl [C2] <;> iassumption
    isplitl [L0]; · iexact L0
    isplitl [L1]; · iexact L1
    isplitl [L2]; · iexact L2
    isplitl [M0]; · iexact M0
    isplitl [M1] <;> iassumption
  iintro H
  ihave H := (each e) $$ H
  ihave H := (eqv (bigSep_sep' _ _ _)) $$ H
  icases H with ⟨H, HL⟩
  ihave HL := (one_of (Finset.mem_univ dz) _) $$ HL
  ihave H := (some_of (t := PE c) (Finset.subset_univ _) _) $$ H
  unfold toks TOKr TOKg
  simp only [bigSep_sep' (PE c)]
  icases H with ⟨H, R0, R1, R2, G0, G1, G2⟩
  isplitl [H]; · iexact H
  isplitl [R0]; · iexact R0
  isplitl [R1]; · iexact R1
  isplitl [R2]; · iexact R2
  isplitl [G0]; · iexact G0
  isplitl [G1]; · iexact G1
  isplitl [G2]; · iexact G2
  iexact HL

/-! ## The positions of a device's cells -/

/-- The positions of the cells no transfer uses: a device's own slot in each array. -/
def selfs (c : Dev nD) : sProp 𝕄 := bigSep Finset.univ fun a : Fin 4 => atPos ER (fcell a c c) 0 ∅ 0

theorem poss_intro (c : Dev nD) : (bigSep Finset.univ fun k : Fin 131 => iprop(atPos ER (kcell (c, k)) 0 ∅ 0 ∗ reached ER (kcell (c, k)) 0) : sProp 𝕄)
    ⊢ iprop(poss c 0 0 ∗ selfs c) := by
  rw [cells131]
  have hf (a : Fin 4) : (bigSep Finset.univ fun p : Dev nD => iprop(atPos ER (kcell (c, kf a p)) 0 ∅ 0 ∗ reached ER (kcell (c, kf a p)) 0) : sProp 𝕄)
      ⊢ iprop(posF a c 0 ∗ atPos ER (fcell a c c) 0 ∅ 0) := by
    unfold posF at'
    simp only [kcell, csem_kf]
    rw [devs c]
    iintro ⟨⟨H, -⟩, HP⟩
    isplitl [HP]; · iexact HP
    iexact H
  unfold selfs
  rw [fams, fams]
  unfold poss atL
  simp only [csem_kl, csem_bar, kcell]
  iintro ⟨⟨Hb, -⟩, H0, H1, Hf0, Hf1, Hf2, Hf3⟩
  ihave Hf0 := (hf 0) $$ Hf0
  ihave Hf1 := (hf 1) $$ Hf1
  ihave Hf2 := (hf 2) $$ Hf2
  ihave Hf3 := (hf 3) $$ Hf3
  icases Hf0 with ⟨P0, S0⟩
  icases Hf1 with ⟨P1, S1⟩
  icases Hf2 with ⟨P2, S2⟩
  icases Hf3 with ⟨P3, S3⟩
  isplitl [Hb H0 H1 P0 P1 P2 P3]
  · isplitl [Hb]; · iexact Hb
    isplitl [H0]; · iexact H0
    isplitl [H1]; · iexact H1
    isplitl [P0]; · iexact P0
    isplitl [P1]; · iexact P1
    isplitl [P2] <;> iassumption
  isplitl [S0]; · iexact S0
  isplitl [S1]; · iexact S1
  isplitl [S2] <;> iassumption

/-- The round at which cell `k` of device `c` is closed. -/
def endR (c : Dev nD) (k : Fin 131) : ℕ := match csem k with
  | .reg _ => 1
  | .dma n => if 4 ≤ n.val ∧ decP n = c then 0 else 3

theorem endR_bar (c : Dev nD) : endR c 0 = 1 := rfl
theorem endR_kl (c : Dev nD) (i : Fin 2) : endR c (kl i) = 3 := by
  unfold endR; rw [csem_kl]; exact if_neg fun h => by have := h.1; have := i.isLt; simp only [lsem] at *; omega
theorem endR_kf (c p : Dev nD) (a : Fin 4) : endR c (kf a p) = if p = c then 0 else 3 := by
  unfold endR; rw [csem_kf]; dsimp only; rw [decP_fsem]
  exact if_congr ⟨fun h => h.2, fun h => ⟨fsem_ge a p, h⟩⟩ rfl rfl

theorem pos_of {g : GSem nD τ sig} {r : ℕ} : iprop(atPos ER g r ∅ 0 ∗ reached ER g r) ⊢ (atPos ER g r ∅ 0 : sProp 𝕄) := by
  iintro ⟨H, -⟩; iexact H

theorem poss_elim (c : Dev nD) : iprop(poss c 1 3 ∗ selfs c) ⊢ (bigSep Finset.univ fun k : Fin 131 => atPos ER (kcell (c, k)) (endR c k) ∅ 0 : sProp 𝕄) := by
  rw [cells131]
  have hf (a : Fin 4) : iprop(posF a c 3 ∗ atPos ER (fcell a c c) 0 ∅ 0)
      ⊢ (bigSep Finset.univ fun p : Dev nD => atPos ER (kcell (c, kf a p)) (endR c (kf a p)) ∅ 0 : sProp 𝕄) := by
    unfold posF at'
    simp only [kcell, csem_kf, endR_kf]
    rw [devs c, if_pos rfl]
    have hm : (bigSep (PE c) fun p => iprop(atPos ER (fcell a c p) 3 ∅ 0 ∗ reached ER (fcell a c p) 3) : sProp 𝕄)
        ⊢ bigSep (PE c) fun p => atPos ER (fcell a c p) (if p = c then 0 else 3) ∅ 0 :=
      bigSep_mono fun p hp => by
        rw [if_neg (Finset.mem_erase.mp hp).1]
        exact pos_of
    iintro ⟨HP, H⟩
    isplitl [H]; · iexact H
    iapply hm; iexact HP
  unfold selfs
  rw [fams, fams]
  unfold poss atL
  simp only [csem_kl, csem_bar, kcell, endR_bar, endR_kl]
  iintro ⟨⟨Hb, ⟨H0, -⟩, ⟨H1, -⟩, P0, P1, P2, P3⟩, S0, S1, S2, S3⟩
  isplitl [Hb]; · iexact Hb
  isplitl [H0]; · iexact H0
  isplitl [H1]; · iexact H1
  isplitl [P0 S0]; · iapply (hf 0); isplitl [P0] <;> iassumption
  isplitl [P1 S1]; · iapply (hf 1); isplitl [P1] <;> iassumption
  isplitl [P2 S2]; · iapply (hf 2); isplitl [P2] <;> iassumption
  iapply (hf 3); isplitl [P3] <;> iassumption

theorem duties_end (c : Dev nD) (k : Fin 131) (r : ℕ) (hr : endR c k ≤ r) : (ringRd (F := F) m).duties (kcell (c, k)) r = ∅ := by
  show (match csem k with
    | .reg _ => if r = 0 then PE c else ∅
    | .dma n => if r < 3 ∧ 2 ≤ n.val ∧ (4 ≤ n.val → decP n ≠ c) then {dz} else ∅) = ∅
  unfold endR at hr
  split at hr
  · exact if_neg (by omega)
  · by_cases h : 4 ≤ (‹_› : DmaSem sig).val ∧ decP ‹_› = c
    · exact if_neg fun hn => hn.2.2 h.1 h.2
    · rw [if_neg h] at hr
      exact if_neg fun hn => by have := hn.1; omega

/-- After the last round of each cell, every semaphore of a device stands at zero. -/
theorem cells_end (K : Dev nD × Fin 131 → ℕ) (c : Dev nD) :
    iprop(Ctx m K ∗ poss c 1 3 ∗ selfs c) ⊢ |={Set.univ}=> (bigSep Finset.univ fun k : Fin 131 => semVal (kcell (c, k)) 0 : sProp 𝕄) := by
  have h := Rounds.cells_close (Es := Set.univ) ER (ringRd m) Finset.univ (fun k : Fin 131 => kcell (c, k)) (fun k => K (c, k))
    (fun _ _ => Set.mem_univ _) (fun _ _ h => h) (endR c) fun k _ r hr => duties_end m c k r hr
  have hi : Ctx m K ⊢ (bigSep Finset.univ fun k : Fin 131 => cellInv ER (ringRd m) (K (c, k)) (kcell (c, k)) : sProp 𝕄) :=
    (bigSep_of_persistent Finset.univ _).trans (bigSep_mono fun k _ => ctx_inv m K c k rfl)
  refine .trans ?_ h
  rw [bigSep_sep']
  exact BI.sep_mono hi (poss_elim c)

end Cert.MlpProof

end
-- ==== Proof.Launch.lean ====
module

public import proofs.«01_k».proof.Proof.Cells

public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig ℕ (Elt F) ℕ UU ℕ

variable (m : (ℓ : Loc nD τ sig) → Buf (Elt F) ℓ)

open Idealize.ShloMosaic.Pipeline (Dat Cfg Window BodyObligation cellOf)

variable (ρ : Dev nD → PrngReg)

/-- The state at launch: any memory, every counter at zero. -/
def s₀ : MemSt nD τ sig (Elt F) := ⟨m, fun _ => 0, ρ⟩

/-! ## The pipeline's proof data -/

/-- What device `c`'s body starts from besides its buffers, and what it ends with. -/
def start (c : Dev nD) : sProp 𝕄 :=
  iprop((∃ K, Ctx m K ∗ poss c 0 0 ∗ selfs c ∗ toks c) ∗ creds c ∗ args m c)
def Φ₀ (c : Dev nD) : sProp 𝕄 := iprop(start m c ∗ bufs c)
def Φ₁ (c : Dev nD) : sProp 𝕄 := iprop(bufs c ∗ args m c ∗ bigSep Finset.univ fun k : Fin 131 => semVal (kcell (c, k)) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => OUT m
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body -/

abbrev t₀ : Fin cfg0.N := t0_0

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt (0 : ℕ) t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt (0 : ℕ) t₀.succ ∗ stg c cc0_stg0_0 (xstg m c) ∗ stg c cc0_stg1_0 (OUT m))

/-- What the body leaves is, under an update closing its cells, what the pipeline asks for. -/
theorem post_close (K : Dev nD × Fin 131 → ℕ) (c : Dev nD) :
    iprop(Ctx m K ∗ selfs c ∗ OW c (OT c 6) ∗ poss c 1 3 ∗ bufs c ∗ args m c
        ∗ (((c : Thread nD τ).loc cc0_stg0_0) ↦{fullShare} xstg m c) ∗ (((c : Thread nD τ).loc cc0_stg1_0) ↦{fullShare} OUT m))
      ⊢ |={Set.univ}=> bodyPost m ρ c := by
  iintro ⟨#HC, Hself, HO, Hp, Hb, Ha, Hx, Ho⟩
  imod (cells_end m K c) $$ [Hself Hp] with Hz
  · isplitr; · iexact HC
    isplitl [Hp] <;> iassumption
  imodintro
  unfold bodyPost Φ₁ OW Dat.owesAt Pipeline.owesWithin
  rw [show (dats m ρ 0 c).owed t₀.succ = OT c 6 from (OT_end c).symm]
  isplitl [Hb Ha Hz]
  · isplitl [Hb]; · iexact Hb
    isplitl [Ha] <;> iassumption
  isplitl [HO]
  · icases HO with ⟨%W, HO⟩
    iexists W
    isplitr; · ipureintro; exact fun _ _ => Or.inl trivial
    iexact HO
  isplitl [Hx]
  · iexists _; isplitr; · (ipureintro; rfl)
    iexact Hx
  iexists _; isplitr; · (ipureintro; rfl)
  iexact Ho

theorem body_run (c : Dev nD) : bodyPre m ρ c ⊢ WP c (bodyAt0 t₀) fun _ => bodyPost m ρ c := by
  unfold bodyPre Φ₀ start
  iintro ⟨⟨⟨⟨%K, #HC, Hp, Hself, Ht⟩, Hcr, Ha⟩, Hb⟩, HO, ⟨%d0, %g0, %hg0, Hx⟩, ⟨%d1, %g1, %hg1, Hout⟩⟩
  have hx : g0 = xstg m c := by rw [hg0]; unfold Dat.before; rw [if_pos (fetch0_0 t₀)]; rfl
  subst hx
  unfold Dat.owesAt Pipeline.owesWithin
  icases HO with ⟨%W, %hW, HO⟩
  iapply (wp_fupd _ _)
  iapply (wp_wand_r _ _ _)
  isplitl [HO Hp Ht Hcr Ha Hb Hx Hout]
  · iapply (body_ok m K t₀)
    isplitr; · iexact HC
    isplitl [HO]; · unfold OW; iexists W; iexact HO
    isplitl [Ht]; · iexact Ht
    isplitl [Hp]; · iexact Hp
    isplitl [Hcr]; · iexact Hcr
    isplitl [Hb]; · iexact Hb
    isplitl [Ha]; · iexact Ha
    isplitl [Hx]; · iexact Hx
    iexists g1; iexact Hout
  · iintro %_ ⟨HO, Hp, Hb, Ha, Hx, Hout⟩
    iapply (post_close m ρ K c)
    isplitr; · iexact HC
    isplitl [Hself]; · iexact Hself
    isplitl [HO]; · iexact HO
    isplitl [Hp]; · iexact Hp
    isplitl [Hb]; · iexact Hb
    isplitl [Ha]; · iexact Ha
    isplitl [Hx] <;> iassumption

/-- The library's body obligation on core `c`. -/
theorem body_obligation (c : Dev nD) : BodyObligation (dats (F := F) m ρ 0 c) (defs₀ (F := F)) 𝒱₀ (0 : ℕ) Set.univ := fun t => by
  rw [fin_N0 t]
  rw [bigSep_W, bigSep_W]
  simp only [owns_whole_eq]
  exact body_run m ρ c

/-! ## The launch -/

def osem : Fin 130 → SemLoc sig := fun k => csem k.succ

theorem ownSemFacts : Pipeline.OwnSemFacts cfg0.spec osem := by decide +kernel

theorem share_eq (c : Dev nD) (w : Fin cfg0.W) : (dats m ρ 0 c).share w = fullShare := by unfold Dat.share; split <;> rfl

def ringCells : Finset (GSem nD τ sig) := Finset.univ.map ⟨kcell, kcell_inj⟩
def ringToks : Finset (GSem nD τ sig × ℕ × Dev nD) := Finset.univ.map ⟨tokOf, tokOf_inj⟩

def u₀ : UU :=
  (initOf (Pipeline.cells cfgs cellOf_inj) (Pipeline.launchToks cfgs cellOf_inj), initOf ringCells ringToks)

/-- What the launch element deals device `c`; what the allocation of the invariants makes of it. -/
def G (c : Dev nD) : sProp 𝕄 :=
  iprop((bigSep Finset.univ fun k : Fin 131 => roundState ER (ringRd m) (kcell (c, k)) 0)
    ∗ (bigSep Finset.univ fun k : Fin 131 => iprop(atPos ER (kcell (c, k)) 0 ∅ 0 ∗ reached ER (kcell (c, k)) 0)) ∗ toks c)

def records (K : Dev nD × Fin 131 → ℕ) : sProp 𝕄 :=
  iprop((bigSep Finset.univ fun ck => cellInv ER (ringRd m) (K ck) (kcell ck)) ∗ bigSep Finset.univ fun ck => reached ER (kcell ck) 0)

instance records_persistent (K : Dev nD × Fin 131 → ℕ) : BI.Persistent (records m K) := by unfold records; infer_instance

def G' (c : Dev nD) : sProp 𝕄 := iprop(∃ K, records m K ∗ poss c 0 0 ∗ selfs c ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 131 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    refine bigSep_mono fun c _ => ?_
    rw [bigSep_univ_prod]
    simp only [bigSep_univ_prod]
    exact deal c
  iintro HX
  imod (Rounds.fund ER (ringRd m) ringCells ringToks) $$ HX with ⟨Hst, Hr, Hat, Htok⟩
  imodintro
  ihave Hst' := (eqv (hX fun g => roundState ER (ringRd m) g 0)) $$ Hst
  ihave Hat' := (eqv (hX fun g => atPos ER g 0 ∅ 0)) $$ Hat
  ihave Hr' := (eqv (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The barrier semaphore is the launch's one unscoped semaphore; the others are the kernel's own. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    (bigSep Finset.univ fun k : Fin 131 => semVal (kcell (c, k)) 0 : sProp 𝕄)
      = iprop(unscopedSems0 c ∗ Pipeline.ownSems0 (Ix := ℕ) (Name := ℕ) (U := UU) (Lvl := ℕ) (Val := Elt F) (τ := τ) osem c) := by
  rw [unscopedSems0_eq, Fin.univ_succ, Finset.cons_eq_insert, bigSep_insert (by simp), bigSep_map]
  rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (eqv (sems0_eq (F := F) c).symm) $$ [Hos Hus]
  · isplitl [Hus] <;> iassumption
  imod (show iprop((bigSep Finset.univ fun k : Fin 131 => semVal (kcell (c, k)) 0) ∗ bigSep Finset.univ fun k : Fin 131 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  have hr : (bigSep Finset.univ fun c : Dev nD => bigSep Finset.univ fun k : Fin 131 => iprop(atPos ER (kcell (c, k)) 0 ∅ 0 ∗ reached ER (kcell (c, k)) 0) : sProp 𝕄)
      = iprop((bigSep Finset.univ fun c : Dev nD => bigSep Finset.univ fun k : Fin 131 => atPos ER (kcell (c, k)) 0 ∅ 0)
        ∗ bigSep Finset.univ fun ck : Dev nD × Fin 131 => reached ER (kcell ck) 0) := by
    rw [bigSep_congr (s := Finset.univ) (fun (c : Dev nD) _ => bigSep_sep' Finset.univ (fun k : Fin 131 => (atPos ER (kcell (c, k)) 0 ∅ 0 : sProp 𝕄)) (fun k => reached ER (kcell (c, k)) 0)),
      bigSep_sep', ← bigSep_univ_prod (fun ck : Dev nD × Fin 131 => (reached ER (kcell ck) 0 : sProp 𝕄))]
  rw [bigSep_sep', bigSep_sep', ← bigSep_univ_prod (fun ck : Dev nD × Fin 131 => iprop(∃ κ : ℕ, cellInv ER (ringRd m) κ (kcell ck))), hr]
  iintro ⟨HI, ⟨Hat, #HR⟩, Htok⟩
  ihave HK := (BI.bigSep_exists_pi Finset.univ (fun (ck : Dev nD × Fin 131) (κ : ℕ) => (cellInv ER (ringRd m) κ (kcell ck) : sProp 𝕄))) $$ HI
  icases HK with ⟨%K, #HI⟩
  iapply (with_persistent (R := records m K) (Φ := fun c => iprop((bigSep Finset.univ fun k : Fin 131 => atPos ER (kcell (c, k)) 0 ∅ 0) ∗ toks c))
    fun c _ => by
      unfold G'
      iintro ⟨#H, Hat, Ht⟩
      ihave Hp := (poss_intro (F := F) c) $$ [Hat]
      · rw [bigSep_sep']
        isplitl [Hat]; · iexact Hat
        unfold records
        icases H with ⟨-, HR⟩
        iapply (show (bigSep Finset.univ fun ck : Dev nD × Fin 131 => (reached ER (kcell ck) 0 : sProp 𝕄)) ⊢ bigSep Finset.univ fun k : Fin 131 => reached ER (kcell (c, k)) 0 from by
          rw [bigSep_univ_prod]; exact bigSep_elim (Finset.mem_univ c))
        iexact HR
      icases Hp with ⟨Hp, Hs⟩
      iexists K
      isplitr; · iexact H
      isplitl [Hp]; · iexact Hp
      isplitl [Hs] <;> iassumption)
  isplitr
  · unfold records; isplitl; · iexact HI
    iexact HR
  · rw [bigSep_sep']
    isplitl [Hat] <;> iassumption

/-- The invariants of every device's cells allocated at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show cfg0.spec = spec0 from rfl, unscopedRest0_eq]
  iintro ⟨⟨H1, H2, H3, H4, H5, H6⟩, #Hlev, Hcr, -, HG⟩
  ihave Hc := (creds_intro (F := F) c) $$ Hcr
  imodintro
  unfold start G' args inArg outArg Ctx records
  icases HG with ⟨%K, ⟨HI, HR⟩, Hp, Hs, Ht⟩
  isplitl
  · isplitl [HI HR Hp Hs Ht]
    · iexists K
      isplitl [HI HR]
      · isplitr; · iexact Hlev
        isplitl [HI] <;> iassumption
      isplitl [Hp]; · iexact Hp
      isplitl [Hs] <;> iassumption
    isplitl [Hc]; · iexact Hc
    isplitl [H1]; · iexact H1
    isplitl [H3]; · iexact H3
    isplitl [H5]; · iexact H5
    isplitl [H2]; · iexact H2
    isplitl [H4] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scopedRest0_eq]
  unfold Φ₀ bufs pbW rsW xcW rd wi wo wibAny wobAny
  iintro ⟨Hs, -, Hr⟩
  isplitl [Hs] <;> iassumption

theorem phi1_exit (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl, show cfg0.spec = spec0 from rfl, scopedRest0_eq]
  unfold Φ₁ bufs pbW rsW xcW rd wi wo wibAny wobAny
  rw [sems0_eq]
  iintro ⟨Hr, Ha, HzB, HzO⟩
  isplitl [HzB Ha]
  · isplitl [HzB] <;> iassumption
  isplitl [HzO] <;> iassumption

theorem waits (c : Dev nD) : (levAts L lv : sProp 𝕄) ⊢ Pipeline.cellsWaits cfgs (dats m ρ) (0 : ℕ) 0 c :=
  Pipeline.cellsWaits_intro cfgs (dats m ρ) (0 : ℕ) 0 c fun w s t => by
    have h0 : lv ((c : Thread nD τ), .dma (((cfg0.win w).sem s))) 0 = 0 := by fin_cases w <;> fin_cases s <;> rfl
    rcases t with ⟨_ | _, ht⟩
    · exact mayWait_launch c _ h0
    · have := mayWait_stage (F := F) c (.dma ((cfg0.win w).sem s)) (ι := 0) (by decide) (s := 6) (by rw [h0]; decide)
      rw [OT_end] at this
      exact this

/-! ## The run -/

def finalA (c : Dev nD) (w : Fin cfg0.W) : Buf (Elt F) ((cfg0.win w).arr.view.loc (c : Thread nD τ)) := (dats m ρ 0 c).arrAt w cfg0.N

/-- A device's blocks of the weights stand as they did. -/
def Kept (c : Dev nD) (s : MemSt nD τ sig (Elt F)) : Prop :=
  s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)

omit [FloatOps F] in
theorem whole_read (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HS⟩
  icombine HS H gives %h
  isplitr; · ipureintro; exact funext fun i => h i (Finset.mem_univ i)
  iexact HS

theorem args_read (c : Dev nD) (s' : Phys nD τ sig (Elt F)) :
    iprop(args m c ∗ SI s') ⊢ (iprop(⌜Kept m c s'.mem⌝ ∗ SI s') : sProp 𝕄) := by
  unfold args inArg outArg
  iintro ⟨⟨H1, H3, H5, H2, H4, H6⟩, HS⟩
  ihave H := (whole_read _ _ s') $$ [H1 HS]
  · isplitl [H1] <;> iassumption
  icases H with ⟨%h1, HS⟩
  ihave H := (whole_read _ _ s') $$ [H2 HS]
  · isplitl [H2] <;> iassumption
  icases H with ⟨%h2, HS⟩
  ihave H := (whole_read _ _ s') $$ [H3 HS]
  · isplitl [H3] <;> iassumption
  icases H with ⟨%h3, HS⟩
  ihave H := (whole_read _ _ s') $$ [H4 HS]
  · isplitl [H4] <;> iassumption
  icases H with ⟨%h4, HS⟩
  ihave H := (whole_read _ _ s') $$ [H5 HS]
  · isplitl [H5] <;> iassumption
  icases H with ⟨%h5, HS⟩
  ihave H := (whole_read _ _ s') $$ [H6 HS]
  · isplitl [H6] <;> iassumption
  icases H with ⟨%h6, HS⟩
  isplitr; · ipureintro; exact ⟨h1, h2, h3, h4, h5, h6⟩
  iexact HS

def QC : PUnit × MemSt nD τ sig (Elt F) → Prop := fun r =>
  ∀ c : Dev nD, (∀ w : Fin cfg0.W, r.2.mem ((cfg0.win w).arr.view.loc (c : Thread nD τ)) = finalA m ρ c w) ∧ Kept m c r.2

set_option maxRecDepth 8000 in
/-- At the mesh of 32 devices, for any float values, from any memory with zero counters: every weakly fair execution of
    the kernel on all devices terminates without fault, and every final state has each device's two pipelined arrays at
    the computed contents, its blocks of the weights unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ Kept m c s)
    (hY := fun c s' => by
      iintro ⟨⟨Hu, Ha⟩, -, HSI⟩
      ihave H := (args_read m c s') $$ [Ha HSI]
      · isplitl [Ha] <;> iassumption
      icases H with ⟨%hk, HSI⟩
      imod (Pipeline.unscopedSems0_read (X := unscopedSems0 c) (c := c) fupd_intro s') $$ [Hu HSI] with ⟨%hz, HSI⟩
      · isplitl [Hu] <;> iassumption
      imodintro
      isplitr; · ipureintro; exact ⟨hz, hk⟩
      iexact HSI)
    (hQ := fun _ h hs => ⟨fun c => ⟨(h c).1, (h c).2.2.2⟩, sem_eq_zero hs fun c => (h c).2.2.1⟩)

/-- The `x` array after the run holds what it held. -/
theorem finalA_x (c : Dev nD) : finalA m ρ c (0 : Fin 2) = m ((c : Thread nD τ).loc main_arg0) :=
  (dats (F := F) m ρ 0 c).arrAt_in (0 : Fin 2) rfl _

end Cert.MlpProof

end
-- ==== Proof.Frames.lean ====
module

public import proofs.«01_k».proof.Defs
public import proofs.«01_k».proof.Proof.Gen.Kernel
public import proofs.«01_k».proof.Proof.Launch

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig ℕ (Elt F) ℕ UU ℕ

variable (m : (ℓ : Loc nD τ sig) → Buf (Elt F) ℓ)

/-!
  The ends of the run: what the result array holds on every device, and the two frames of the kernel's program.
-/

/-- The argument's staged block is the whole argument. -/
theorem xstg_eq (c : Dev nD) : xstg m c = m ((c : Thread nD τ).loc main_arg0) :=
  Memref.read_access_unit_zero (Elt F) main_arg0 (by funext a; fin_cases a <;> rfl) _ _

/-- The result array on device `c` ends with what the gathered activations of the last layer give. -/
theorem finalA_out (ρ : Dev nD → PrngReg) (c : Dev nD) : finalA m ρ c (1 : Fin 2) = OUT m := by
  have hr : (win0_1.blk (0 : Fin 1)).view.read (Elt F) (finalA m ρ c (1 : Fin 2)) = OUT m := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 (by funext a; fin_cases a <;> rfl) _ _).symm.trans hr

/-- The kernel's program over exact values runs, keeps its arguments and ends with every counter at zero. -/
theorem frame_kernelIdeal : Cert.quiescent_KernelIdeal := by
  intro m ρ _
  exact (θ_run defs _ _).mono (fun _ h => ⟨fun c => ⟨((h.1 c).1 (0 : Fin 2)).trans (finalA_x m ρ c), (h.1 c).2⟩, h.2⟩)
    (run_main (F := Ideal) m ρ)

/-- The two programs have one body table. -/
theorem table_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

/-- So they have the same functions, -/
theorem defs_same : Cert.Kernel.defs (F := F) = Cert.KernelIdeal.defs (F := F) :=
  congrArg (Pipeline.defs (pcfgs (F := F))) table_eq

/-- and the kernel's program over the machine's words, the same text, runs, keeps its arguments and ends with every counter
    at zero as well. -/
theorem frame_kernel : Cert.quiescent_Kernel := by
  intro m ρ _
  rw [defs_same]
  exact (θ_run Cert.KernelIdeal.defs _ _).mono
    (fun _ h => ⟨fun c => ⟨((h.1 c).1 (0 : Fin 2)).trans (finalA_x m ρ c), (h.1 c).2⟩, h.2⟩) (run_main (F := Bits) m ρ)

end Cert.MlpProof

end
-- ==== Proof.Ref.lean ====
module

public import Idealize.ShloMosaic.Lib.StableHlo.Run
public import proofs.«01_k».proof.Proof.Gen.ReferenceIdeal
public import Idealize.ShloMosaic.Lib.Quiescent
public import proofs.«01_k».proof.Defs

/-!
  The run of the reference: three layers of two products with a maximum between them, on one device, as a straight line of
  host operations. For any float values it ends with the result of the three layers in its last buffer and with its seven
  arguments as they were.
-/

@[expose] public section

set_option maxRecDepth 16384

noncomputable section

namespace Cert.MlpProof.Ref

open Cert.ReferenceIdeal Cert.ReferenceIdeal.Gen
open Idealize.ShloMosaic Idealize.ShloMosaic.TcCoe Idealize.ShloMosaic.StableHlo Idealize.SL.Sem

variable {F : FTy → Type} [FloatOps F]

/-- One layer over the whole arrays: the activations times the first weights, negative entries raised to zero, times the
    second weights. -/
def layer (x : FVec F S64x1024 .f32) (a : FVec F S1024x65536 .f32) (b : FVec F S65536x1024 .f32) : FVec F S64x1024 .f32 :=
  Host.dotGeneral dot_S64x65536_S65536x1024_S64x1024_1_0_0_1_n_n none
    (maximumf (Host.dotGeneral dot_S64x1024_S1024x65536_S64x65536_1_0_0_1_n_n none x a)
      (broadcastInDim S64x65536 ![] bcast_S_S64x65536 (constant S_ .f32 0x00000000#32))) b

/-- The operations of the program, in order. -/
abbrev ops : List (HloOp τ sig (Elt F)) :=
  [binary main_arg0 main_arg1 main_v0 ((fun l r => Host.dotGeneral dot_S64x1024_S1024x65536_S64x65536_1_0_0_1_n_n none l r) : (⟨S64x1024, .f32⟩ : BufTy).Contents (Elt F) → (⟨S1024x65536, .f32⟩ : BufTy).Contents (Elt F) → (⟨S64x65536, .f32⟩ : BufTy).Contents (Elt F)),
    nullary main_cst (constant S_ .f32 0x00000000#32),
    unary main_cst main_v1 (broadcastInDim S64x65536 ![] bcast_S_S64x65536 : (⟨S_, .f32⟩ : BufTy).Contents (Elt F) → (⟨S64x65536, .f32⟩ : BufTy).Contents (Elt F)),
    binary main_v0 main_v1 main_v2 (maximumf : (⟨S64x65536, .f32⟩ : BufTy).Contents (Elt F) → (⟨S64x65536, .f32⟩ : BufTy).Contents (Elt F) → (⟨S64x65536, .f32⟩ : BufTy).Contents (Elt F)),
    binary main_v2 main_arg2 main_v3 ((fun l r => Host.dotGeneral dot_S64x65536_S65536x1024_S64x1024_1_0_0_1_n_n none l r) : (⟨S64x65536, .f32⟩ : BufTy).Contents (Elt F) → (⟨S65536x1024, .f32⟩ : BufTy).Contents (Elt F) → (⟨S64x1024, .f32⟩ : BufTy).Contents (Elt F)),
    binary main_v3 main_arg3 main_v4 ((fun l r => Host.dotGeneral dot_S64x1024_S1024x65536_S64x65536_1_0_0_1_n_n none l r) : (⟨S64x1024, .f32⟩ : BufTy).Contents (Elt F) → (⟨S1024x65536, .f32⟩ : BufTy).Contents (Elt F) → (⟨S64x65536, .f32⟩ : BufTy).Contents (Elt F)),
    nullary main_cst_0 (constant S_ .f32 0x00000000#32),
    unary main_cst_0 main_v5 (broadcastInDim S64x65536 ![] bcast_S_S64x65536 : (⟨S_, .f32⟩ : BufTy).Contents (Elt F) → (⟨S64x65536, .f32⟩ : BufTy).Contents (Elt F)),
    binary main_v4 main_v5 main_v6 (maximumf : (⟨S64x65536, .f32⟩ : BufTy).Contents (Elt F) → (⟨S64x65536, .f32⟩ : BufTy).Contents (Elt F) → (⟨S64x65536, .f32⟩ : BufTy).Contents (Elt F)),
    binary main_v6 main_arg4 main_v7 ((fun l r => Host.dotGeneral dot_S64x65536_S65536x1024_S64x1024_1_0_0_1_n_n none l r) : (⟨S64x65536, .f32⟩ : BufTy).Contents (Elt F) → (⟨S65536x1024, .f32⟩ : BufTy).Contents (Elt F) → (⟨S64x1024, .f32⟩ : BufTy).Contents (Elt F)),
    binary main_v7 main_arg5 main_v8 ((fun l r => Host.dotGeneral dot_S64x1024_S1024x65536_S64x65536_1_0_0_1_n_n none l r) : (⟨S64x1024, .f32⟩ : BufTy).Contents (Elt F) → (⟨S1024x65536, .f32⟩ : BufTy).Contents (Elt F) → (⟨S64x65536, .f32⟩ : BufTy).Contents (Elt F)),
    nullary main_cst_1 (constant S_ .f32 0x00000000#32),
    unary main_cst_1 main_v9 (broadcastInDim S64x65536 ![] bcast_S_S64x65536 : (⟨S_, .f32⟩ : BufTy).Contents (Elt F) → (⟨S64x65536, .f32⟩ : BufTy).Contents (Elt F)),
    binary main_v8 main_v9 main_v10 (maximumf : (⟨S64x65536, .f32⟩ : BufTy).Contents (Elt F) → (⟨S64x65536, .f32⟩ : BufTy).Contents (Elt F) → (⟨S64x65536, .f32⟩ : BufTy).Contents (Elt F)),
    binary main_v10 main_arg6 main_v11 ((fun l r => Host.dotGeneral dot_S64x65536_S65536x1024_S64x1024_1_0_0_1_n_n none l r) : (⟨S64x65536, .f32⟩ : BufTy).Contents (Elt F) → (⟨S65536x1024, .f32⟩ : BufTy).Contents (Elt F) → (⟨S64x1024, .f32⟩ : BufTy).Contents (Elt F))]

/-- The program is that straight line. -/
theorem main_eq (c : Dev nD) : main (F := F) c = seq ops := rfl

/-- The last buffer after the operations holds the three layers of the arguments; -/
theorem out_eq (V : Valuation τ sig (Elt F)) : after ops V (main_v11 : DevRef τ sig)
    = layer (layer (layer (V (main_arg0 : DevRef τ sig)) (V (main_arg1 : DevRef τ sig)) (V (main_arg2 : DevRef τ sig)))
        (V (main_arg3 : DevRef τ sig)) (V (main_arg4 : DevRef τ sig)))
        (V (main_arg5 : DevRef τ sig)) (V (main_arg6 : DevRef τ sig)) := by
  after_results
  rfl

/-- and no operation writes an argument. -/
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results
theorem arg5_eq (V : Valuation τ sig (Elt F)) : after ops V (main_arg5 : DevRef τ sig) = V (main_arg5 : DevRef τ sig) := by
  after_results
theorem arg6_eq (V : Valuation τ sig (Elt F)) : after ops V (main_arg6 : DevRef τ sig) = V (main_arg6 : DevRef τ sig) := by
  after_results

/-- Nothing is scoped in the program. -/
theorem scopedRefs_eq : (Finset.univ.filter fun b : Ref sig .tc => b.isScoped) = ∅ := by decide
theorem scopedSems_eq : (Finset.univ.filter fun sm : SemLoc sig => sm.isScoped .tc) = ∅ := by decide

/-- Every operation touches the host's own buffers only. -/
theorem ops_sub : (ops : List (HloOp τ sig (Elt F))).Forall fun op => op.bufs ⊆ tcRefs τ sig :=
  ⟨binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub ..⟩

/-- The result of the reference from a memory's arguments on its one device. -/
def refOut (m : (ℓ : Loc nD τ sig) → Buf (Elt F) ℓ) (c : Dev nD) : FVec F S64x1024 .f32 :=
  layer (layer (layer (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)))
    (m ((c.tc : Thread nD τ).loc main_arg5)) (m ((c.tc : Thread nD τ).loc main_arg6))

/-- For any float values, from any memory with its counters at zero: the reference terminates, its last buffer holds the
    three layers of the arguments, and the arguments are as they were. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v11) = refOut m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6) :=
  (θ_run defs _ _).mono (fun _ h c => ⟨(h c main_v11).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

/-- The reference runs, leaves its arguments as they were and every counter at zero. -/
theorem frame_reference : Cert.quiescent_ReferenceIdeal := by
  intro m ρ _
  exact (θ_run defs _ _).mono (fun r h => ⟨fun c => (h c).2, Idealize.ShloMosaic.sem_eq_zero_of_no_sems (by decide) r.2⟩)
    (run_main (F := Ideal) m ρ)

end Cert.MlpProof.Ref

end
-- ==== Proof.Value.lean ====
module

public import proofs.«01_k».proof.Proof.Ref
public import Idealize.ShloMosaic.Lib.MatmulPlain
public import Idealize.ShloMosaic.Lib.StackMember
public import Idealize.ShloMosaic.Lib.Layout
public import Idealize.ShloMosaic.Lib.Pointwise.Sums
public import proofs.«01_k».proof.Proof.Frames

@[expose] public section

set_option maxRecDepth 16384

noncomputable section

namespace Cert.MlpProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

open scoped BigOperators

/-!
  What the kernel computes in exact arithmetic. A device's partial product, read at an index, is the sum over its own columns
  of the hidden layer; the devices' partials, summed, are the sum over all of the hidden layer's columns, block by block; so
  each layer's activations are the reference's, and so is the result.
-/

/-! ## One layer, read at an index -/

/-- The partial product of a block of the weights: over the block's hidden columns, the raised first product times the second
    weight. -/
def part (x : S64x1024.Idx → EReal) (wi : S1024x2048.Idx → EReal) (wo : S2048x1024.Idx → EReal) : S64x1024.Idx → EReal :=
  fun j => ∑ k : Fin 2048, max (∑ l : Fin 1024, x (ValueIdx.ix2 (j 0) l) * wi (ValueIdx.ix2 l k)) 0 * wo (ValueIdx.ix2 k (j 1))

/-- The product of the activations with a block of the first weights, at an index; -/
theorem mm_in (x : FVec Ideal S64x1024 .bf16) (w : FVec Ideal S1024x2048 .bf16) (i : Fin 64) (k : Fin 2048) :
    matmul dot_S64x1024_S1024x2048_S64x2048_1_0_0_1_n_n none x w (constant S64x2048 .f32 0x00000000#32) (ValueIdx.ix2 i k)
      = ∑ l : Fin 1024, x (ValueIdx.ix2 i l) * w (ValueIdx.ix2 l k) := by
  show FloatOps.matmul (DotDims.plain 64 1024 2048) none x w (constant S64x2048 .f32 0x00000000#32) (ValueIdx.ix2 i k) = _
  rw [Ideal.matmul_plain_apply, constant_apply, Ideal.ofBits_zero_f32, zero_add]

/-- and of the hidden columns with a block of the second. -/
theorem mm_out (x : FVec Ideal S64x2048 .bf16) (w : FVec Ideal S2048x1024 .bf16) (i : Fin 64) (j : Fin 1024) :
    matmul dot_S64x2048_S2048x1024_S64x1024_1_0_0_1_n_n none x w (constant S64x1024 .f32 0x00000000#32) (ValueIdx.ix2 i j)
      = ∑ k : Fin 2048, x (ValueIdx.ix2 i k) * w (ValueIdx.ix2 k j) := by
  show FloatOps.matmul (DotDims.plain 64 2048 1024) none x w (constant S64x1024 .f32 0x00000000#32) (ValueIdx.ix2 i j) = _
  rw [Ideal.matmul_plain_apply, constant_apply, Ideal.ofBits_zero_f32, zero_add]

/-- The two products with the maximum between them, over a block, are the partial product. -/
theorem block_product (x : FVec Ideal S64x1024 .bf16) (wi : FVec Ideal S1024x2048 .bf16) (wo : FVec Ideal S2048x1024 .bf16) :
    matmul dot_S64x2048_S2048x1024_S64x1024_1_0_0_1_n_n none
        (truncf .bf16 (maximumf (matmul dot_S64x1024_S1024x2048_S64x2048_1_0_0_1_n_n none x wi (constant S64x2048 .f32 0x00000000#32))
          (broadcast S64x2048 (Scalar.ofBits .f32 0x00000000#32 : Ideal .f32))) bitsLt_bf16_f32) wo (constant S64x1024 .f32 0x00000000#32)
      = part x wi wo := by
  funext j
  obtain ⟨i, q, rfl⟩ : ∃ (i : Fin 64) (q : Fin 1024), j = ValueIdx.ix2 i q := ⟨j 0, j 1, ValueIdx.eq_ix2 j⟩
  refine (mm_out _ _ i q).trans (Finset.sum_congr rfl fun k _ => ?_)
  refine congrArg (· * wo (ValueIdx.ix2 k q)) ?_
  exact congrArg₂ max (mm_in x wi i k) Ideal.ofBits_zero_f32

/-- The first layer's partial of a device, by slots, is its partial product; -/
theorem pay_first (x : Vec Ideal S64x1024 .f32) (wi : Vec Ideal S1024x2048 .f32) (wo : Vec Ideal S2048x1024 .f32) :
    k0_pay4 (k0_pay1 x) (k0_pay2 wi) (k0_pay3 wo) = shapeCast S32x2x1024 (part x wi wo) shapeCasts_S64x1024_S32x2x1024 := by
  simp only [k0_pay4, k0_pay1, k0_pay2, k0_pay3, shapeCast_self, shapeCast_shapeCast]
  rw [block_product]
  rfl

/-- and a later layer's likewise, from the gathered activations. -/
theorem pay_next (xc : Vec Ideal S32x2x1024 .bf16) (wi : Vec Ideal S1024x2048 .f32) (wo : Vec Ideal S2048x1024 .f32) :
    k0_pay11 xc (k0_pay2 wi) (k0_pay3 wo)
      = shapeCast S32x2x1024 (part (shapeCast S64x1024 xc shapeCasts_S32x2x1024_S64x1024) wi wo) shapeCasts_S64x1024_S32x2x1024 := by
  simp only [k0_pay11, k0_pay2, k0_pay3, shapeCast_self, shapeCast_shapeCast]
  rw [block_product]
  rfl

/-! ## The sum over the devices -/

/-- A slot's sum is the sum over the devices of their slots. -/
theorem red_apply (P : Dev nD → Vec Ideal S32x2x1024 .bf16) (c : Dev nD) (j : S2x1024.Idx) :
    redOf P c j = ∑ p : Dev nD, (P p (six c j) : EReal) := by
  unfold redOf
  simp only [k0_pay8, shapeCast_self]
  rw [truncf_apply]
  refine (Ideal.multiReduction_add_single _ _ _ _ _ j).trans ?_
  refine Finset.sum_congr rfl fun p _ => ?_
  rw [extf_apply]
  have h : (reduces_S32x2x1024_S2x1024).lift j p = six p j := by
    funext a; match a with | ⟨0, _⟩ => rfl | ⟨1, _⟩ => rfl | ⟨2, _⟩ => rfl
  refine (congrArg (rsOf P c) h).trans ?_
  exact congrArg (fun k => P p (six c k)) (funext fun a => by match a with | ⟨0, _⟩ => rfl | ⟨1, _⟩ => rfl)

/-- The gathered sums, as one array of rows, are the sum of the devices' arrays. -/
theorem gather_sum (G : Dev nD → S64x1024.Idx → EReal) :
    shapeCast S64x1024 (xcOf (F := Ideal) fun p => shapeCast S32x2x1024 (G p) shapeCasts_S64x1024_S32x2x1024)
      shapeCasts_S32x2x1024_S64x1024 = fun j => ∑ p : Dev nD, G p j := by
  funext j
  unfold shapeCast
  show redOf _ _ _ = _
  rw [red_apply]
  refine Finset.sum_congr rfl fun p _ => ?_
  rw [six_inSlot]
  show G p _ = G p j
  rw [Shape.reshapeEquiv_reshapeEquiv, Shape.reshapeEquiv_self]

/-- The sum over the devices of the partial products of the blocks of the weights is the reference's layer. -/
theorem parts_sum (x : FVec Ideal S64x1024 .f32) (A : FVec Ideal Cert.ReferenceIdeal.S1024x65536 .f32)
    (B : FVec Ideal Cert.ReferenceIdeal.S65536x1024 .f32) :
    (fun j => ∑ p : Dev nD, part x (Layout.block ⟨2, ![1024, 2048]⟩ ⟨2, ![1024, 65536]⟩ 1 32 p A)
        (Layout.block ⟨2, ![2048, 1024]⟩ ⟨2, ![65536, 1024]⟩ 0 32 p B) j)
      = Ref.layer (F := Ideal) x A B := by
  funext j
  obtain ⟨i, q, rfl⟩ : ∃ (i : Fin 64) (q : Fin 1024), j = ValueIdx.ix2 i q := ⟨j 0, j 1, ValueIdx.eq_ix2 j⟩
  refine Eq.symm ?_
  refine (StackMember.dotGeneral_plain_apply (m := 64) (k := 65536) (n := 1024) none _ B i q).trans ?_
  refine (Fin.sum_univ_tiles 32 2048 (by norm_num) _).trans ?_
  refine Finset.sum_congr rfl fun p _ => Finset.sum_congr rfl fun k _ => ?_
  refine congrArg₂ (· * ·) (congrArg₂ max ((StackMember.dotGeneral_plain_apply (m := 64) (k := 1024) (n := 65536) none x A i _).trans
    (Finset.sum_congr rfl fun l _ => congrArg (x (ValueIdx.ix2 i l) * ·) ?_)) Ideal.ofBits_zero_f32) ?_
  · exact congrArg A (funext fun a => Fin.ext (by match a with | ⟨0, _⟩ => rfl | ⟨1, _⟩ => rfl))
  · exact congrArg B (funext fun a => Fin.ext (by match a with | ⟨0, _⟩ => rfl | ⟨1, _⟩ => rfl))

/-! ## The three layers -/

variable (m : (ℓ : Loc nD τ sig) → Buf (Elt Ideal) ℓ)

/-- The activations after layer `r`, as one array of rows. -/
def act (r : ℕ) : S64x1024.Idx → EReal := shapeCast S64x1024 (XC m r) shapeCasts_S32x2x1024_S64x1024

theorem act_zero : act m 0 = fun j => ∑ p : Dev nD, part (xstg m p) (win m 0 p) (wout m 0 p) j := by
  refine Eq.trans (congrArg (fun P => shapeCast S64x1024 (xcOf (F := Ideal) P) shapeCasts_S32x2x1024_S64x1024) ?_) (gather_sum _)
  funext p
  exact pay_first _ _ _

theorem act_succ (r : ℕ) : act m (r + 1) = fun j => ∑ p : Dev nD, part (act m r) (win m (r + 1) p) (wout m (r + 1) p) j := by
  refine Eq.trans (congrArg (fun P => shapeCast S64x1024 (xcOf (F := Ideal) P) shapeCasts_S32x2x1024_S64x1024) ?_) (gather_sum _)
  funext p
  exact pay_next _ _ _

/-- Where every device holds `x` and its blocks of the weights, the first layer's activations are the reference's layer of
    `x`; -/
theorem act_zero_eq {x : FVec Ideal S64x1024 .f32} {A : FVec Ideal Cert.ReferenceIdeal.S1024x65536 .f32}
    {B : FVec Ideal Cert.ReferenceIdeal.S65536x1024 .f32} (hx : ∀ c : Dev nD, xstg m c = x)
    (hA : ∀ c : Dev nD, win m 0 c = Layout.block ⟨2, ![1024, 2048]⟩ ⟨2, ![1024, 65536]⟩ 1 32 c A)
    (hB : ∀ c : Dev nD, wout m 0 c = Layout.block ⟨2, ![2048, 1024]⟩ ⟨2, ![65536, 1024]⟩ 0 32 c B) :
    act m 0 = Ref.layer (F := Ideal) x A B := by
  rw [act_zero, ← parts_sum]
  funext j
  exact Finset.sum_congr rfl fun p _ => by rw [hx, hA, hB]

/-- and a later layer's the reference's layer of the activations before it. -/
theorem act_succ_eq (r : ℕ) {A : FVec Ideal Cert.ReferenceIdeal.S1024x65536 .f32}
    {B : FVec Ideal Cert.ReferenceIdeal.S65536x1024 .f32}
    (hA : ∀ c : Dev nD, win m (r + 1) c = Layout.block ⟨2, ![1024, 2048]⟩ ⟨2, ![1024, 65536]⟩ 1 32 c A)
    (hB : ∀ c : Dev nD, wout m (r + 1) c = Layout.block ⟨2, ![2048, 1024]⟩ ⟨2, ![65536, 1024]⟩ 0 32 c B) :
    act m (r + 1) = Ref.layer (F := Ideal) (act m r) A B := by
  rw [act_succ, ← parts_sum]
  funext j
  exact Finset.sum_congr rfl fun p _ => by rw [hA, hB]

/-- The result is the last layer's activations. -/
theorem OUT_act : OUT m = act m 2 := rfl

/-- In exact arithmetic the kernel on its 32 devices leaves on each of them what the reference leaves, and both keep their
    arguments. -/
theorem algebraic : Cert.algebraic_KernelIdeal_ReferenceIdeal := by
  intro m ρ m' ρ' _ hag
  refine ⟨Ref.refOut (F := Ideal) m' 0, ?_, ?_⟩
  · refine (θ_run defs _ _).mono (fun _ h c => ⟨((h.1 c).1 (1 : Fin 2)).trans ?_, ((h.1 c).1 (0 : Fin 2)).trans (finalA_x m ρ c), (h.1 c).2⟩)
      (run_main (F := Ideal) m ρ)
    rw [finalA_out, OUT_act,
      act_succ_eq m 1 (fun c => (hag c).2.2.2.2.2.1) (fun c => (hag c).2.2.2.2.2.2),
      act_succ_eq m 0 (fun c => (hag c).2.2.2.1) (fun c => (hag c).2.2.2.2.1),
      act_zero_eq m (fun c => (xstg_eq m c).trans (hag c).1) (fun c => (hag c).2.1) (fun c => (hag c).2.2.1)]
    rfl
  · exact (θ_run Cert.ReferenceIdeal.defs _ _).mono (fun _ h => h 0) (Ref.run_main (F := Ideal) m' ρ')

end Cert.MlpProof

end
-- ==== Proof.lean ====
/-
  The certificate: the three programs' frames, that the kernel's text is the same over exact values, and that in exact
  arithmetic the kernel computes what the reference computes. The frames are proved in Proof/Frames.lean (the kernel, once
  for any float values) and Proof/Ref.lean (the reference), the last claim in Proof/Value.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Ref
public import proofs.«01_k».proof.Proof.Value

@[expose] public section

noncomputable section

namespace Cert.Proof

/-- Every claim of the certificate holds. -/
theorem claim : Cert.Claim :=
  ⟨Cert.Kernel.Gen.facts, Cert.KernelIdeal.Gen.facts, Cert.ReferenceIdeal.Gen.facts, Cert.MlpProof.frame_kernel,
    Cert.MlpProof.frame_kernelIdeal, Cert.MlpProof.Ref.frame_reference, trivial, Cert.MlpProof.algebraic⟩

end Cert.Proof

end
